-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_reals [hPre_reals : Cert.Pre_reals.Facts] (m : (ℓ : Loc Cert.KernelIdeal.nD Cert.KernelIdeal.τ Cert.KernelIdeal.sig) → Buf (Elt Ideal) ℓ) : Prop :=
  ∀ c : Dev Cert.KernelIdeal.nD,
    (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_reals [hPre_reals : Cert.Pre_reals.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_reals [hKernelIdeal : Cert.KernelIdeal.Facts] [hPre_reals : Cert.Pre_reals.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_reals m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_reals [hReferenceIdeal : Cert.ReferenceIdeal.Facts] [hPre_reals : Cert.Pre_reals.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_reals m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_reals [hKernelIdeal : Cert.KernelIdeal.Facts] [hReferenceIdeal : Cert.ReferenceIdeal.Facts] [hPre_reals : Cert.Pre_reals.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_reals m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)) (v2 : (c : Dev Cert.KernelIdeal.nD) → Buf (Elt Ideal) ((c.tc : Thread Cert.KernelIdeal.nD Cert.KernelIdeal.τ).loc Cert.KernelIdeal.main_v56_2)) (v3 : (c : Dev Cert.KernelIdeal.nD) → Buf (Elt Ideal) ((c.tc : Thread Cert.KernelIdeal.nD Cert.KernelIdeal.τ).loc Cert.KernelIdeal.main_v56_3)) (v4 : (c : Dev Cert.KernelIdeal.nD) → Buf (Elt Ideal) ((c.tc : Thread Cert.KernelIdeal.nD Cert.KernelIdeal.τ).loc Cert.KernelIdeal.main_v56_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_v56_2) = v2 c
          ∧ r.2.mem ((c.tc : Thread Cert.KernelIdeal.nD Cert.KernelIdeal.τ).loc Cert.KernelIdeal.main_v56_3) = v3 c
          ∧ r.2.mem ((c.tc : Thread Cert.KernelIdeal.nD Cert.KernelIdeal.τ).loc Cert.KernelIdeal.main_v56_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_reals : Cert.Pre_reals.Facts),
    quiescent_Kernel (hKernel := hKernel)
    ∧ quiescent_KernelIdeal (hKernelIdeal := hKernelIdeal)
    ∧ quiescent_KernelIdeal_pre_reals (hKernelIdeal := hKernelIdeal) (hPre_reals := hPre_reals)
    ∧ quiescent_ReferenceIdeal (hReferenceIdeal := hReferenceIdeal)
    ∧ quiescent_ReferenceIdeal_pre_reals (hReferenceIdeal := hReferenceIdeal) (hPre_reals := hPre_reals)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_reals (hKernelIdeal := hKernelIdeal) (hReferenceIdeal := hReferenceIdeal) (hPre_reals := hPre_reals)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_reals.lean ====
abbrev S8x2064x64 : Shape := ⟨3, ![8, 2064, 64]⟩
abbrev S8x2064 : Shape := ⟨2, ![8, 2064]⟩
abbrev S_ : Shape := ⟨0, ![]⟩

class Facts : Prop where
  bcast_S_S8x2064x64 : S_.BroadcastsInDim S8x2064x64 (![] : Fin 0 → Fin S8x2064x64.rank)
  reducesTo_S8x2064x64_S_d0_1_2 : S8x2064x64.ReducesTo [0, 1, 2] S_
  h_S_ : 0 < S_.numel
  bcast_S_S8x2064 : S_.BroadcastsInDim S8x2064 (![] : Fin 0 → Fin S8x2064.rank)
  reducesTo_S8x2064_S_d0_1 : S8x2064.ReducesTo [0, 1] S_

variable [Facts]

def fn_part1 {F : FTy → Type} [FloatOps F] (main_arg4 : FVec F S8x2064x64 .f32) (main_v13 : IVec S_ 1) (main_v16 : IVec S8x2064 1) : IVec S_ 1 :=
  let main_c_5 : IVec S_ 1 := constantI S_ 1 1#1
  let main_v17 : IVec S_ 1 := (fun x v => Host.reduce IntOp.andi x v reducesTo_S8x2064_S_d0_1 h_S_) main_v16 main_c_5
  let main_v18 : IVec S_ 1 := andi main_v13 main_v17
  let main_v19 : FVec F S8x2064x64 .f32 := Host.absf main_arg4
  let main_cst_6 : FVec F S_ .f32 := constant S_ .f32 0x7F800000#32
  let main_v20 : FVec F S8x2064x64 .f32 := broadcastInDim S8x2064x64 ![] bcast_S_S8x2064x64 main_cst_6
  let main_v21 : IVec S8x2064x64 1 := cmpf .olt main_v19 main_v20
  let main_c_7 : IVec S_ 1 := constantI S_ 1 1#1
  let main_v22 : IVec S_ 1 := (fun x v => Host.reduce IntOp.andi x v reducesTo_S8x2064x64_S_d0_1_2 h_S_) main_v21 main_c_7
  let main_v23 : IVec S_ 1 := andi main_v18 main_v22
  main_v23

def fn {F : FTy → Type} [FloatOps F] (main_arg0 : FVec F S8x2064x64 .f32) (main_arg1 : FVec F S8x2064x64 .f32) (main_arg2 : FVec F S8x2064x64 .f32) (main_arg3 : FVec F S8x2064 .f32) (main_arg4 : FVec F S8x2064x64 .f32) : IVec S_ 1 :=
  let main_v0 : FVec F S8x2064x64 .f32 := Host.absf main_arg0
  let main_cst : FVec F S_ .f32 := constant S_ .f32 0x7F800000#32
  let main_v1 : FVec F S8x2064x64 .f32 := broadcastInDim S8x2064x64 ![] bcast_S_S8x2064x64 main_cst
  let main_v2 : IVec S8x2064x64 1 := cmpf .olt main_v0 main_v1
  let main_c : IVec S_ 1 := constantI S_ 1 1#1
  let main_v3 : IVec S_ 1 := (fun x v => Host.reduce IntOp.andi x v reducesTo_S8x2064x64_S_d0_1_2 h_S_) main_v2 main_c
  let main_v4 : FVec F S8x2064x64 .f32 := Host.absf main_arg1
  let main_cst_0 : FVec F S_ .f32 := constant S_ .f32 0x7F800000#32
  let main_v5 : FVec F S8x2064x64 .f32 := broadcastInDim S8x2064x64 ![] bcast_S_S8x2064x64 main_cst_0
  let main_v6 : IVec S8x2064x64 1 := cmpf .olt main_v4 main_v5
  let main_c_1 : IVec S_ 1 := constantI S_ 1 1#1
  let main_v7 : IVec S_ 1 := (fun x v => Host.reduce IntOp.andi x v reducesTo_S8x2064x64_S_d0_1_2 h_S_) main_v6 main_c_1
  let main_v8 : IVec S_ 1 := andi main_v3 main_v7
  let main_v9 : FVec F S8x2064x64 .f32 := Host.absf main_arg2
  let main_cst_2 : FVec F S_ .f32 := constant S_ .f32 0x7F800000#32
  let main_v10 : FVec F S8x2064x64 .f32 := broadcastInDim S8x2064x64 ![] bcast_S_S8x2064x64 main_cst_2
  let main_v11 : IVec S8x2064x64 1 := cmpf .olt main_v9 main_v10
  let main_c_3 : IVec S_ 1 := constantI S_ 1 1#1
  let main_v12 : IVec S_ 1 := (fun x v => Host.reduce IntOp.andi x v reducesTo_S8x2064x64_S_d0_1_2 h_S_) main_v11 main_c_3
  let main_v13 : IVec S_ 1 := andi main_v8 main_v12
  let main_v14 : FVec F S8x2064 .f32 := Host.absf main_arg3
  let main_cst_4 : FVec F S_ .f32 := constant S_ .f32 0x7F800000#32
  let main_v15 : FVec F S8x2064 .f32 := broadcastInDim S8x2064 ![] bcast_S_S8x2064 main_cst_4
  let main_v16 : IVec S8x2064 1 := cmpf .olt main_v14 main_v15
  fn_part1 (F := F) main_arg4 main_v13 main_v16
-- ==== Kernel.lean ====
abbrev S8x2064x64 : Shape := ⟨3, ![8, 2064, 64]⟩
abbrev S8x2064 : Shape := ⟨2, ![8, 2064]⟩
abbrev S_ : Shape := ⟨0, ![]⟩
abbrev S8x2064x2064 : Shape := ⟨3, ![8, 2064, 2064]⟩
abbrev S8x2064x1 : Shape := ⟨3, ![8, 2064, 1]⟩
abbrev S8x1x2064 : Shape := ⟨3, ![8, 1, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S2064x8x64 : Shape := ⟨3, ![2064, 8, 64]⟩
abbrev S2304x8x128 : Shape := ⟨3, ![2304, 8, 128]⟩
abbrev S2304x1024 : Shape := ⟨2, ![2304, 1024]⟩
abbrev S2304x3072 : Shape := ⟨2, ![2304, 3072]⟩
abbrev S8x2304 : Shape := ⟨2, ![8, 2304]⟩
abbrev S2304x8 : Shape := ⟨2, ![2304, 8]⟩
abbrev S2304x8x1 : Shape := ⟨3, ![2304, 8, 1]⟩
abbrev S8x3x1x768 : Shape := ⟨4, ![8, 3, 1, 768]⟩
abbrev S2304x256 : Shape := ⟨2, ![2304, 256]⟩
abbrev S768x256 : Shape := ⟨2, ![768, 256]⟩
abbrev S2x3x1x768 : Shape := ⟨4, ![2, 3, 1, 768]⟩
abbrev S2x3x128x768 : Shape := ⟨4, ![2, 3, 128, 768]⟩
abbrev S768x128 : Shape := ⟨2, ![768, 128]⟩
abbrev S128x768 : Shape := ⟨2, ![128, 768]⟩
abbrev S768 : Shape := ⟨1, ![768]⟩
abbrev S1x768 : Shape := ⟨2, ![1, 768]⟩
abbrev S1x1x1x768 : Shape := ⟨4, ![1, 1, 1, 768]⟩
abbrev S768x1 : Shape := ⟨2, ![768, 1]⟩
abbrev S768x768 : Shape := ⟨2, ![768, 768]⟩
abbrev S1x1x128x768 : Shape := ⟨4, ![1, 1, 128, 768]⟩

abbrev nBuf : Space → Nat
  | .hbm => 87
  | .vmem => 28
  | .smem => 0
  | _ => 0

abbrev bufTy : (tb : Table) → Fin (tcTables nBuf tb) → BufTy
  | .hbm, ⟨0, _⟩ => ⟨S8x2064x64, .f32⟩
  | .hbm, ⟨1, _⟩ => ⟨S8x2064x64, .f32⟩
  | .hbm, ⟨2, _⟩ => ⟨S8x2064x64, .f32⟩
  | .hbm, ⟨3, _⟩ => ⟨S8x2064, .f32⟩
  | .hbm, ⟨4, _⟩ => ⟨S8x2064x64, .f32⟩
  | .hbm, ⟨5, _⟩ => ⟨S_, .f32⟩
  | .hbm, ⟨6, _⟩ => ⟨S8x2064x64, .f32⟩
  | .hbm, ⟨7, _⟩ => ⟨S8x2064x64, .f32⟩
  | .hbm, ⟨8, _⟩ => ⟨S8x2064x2064, .f32⟩
  | .hbm, ⟨9, _⟩ => ⟨S8x2064x1, .f32⟩
  | .hbm, ⟨10, _⟩ => ⟨S8x1x2064, .f32⟩
  | .hbm, ⟨11, _⟩ => ⟨S8x2064x2064, .f32⟩
  | .hbm, ⟨12, _⟩ => ⟨S8x2064x2064, .f32⟩
  | .hbm, ⟨13, _⟩ => ⟨S8x2064x2064, .f32⟩
  | .hbm, ⟨14, _⟩ => ⟨S8x2064x2064, .f32⟩
  | .hbm, ⟨15, _⟩ => ⟨S2064, .i32⟩
  | .hbm, ⟨16, _⟩ => ⟨S1x2064, .i32⟩
  | .hbm, ⟨17, _⟩ => ⟨S2064x1, .i32⟩
  | .hbm, ⟨18, _⟩ => ⟨S2064x2064, .i32⟩
  | .hbm, ⟨19, _⟩ => ⟨S2064x2064, .i32⟩
  | .hbm, ⟨20, _⟩ => ⟨S2064x2064, .i1⟩
  | .hbm, ⟨21, _⟩ => ⟨S1x2064x2064, .i1⟩
  | .hbm, ⟨22, _⟩ => ⟨S_, .f32⟩
  | .hbm, ⟨23, _⟩ => ⟨S_, .f32⟩
  | .hbm, ⟨24, _⟩ => ⟨S8x2064x2064, .i1⟩
  | .hbm, ⟨25, _⟩ => ⟨S8x2064x2064, .f32⟩
  | .hbm, ⟨26, _⟩ => ⟨S8x2064x2064, .f32⟩
  | .hbm, ⟨27, _⟩ => ⟨S_, .f32⟩
  | .hbm, ⟨28, _⟩ => ⟨S8x2064, .f32⟩
  | .hbm, ⟨29, _⟩ => ⟨S8x2064x1, .f32⟩
  | .hbm, ⟨30, _⟩ => ⟨S8x2064x2064, .f32⟩
  | .hbm, ⟨31, _⟩ => ⟨S8x2064x2064, .f32⟩
  | .hbm, ⟨32, _⟩ => ⟨S8x2064x2064, .f32⟩
  | .hbm, ⟨33, _⟩ => ⟨S_, .f32⟩
  | .hbm, ⟨34, _⟩ => ⟨S8x2064, .f32⟩
  | .hbm, ⟨35, _⟩ => ⟨S8x2064x1, .f32⟩
  | .hbm, ⟨36, _⟩ => ⟨S8x2064x2064, .f32⟩
  | .hbm, ⟨37, _⟩ => ⟨S8x2064x2064, .f32⟩
  | .hbm, ⟨38, _⟩ => ⟨S8x2064x64, .f32⟩
  | .hbm, ⟨39, _⟩ => ⟨S8x2064x1, .f32⟩
  | .hbm, ⟨40, _⟩ => ⟨S8x2064x1, .f32⟩
  | .hbm, ⟨41, _⟩ => ⟨S8x2064, .f32⟩
  | .hbm, ⟨42, _⟩ => ⟨S2064x8x64, .f32⟩
  | .hbm, ⟨43, _⟩ => ⟨S_, .i32⟩
  | .hbm, ⟨44, _⟩ => ⟨S_, .f32⟩
  | .hbm, ⟨45, _⟩ => ⟨S2304x8x128, .f32⟩
  | .hbm, ⟨46, _⟩ => ⟨S2304x1024, .f32⟩
  | .hbm, ⟨47, _⟩ => ⟨S2064x8x64, .f32⟩
  | .hbm, ⟨48, _⟩ => ⟨S_, .i32⟩
  | .hbm, ⟨49, _⟩ => ⟨S_, .f32⟩
  | .hbm, ⟨50, _⟩ => ⟨S2304x8x128, .f32⟩
  | .hbm, ⟨51, _⟩ => ⟨S2304x1024, .f32⟩
  | .hbm, ⟨52, _⟩ => ⟨S2064x8x64, .f32⟩
  | .hbm, ⟨53, _⟩ => ⟨S_, .i32⟩
  | .hbm, ⟨54, _⟩ => ⟨S_, .f32⟩
  | .hbm, ⟨55, _⟩ => ⟨S2304x8x128, .f32⟩
  | .hbm, ⟨56, _⟩ => ⟨S2304x1024, .f32⟩
  | .hbm, ⟨57, _⟩ => ⟨S2304x3072, .f32⟩
  | .hbm, ⟨58, _⟩ => ⟨S2304x3072, .bf16⟩
  | .hbm, ⟨59, _⟩ => ⟨S2064x8x64, .f32⟩
  | .hbm, ⟨60, _⟩ => ⟨S_, .i32⟩
  | .hbm, ⟨61, _⟩ => ⟨S_, .f32⟩
  | .hbm, ⟨62, _⟩ => ⟨S2304x8x128, .f32⟩
  | .hbm, ⟨63, _⟩ => ⟨S2304x1024, .f32⟩
  | .hbm, ⟨64, _⟩ => ⟨S2304x1024, .bf16⟩
  | .hbm, ⟨65, _⟩ => ⟨S2064x8x64, .f32⟩
  | .hbm, ⟨66, _⟩ => ⟨S_, .i32⟩
  | .hbm, ⟨67, _⟩ => ⟨S_, .f32⟩
  | .hbm, ⟨68, _⟩ => ⟨S2304x8x128, .f32⟩
  | .hbm, ⟨69, _⟩ => ⟨S2304x1024, .f32⟩
  | .hbm, ⟨70, _⟩ => ⟨S_, .i32⟩
  | .hbm, ⟨71, _⟩ => ⟨S_, .f32⟩
  | .hbm, ⟨72, _⟩ => ⟨S8x2304, .f32⟩
  | .hbm, ⟨73, _⟩ => ⟨S_, .i32⟩
  | .hbm, ⟨74, _⟩ => ⟨S_, .f32⟩
  | .hbm, ⟨75, _⟩ => ⟨S8x2304, .f32⟩
  | .hbm, ⟨76, _⟩ => ⟨S2304x8, .f32⟩
  | .hbm, ⟨77, _⟩ => ⟨S2304x8x1, .f32⟩
  | .hbm, ⟨78, _⟩ => ⟨S2304x8x128, .f32⟩
  | .hbm, ⟨79, _⟩ => ⟨S2304x1024, .f32⟩
  | .hbm, ⟨80, _⟩ => ⟨S8x3x1x768, .f32⟩
  | .hbm, ⟨81, _⟩ => ⟨S8x3x1x768, .f32⟩
  | .hbm, ⟨82, _⟩ => ⟨S2304x1024, .bf16⟩
  | .hbm, ⟨83, _⟩ => ⟨S2304x1024, .bf16⟩
  | .hbm, ⟨84, _⟩ => ⟨S2304x1024, .bf16⟩
  | .hbm, ⟨85, _⟩ => ⟨S8x3x1x768, .f32⟩
  | .hbm, ⟨86, _⟩ => ⟨S2304x1024, .f32⟩
  | .local _ .vmem, ⟨0, _⟩ => ⟨S2304x256, .bf16⟩
  | .local _ .vmem, ⟨1, _⟩ => ⟨S2304x256, .bf16⟩
  | .local _ .vmem, ⟨2, _⟩ => ⟨S768x256, .bf16⟩
  | .local _ .vmem, ⟨3, _⟩ => ⟨S768x256, .bf16⟩
  | .local _ .vmem, ⟨4, _⟩ => ⟨S768x256, .bf16⟩
  | .local _ .vmem, ⟨5, _⟩ => ⟨S768x256, .bf16⟩
  | .local _ .vmem, ⟨6, _⟩ => ⟨S2304x256, .bf16⟩
  | .local _ .vmem, ⟨7, _⟩ => ⟨S2304x256, .bf16⟩
  | .local _ .vmem, ⟨8, _⟩ => ⟨S2304x256, .f32⟩
  | .local _ .vmem, ⟨9, _⟩ => ⟨S2304x256, .f32⟩
  | .local _ .vmem, ⟨10, _⟩ => ⟨S2x3x1x768, .f32⟩
  | .local _ .vmem, ⟨11, _⟩ => ⟨S2x3x1x768, .f32⟩
  | .local _ .vmem, ⟨12, _⟩ => ⟨S768x256, .f32⟩
  | .local _ .vmem, ⟨13, _⟩ => ⟨S768x256, .f32⟩
  | .local _ .vmem, ⟨14, _⟩ => ⟨S2x3x1x768, .f32⟩
  | .local _ .vmem, ⟨15, _⟩ => ⟨S2x3x1x768, .f32⟩
  | .local _ .vmem, ⟨16, _⟩ => ⟨S2304x256, .bf16⟩
  | .local _ .vmem, ⟨17, _⟩ => ⟨S2304x256, .bf16⟩
  | .local _ .vmem, ⟨18, _⟩ => ⟨S768x256, .bf16⟩
  | .local _ .vmem, ⟨19, _⟩ => ⟨S768x256, .bf16⟩
  | .local _ .vmem, ⟨20, _⟩ => ⟨S768x256, .bf16⟩
  | .local _ .vmem, ⟨21, _⟩ => ⟨S768x256, .bf16⟩
  | .local _ .vmem, ⟨22, _⟩ => ⟨S2x3x1x768, .f32⟩
  | .local _ .vmem, ⟨23, _⟩ => ⟨S2x3x1x768, .f32⟩
  | .local _ .vmem, ⟨24, _⟩ => ⟨S768x256, .f32⟩
  | .local _ .vmem, ⟨25, _⟩ => ⟨S768x256, .f32⟩
  | .local _ .vmem, ⟨26, _⟩ => ⟨S2x3x128x768, .f32⟩
  | .local _ .vmem, ⟨27, _⟩ => ⟨S2x3x1x768, .f32⟩
  | _, _ => ⟨S8x2064x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call1_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_3 : Ref sig .tc := ⟨.hbm, 48, rfl⟩
abbrev main_call2_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_call3_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_call4_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_6 : Ref sig .tc := ⟨.hbm, 66, rfl⟩
abbrev main_call5_v0 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_call6_v0 : Ref sig .tc := ⟨.hbm, 71, rfl⟩
abbrev main_v48 : Ref sig .tc := ⟨.hbm, 72, rfl⟩
abbrev main_c_8 : Ref sig .tc := ⟨.hbm, 73, rfl⟩
abbrev main_call7_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56_0 : Ref sig .tc := ⟨.hbm, 82, rfl⟩
abbrev main_v56_1 : Ref sig .tc := ⟨.hbm, 83, rfl⟩
abbrev main_v56_2 : Ref sig .tc := ⟨.hbm, 84, rfl⟩
abbrev main_v56_3 : Ref sig .tc := ⟨.hbm, 85, rfl⟩
abbrev main_v56_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 3], ![false, false]⟩

@[reducible] def k0_t1_loop (i : grid0.Coords) : Scf.Loop 32 :=
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let c1_i32_33 : BitVec 32 := 1#32
  ⟨v41, v74, c1_i32_33⟩
def k0_mult1 (i : grid0.Coords) (k0_t1 : Fin (k0_t1_loop i).trips) : BitVec 32 :=
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_33 : BitVec 32 := 1#32
  let arg17 : BitVec 32 := Scf.iv v41 c1_i32_33 k0_t1
  let c768_i32_53 : BitVec 32 := 768#32
  let v101 : BitVec 32 := Scalar.muli arg17 c768_i32_53
  v101
def k0_off1 (i : grid0.Coords) (k0_t1 : Fin (k0_t1_loop i).trips) : Fin 2 → Nat :=
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_33 : BitVec 32 := 1#32
  let arg17 : BitVec 32 := Scf.iv v41 c1_i32_33 k0_t1
  let c768_i32_53 : BitVec 32 := 768#32
  let v101 : BitVec 32 := Scalar.muli arg17 c768_i32_53
  let v102 : BitVec 32 := v101
  let v103 : Index := Scalar.indexCast v102
  let c0_54 : Index := 0#32
  ![v103.toNat, 0]
def k0_off2 (i : grid0.Coords) (k0_t1 : Fin (k0_t1_loop i).trips) : Fin 4 → Nat :=
  let c0_57 : Index := 0#32
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_33 : BitVec 32 := 1#32
  let arg17 : BitVec 32 := Scf.iv v41 c1_i32_33 k0_t1
  let v110 : Index := Scalar.indexCast arg17
  let c0_58 : Index := 0#32
  let c0_59 : Index := 0#32
  ![0, v110.toNat, 0, 0]
def k0_off3 (i : grid0.Coords) (k0_t1 : Fin (k0_t1_loop i).trips) : Fin 4 → Nat :=
  let c0_72 : Index := 0#32
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_33 : BitVec 32 := 1#32
  let arg17 : BitVec 32 := Scf.iv v41 c1_i32_33 k0_t1
  let v143 : Index := Scalar.indexCast arg17
  let c0_73 : Index := 0#32
  let c0_74 : Index := 0#32
  ![0, v143.toNat, 0, 0]
def k0_off4 (i : grid0.Coords) (k0_t1 : Fin (k0_t1_loop i).trips) : Fin 2 → Nat :=
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_33 : BitVec 32 := 1#32
  let arg17 : BitVec 32 := Scf.iv v41 c1_i32_33 k0_t1
  let c768_i32_53 : BitVec 32 := 768#32
  let v101 : BitVec 32 := Scalar.muli arg17 c768_i32_53
  let v102 : BitVec 32 := v101
  let v165 : Index := Scalar.indexCast v102
  let c128_87 : Index := 128#32
  ![v165.toNat, 128]
def k0_off5 (i : grid0.Coords) (k0_t1 : Fin (k0_t1_loop i).trips) : Fin 4 → Nat :=
  let c1 : Index := 1#32
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_33 : BitVec 32 := 1#32
  let arg17 : BitVec 32 := Scf.iv v41 c1_i32_33 k0_t1
  let v172 : Index := Scalar.indexCast arg17
  let c0_90 : Index := 0#32
  let c0_91 : Index := 0#32
  ![1, v172.toNat, 0, 0]
def k0_off6 (i : grid0.Coords) (k0_t1 : Fin (k0_t1_loop i).trips) : Fin 4 → Nat :=
  let c1_104 : Index := 1#32
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_33 : BitVec 32 := 1#32
  let arg17 : BitVec 32 := Scf.iv v41 c1_i32_33 k0_t1
  let v205 : Index := Scalar.indexCast arg17
  let c0_105 : Index := 0#32
  let c0_106 : Index := 0#32
  ![1, v205.toNat, 0, 0]
@[reducible] def k0_t2_loop (i : grid0.Coords) : Scf.Loop 32 :=
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let v71 : BitVec 32 := Scalar.addi v41 v70
  let c1_i32_34 : BitVec 32 := 1#32
  ⟨v74, v71, c1_i32_34⟩
def k0_mult2 (i : grid0.Coords) (k0_t2 : Fin (k0_t2_loop i).trips) : BitVec 32 :=
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let c1_i32_34 : BitVec 32 := 1#32
  let arg17 : BitVec 32 := Scf.iv v74 c1_i32_34 k0_t2
  let c768_i32_53 : BitVec 32 := 768#32
  let v101 : BitVec 32 := Scalar.muli arg17 c768_i32_53
  v101
def k0_off7 (i : grid0.Coords) (k0_t2 : Fin (k0_t2_loop i).trips) : Fin 2 → Nat :=
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let c1_i32_34 : BitVec 32 := 1#32
  let arg17 : BitVec 32 := Scf.iv v74 c1_i32_34 k0_t2
  let c768_i32_53 : BitVec 32 := 768#32
  let v101 : BitVec 32 := Scalar.muli arg17 c768_i32_53
  let v102 : BitVec 32 := v101
  let v103 : Index := Scalar.indexCast v102
  let c0_54 : Index := 0#32
  ![v103.toNat, 0]
def k0_off8 (i : grid0.Coords) (k0_t2 : Fin (k0_t2_loop i).trips) : Fin 4 → Nat :=
  let c0_57 : Index := 0#32
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let c1_i32_34 : BitVec 32 := 1#32
  let arg17 : BitVec 32 := Scf.iv v74 c1_i32_34 k0_t2
  let v110 : Index := Scalar.indexCast arg17
  let c0_58 : Index := 0#32
  let c0_59 : Index := 0#32
  ![0, v110.toNat, 0, 0]
def k0_off9 (i : grid0.Coords) (k0_t2 : Fin (k0_t2_loop i).trips) : Fin 4 → Nat :=
  let c0_72 : Index := 0#32
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let c1_i32_34 : BitVec 32 := 1#32
  let arg17 : BitVec 32 := Scf.iv v74 c1_i32_34 k0_t2
  let v143 : Index := Scalar.indexCast arg17
  let c0_73 : Index := 0#32
  let c0_74 : Index := 0#32
  ![0, v143.toNat, 0, 0]
def k0_off10 (i : grid0.Coords) (k0_t2 : Fin (k0_t2_loop i).trips) : Fin 2 → Nat :=
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let c1_i32_34 : BitVec 32 := 1#32
  let arg17 : BitVec 32 := Scf.iv v74 c1_i32_34 k0_t2
  let c768_i32_53 : BitVec 32 := 768#32
  let v101 : BitVec 32 := Scalar.muli arg17 c768_i32_53
  let v102 : BitVec 32 := v101
  let v165 : Index := Scalar.indexCast v102
  let c128_87 : Index := 128#32
  ![v165.toNat, 128]
def k0_off11 (i : grid0.Coords) (k0_t2 : Fin (k0_t2_loop i).trips) : Fin 4 → Nat :=
  let c1 : Index := 1#32
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let c1_i32_34 : BitVec 32 := 1#32
  let arg17 : BitVec 32 := Scf.iv v74 c1_i32_34 k0_t2
  let v172 : Index := Scalar.indexCast arg17
  let c0_90 : Index := 0#32
  let c0_91 : Index := 0#32
  ![1, v172.toNat, 0, 0]
def k0_off12 (i : grid0.Coords) (k0_t2 : Fin (k0_t2_loop i).trips) : Fin 4 → Nat :=
  let c1_104 : Index := 1#32
  let arg1 : BitVec 32 := BitVec.ofNat 32 (i 1).val
  let c768_i32 : BitVec 32 := 768#32
  let v24 : BitVec 32 := Scalar.muli arg1 c768_i32
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c768_i32_11 : BitVec 32 := 768#32
  let c0_i32_14 : BitVec 32 := 0#32
  let v31 : BitVec 1 := Scalar.cmpi .sgt c768_i32_11 c0_i32_14
  let v32 : BitVec 32 := Scalar.extui v31
  let c0_i32_15 : BitVec 32 := 0#32
  let v33 : BitVec 1 := Scalar.cmpi .slt c768_i32_11 c0_i32_15
  let v34 : BitVec 32 := Scalar.extui v33
  let v35 : BitVec 32 := Scalar.subi v32 v34
  let v36 : BitVec 1 := Scalar.cmpi .ne v30 v35
  let v37 : BitVec 32 := Scalar.remsi v24 c768_i32_11
  let c0_i32_16 : BitVec 32 := 0#32
  let v38 : BitVec 1 := Scalar.cmpi .ne v37 c0_i32_16
  let v39 : BitVec 1 := Scalar.andi v36 v38
  let v25 : BitVec 32 := Scalar.divsi v24 c768_i32_11
  let c1_i32 : BitVec 32 := 1#32
  let v40 : BitVec 32 := Scalar.subi v25 c1_i32
  let v41 : BitVec 32 := Scalar.select v39 v40 v25
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let v70 : BitVec 32 := Scalar.subi v63 v41
  let c1_i32_32 : BitVec 32 := 1#32
  let v72 : BitVec 32 := Scalar.divsi v70 c1_i32_32
  let v73 : BitVec 32 := Scalar.muli v72 c1_i32_32
  let v74 : BitVec 32 := Scalar.addi v41 v73
  let c1_i32_34 : BitVec 32 := 1#32
  let arg17 : BitVec 32 := Scf.iv v74 c1_i32_34 k0_t2
  let v205 : Index := Scalar.indexCast arg17
  let c0_105 : Index := 0#32
  let c0_106 : Index := 0#32
  ![1, v205.toNat, 0, 0]
@[reducible] def k0_t3_loop (i : grid0.Coords) : Scf.Loop 32 :=
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let c1_i32_37 : BitVec 32 := 1#32
  ⟨v63, v81, c1_i32_37⟩
def k0_mult3 (i : grid0.Coords) (k0_t3 : Fin (k0_t3_loop i).trips) : BitVec 32 :=
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c1_i32_37 : BitVec 32 := 1#32
  let arg17 : BitVec 32 := Scf.iv v63 c1_i32_37 k0_t3
  let c768_i32_53 : BitVec 32 := 768#32
  let v101 : BitVec 32 := Scalar.muli arg17 c768_i32_53
  v101
def k0_off13 (i : grid0.Coords) (k0_t3 : Fin (k0_t3_loop i).trips) : Fin 2 → Nat :=
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c1_i32_37 : BitVec 32 := 1#32
  let arg17 : BitVec 32 := Scf.iv v63 c1_i32_37 k0_t3
  let c768_i32_53 : BitVec 32 := 768#32
  let v101 : BitVec 32 := Scalar.muli arg17 c768_i32_53
  let v102 : BitVec 32 := v101
  let v103 : Index := Scalar.indexCast v102
  let c0_54 : Index := 0#32
  ![v103.toNat, 0]
def k0_off14 (i : grid0.Coords) (k0_t3 : Fin (k0_t3_loop i).trips) : Fin 4 → Nat :=
  let c0_57 : Index := 0#32
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c1_i32_37 : BitVec 32 := 1#32
  let arg17 : BitVec 32 := Scf.iv v63 c1_i32_37 k0_t3
  let v110 : Index := Scalar.indexCast arg17
  let c0_58 : Index := 0#32
  let c0_59 : Index := 0#32
  ![0, v110.toNat, 0, 0]
def k0_off15 (i : grid0.Coords) (k0_t3 : Fin (k0_t3_loop i).trips) : Fin 4 → Nat :=
  let c0_69 : Index := 0#32
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c1_i32_37 : BitVec 32 := 1#32
  let arg17 : BitVec 32 := Scf.iv v63 c1_i32_37 k0_t3
  let v136 : Index := Scalar.indexCast arg17
  let c0_70 : Index := 0#32
  let c0_71 : Index := 0#32
  ![0, v136.toNat, 0, 0]
def k0_off16 (i : grid0.Coords) (k0_t3 : Fin (k0_t3_loop i).trips) : Fin 2 → Nat :=
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c1_i32_37 : BitVec 32 := 1#32
  let arg17 : BitVec 32 := Scf.iv v63 c1_i32_37 k0_t3
  let c768_i32_53 : BitVec 32 := 768#32
  let v101 : BitVec 32 := Scalar.muli arg17 c768_i32_53
  let v102 : BitVec 32 := v101
  let v158 : Index := Scalar.indexCast v102
  let c128_84 : Index := 128#32
  ![v158.toNat, 128]
def k0_off17 (i : grid0.Coords) (k0_t3 : Fin (k0_t3_loop i).trips) : Fin 4 → Nat :=
  let c1 : Index := 1#32
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c1_i32_37 : BitVec 32 := 1#32
  let arg17 : BitVec 32 := Scf.iv v63 c1_i32_37 k0_t3
  let v165 : Index := Scalar.indexCast arg17
  let c0_87 : Index := 0#32
  let c0_88 : Index := 0#32
  ![1, v165.toNat, 0, 0]
def k0_off18 (i : grid0.Coords) (k0_t3 : Fin (k0_t3_loop i).trips) : Fin 4 → Nat :=
  let c1_98 : Index := 1#32
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c1_i32_37 : BitVec 32 := 1#32
  let arg17 : BitVec 32 := Scf.iv v63 c1_i32_37 k0_t3
  let v191 : Index := Scalar.indexCast arg17
  let c0_99 : Index := 0#32
  let c0_100 : Index := 0#32
  ![1, v191.toNat, 0, 0]
@[reducible] def k0_t4_loop (i : grid0.Coords) : Scf.Loop 32 :=
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let v78 : BitVec 32 := Scalar.addi v63 v77
  let c1_i32_38 : BitVec 32 := 1#32
  ⟨v81, v78, c1_i32_38⟩
def k0_mult4 (i : grid0.Coords) (k0_t4 : Fin (k0_t4_loop i).trips) : BitVec 32 :=
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let c1_i32_38 : BitVec 32 := 1#32
  let arg17 : BitVec 32 := Scf.iv v81 c1_i32_38 k0_t4
  let c768_i32_53 : BitVec 32 := 768#32
  let v101 : BitVec 32 := Scalar.muli arg17 c768_i32_53
  v101
def k0_off19 (i : grid0.Coords) (k0_t4 : Fin (k0_t4_loop i).trips) : Fin 2 → Nat :=
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let c1_i32_38 : BitVec 32 := 1#32
  let arg17 : BitVec 32 := Scf.iv v81 c1_i32_38 k0_t4
  let c768_i32_53 : BitVec 32 := 768#32
  let v101 : BitVec 32 := Scalar.muli arg17 c768_i32_53
  let v102 : BitVec 32 := v101
  let v103 : Index := Scalar.indexCast v102
  let c0_54 : Index := 0#32
  ![v103.toNat, 0]
def k0_off20 (i : grid0.Coords) (k0_t4 : Fin (k0_t4_loop i).trips) : Fin 4 → Nat :=
  let c0_57 : Index := 0#32
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let c1_i32_38 : BitVec 32 := 1#32
  let arg17 : BitVec 32 := Scf.iv v81 c1_i32_38 k0_t4
  let v110 : Index := Scalar.indexCast arg17
  let c0_58 : Index := 0#32
  let c0_59 : Index := 0#32
  ![0, v110.toNat, 0, 0]
def k0_off21 (i : grid0.Coords) (k0_t4 : Fin (k0_t4_loop i).trips) : Fin 4 → Nat :=
  let c0_69 : Index := 0#32
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let c1_i32_38 : BitVec 32 := 1#32
  let arg17 : BitVec 32 := Scf.iv v81 c1_i32_38 k0_t4
  let v136 : Index := Scalar.indexCast arg17
  let c0_70 : Index := 0#32
  let c0_71 : Index := 0#32
  ![0, v136.toNat, 0, 0]
def k0_off22 (i : grid0.Coords) (k0_t4 : Fin (k0_t4_loop i).trips) : Fin 2 → Nat :=
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let c1_i32_38 : BitVec 32 := 1#32
  let arg17 : BitVec 32 := Scf.iv v81 c1_i32_38 k0_t4
  let c768_i32_53 : BitVec 32 := 768#32
  let v101 : BitVec 32 := Scalar.muli arg17 c768_i32_53
  let v102 : BitVec 32 := v101
  let v158 : Index := Scalar.indexCast v102
  let c128_84 : Index := 128#32
  ![v158.toNat, 128]
def k0_off23 (i : grid0.Coords) (k0_t4 : Fin (k0_t4_loop i).trips) : Fin 4 → Nat :=
  let c1 : Index := 1#32
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let c1_i32_38 : BitVec 32 := 1#32
  let arg17 : BitVec 32 := Scf.iv v81 c1_i32_38 k0_t4
  let v165 : Index := Scalar.indexCast arg17
  let c0_87 : Index := 0#32
  let c0_88 : Index := 0#32
  ![1, v165.toNat, 0, 0]
def k0_off24 (i : grid0.Coords) (k0_t4 : Fin (k0_t4_loop i).trips) : Fin 4 → Nat :=
  let c1_98 : Index := 1#32
  let arg1 : BitVec 32 := BitVec.ofNat 32 (i 1).val
  let c1_i32_17 : BitVec 32 := 1#32
  let v42 : BitVec 32 := Scalar.addi arg1 c1_i32_17
  let c768_i32_18 : BitVec 32 := 768#32
  let v43 : BitVec 32 := Scalar.muli v42 c768_i32_18
  let c768_i32_19 : BitVec 32 := 768#32
  let v44 : BitVec 32 := Scalar.addi v43 c768_i32_19
  let c2_i32 : BitVec 32 := 2#32
  let v45 : BitVec 32 := Scalar.subi v44 c2_i32
  let c0_i32_21 : BitVec 32 := 0#32
  let v47 : BitVec 1 := Scalar.cmpi .sgt v45 c0_i32_21
  let v48 : BitVec 32 := Scalar.extui v47
  let c0_i32_22 : BitVec 32 := 0#32
  let v49 : BitVec 1 := Scalar.cmpi .slt v45 c0_i32_22
  let v50 : BitVec 32 := Scalar.extui v49
  let v51 : BitVec 32 := Scalar.subi v48 v50
  let c768_i32_20 : BitVec 32 := 768#32
  let c0_i32_23 : BitVec 32 := 0#32
  let v52 : BitVec 1 := Scalar.cmpi .sgt c768_i32_20 c0_i32_23
  let v53 : BitVec 32 := Scalar.extui v52
  let c0_i32_24 : BitVec 32 := 0#32
  let v54 : BitVec 1 := Scalar.cmpi .slt c768_i32_20 c0_i32_24
  let v55 : BitVec 32 := Scalar.extui v54
  let v56 : BitVec 32 := Scalar.subi v53 v55
  let v57 : BitVec 1 := Scalar.cmpi .ne v51 v56
  let v58 : BitVec 32 := Scalar.remsi v45 c768_i32_20
  let c0_i32_25 : BitVec 32 := 0#32
  let v59 : BitVec 1 := Scalar.cmpi .ne v58 c0_i32_25
  let v60 : BitVec 1 := Scalar.andi v57 v59
  let v46 : BitVec 32 := Scalar.divsi v45 c768_i32_20
  let c1_i32_26 : BitVec 32 := 1#32
  let v61 : BitVec 32 := Scalar.subi v46 c1_i32_26
  let v62 : BitVec 32 := Scalar.select v60 v61 v46
  let c3_i32 : BitVec 32 := 3#32
  let v63 : BitVec 32 := Scalar.minsi v62 c3_i32
  let c3_i32_35 : BitVec 32 := 3#32
  let v77 : BitVec 32 := Scalar.subi c3_i32_35 v63
  let c1_i32_36 : BitVec 32 := 1#32
  let v79 : BitVec 32 := Scalar.divsi v77 c1_i32_36
  let v80 : BitVec 32 := Scalar.muli v79 c1_i32_36
  let v81 : BitVec 32 := Scalar.addi v63 v80
  let c1_i32_38 : BitVec 32 := 1#32
  let arg17 : BitVec 32 := Scf.iv v81 c1_i32_38 k0_t4
  let v191 : Index := Scalar.indexCast arg17
  let c0_99 : Index := 0#32
  let c0_100 : Index := 0#32
  ![1, v191.toNat, 0, 0]
def k0_cond2 (i : grid0.Coords) : BitVec 1 :=
  let arg1 : BitVec 32 := BitVec.ofNat 32 (i 1).val
  let c2_i32_51 : BitVec 32 := 2#32
  let v98 : BitVec 1 := Scalar.cmpi .eq arg1 c2_i32_51
  let v99 : BitVec 32 := Scalar.extui v98
  let c0_i32_52 : BitVec 32 := 0#32
  let v100 : BitVec 1 := Scalar.cmpi .ne v99 c0_i32_52
  v100

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2304x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x3x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x3x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2304x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x3x1x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S768x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2064x64 : Shape := ⟨3, ![8, 2064, 64]⟩
abbrev S8x2064 : Shape := ⟨2, ![8, 2064]⟩
abbrev S_ : Shape := ⟨0, ![]⟩
abbrev S8x2064x2064 : Shape := ⟨3, ![8, 2064, 2064]⟩
abbrev S8x2064x1 : Shape := ⟨3, ![8, 2064, 1]⟩
abbrev S8x1x2064 : Shape := ⟨3, ![8, 1, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x2064x2064 : Shape := ⟨3, ![1, 2064, 2064]⟩
abbrev S8x64x2064 : Shape := ⟨3, ![8, 64, 2064]⟩
abbrev S8x2304 : Shape := ⟨2, ![8, 2304]⟩
abbrev S8x3x1x768 : Shape := ⟨4, ![8, 3, 1, 768]⟩
abbrev S2304x8 : Shape := ⟨2, ![2304, 8]⟩
abbrev S2304x8x128 : Shape := ⟨3, ![2304, 8, 128]⟩
abbrev S2304x1024 : Shape := ⟨2, ![2304, 1024]⟩
abbrev S2064x8x64 : Shape := ⟨3, ![2064, 8, 64]⟩

abbrev nBuf : Space → Nat
  | .hbm => 129
  | .vmem => 0
  | .smem => 0
  | _ => 0

abbrev hbmTy0_0 (i : Nat) : BufTy := match i % 128 with
  | 0 => ⟨S8x2064x64, .f32⟩
  | 1 => ⟨S8x2064x64, .f32⟩
  | 2 => ⟨S8x2064x64, .f32⟩
  | 3 => ⟨S8x2064, .f32⟩
  | 4 => ⟨S8x2064x64, .f32⟩
  | 5 => ⟨S_, .f32⟩
  | 6 => ⟨S8x2064x64, .f32⟩
  | 7 => ⟨S8x2064x64, .f32⟩
  | 8 => ⟨S8x2064x2064, .f32⟩
  | 9 => ⟨S8x2064x1, .f32⟩
  | 10 => ⟨S8x1x2064, .f32⟩
  | 11 => ⟨S8x2064x2064, .f32⟩
  | 12 => ⟨S8x2064x2064, .f32⟩
  | 13 => ⟨S8x2064x2064, .f32⟩
  | 14 => ⟨S8x2064x2064, .f32⟩
  | 15 => ⟨S2064, .i32⟩
  | 16 => ⟨S1x2064, .i32⟩
  | 17 => ⟨S2064x1, .i32⟩
  | 18 => ⟨S2064x2064, .i32⟩
  | 19 => ⟨S2064x2064, .i32⟩
  | 20 => ⟨S2064x2064, .i1⟩
  | 21 => ⟨S1x2064x2064, .i1⟩
  | 22 => ⟨S_, .f32⟩
  | 23 => ⟨S_, .f32⟩
  | 24 => ⟨S8x2064x2064, .i1⟩
  | 25 => ⟨S8x2064x2064, .f32⟩
  | 26 => ⟨S8x2064x2064, .f32⟩
  | 27 => ⟨S_, .f32⟩
  | 28 => ⟨S8x2064x2064, .f32⟩
  | 29 => ⟨S_, .f32⟩
  | 30 => ⟨S8x2064, .f32⟩
  | 31 => ⟨S8x2064x1, .f32⟩
  | 32 => ⟨S8x2064x2064, .f32⟩
  | 33 => ⟨S8x2064x2064, .i1⟩
  | 34 => ⟨S8x2064x2064, .f32⟩
  | 35 => ⟨S_, .f32⟩
  | 36 => ⟨S8x2064, .f32⟩
  | 37 => ⟨S_, .f32⟩
  | 38 => ⟨S8x2064, .f32⟩
  | 39 => ⟨S8x2064, .f32⟩
  | 40 => ⟨S_, .f32⟩
  | 41 => ⟨S8x2064, .f32⟩
  | 42 => ⟨S8x2064, .i1⟩
  | 43 => ⟨S_, .f32⟩
  | 44 => ⟨S8x2064, .f32⟩
  | 45 => ⟨S8x2064, .i1⟩
  | 46 => ⟨S_, .f32⟩
  | 47 => ⟨S8x2064, .f32⟩
  | 48 => ⟨S_, .f32⟩
  | 49 => ⟨S8x2064, .f32⟩
  | 50 => ⟨S_, .f32⟩
  | 51 => ⟨S8x2064, .f32⟩
  | 52 => ⟨S8x2064, .f32⟩
  | 53 => ⟨S8x2064, .f32⟩
  | 54 => ⟨S8x2064x1, .f32⟩
  | 55 => ⟨S8x2064x2064, .f32⟩
  | 56 => ⟨S8x2064x2064, .f32⟩
  | 57 => ⟨S8x2064x2064, .f32⟩
  | 58 => ⟨S_, .f32⟩
  | 59 => ⟨S8x2064, .f32⟩
  | 60 => ⟨S8x2064x1, .f32⟩
  | 61 => ⟨S8x2064x2064, .f32⟩
  | 62 => ⟨S8x2064x2064, .f32⟩
  | 63 => ⟨S8x2064x1, .f32⟩
  | 64 => ⟨S_, .f32⟩
  | 65 => ⟨S8x2064x1, .f32⟩
  | 66 => ⟨S8x2064x1, .f32⟩
  | 67 => ⟨S8x2064x64, .f32⟩
  | 68 => ⟨S8x64x2064, .f32⟩
  | 69 => ⟨S8x2064x64, .f32⟩
  | 70 => ⟨S8x2064x2064, .f32⟩
  | 71 => ⟨S8x2064x2064, .f32⟩
  | 72 => ⟨S8x2064x2064, .f32⟩
  | 73 => ⟨S8x2064x2064, .f32⟩
  | 74 => ⟨S_, .f32⟩
  | 75 => ⟨S8x2064, .f32⟩
  | 76 => ⟨S8x2064x1, .f32⟩
  | 77 => ⟨S8x2064x1, .f32⟩
  | 78 => ⟨S8x2064x2064, .f32⟩
  | 79 => ⟨S8x2064x2064, .f32⟩
  | 80 => ⟨S_, .f32⟩
  | 81 => ⟨S8x2064, .f32⟩
  | 82 => ⟨S8x2064x2064, .f32⟩
  | 83 => ⟨S8x2064x2064, .f32⟩
  | 84 => ⟨S8x2064x2064, .f32⟩
  | 85 => ⟨S_, .f32⟩
  | 86 => ⟨S8x2064x2064, .f32⟩
  | 87 => ⟨S8x2064x2064, .f32⟩
  | 88 => ⟨S_, .f32⟩
  | 89 => ⟨S8x2064, .f32⟩
  | 90 => ⟨S8x2064x1, .f32⟩
  | 91 => ⟨S8x2064x2064, .f32⟩
  | 92 => ⟨S_, .f32⟩
  | 93 => ⟨S8x2064, .f32⟩
  | 94 => ⟨S8x1x2064, .f32⟩
  | 95 => ⟨S_, .f32⟩
  | 96 => ⟨S8x2064, .f32⟩
  | 97 => ⟨S_, .f32⟩
  | 98 => ⟨S8x2064, .f32⟩
  | 99 => ⟨S8x2064x64, .f32⟩
  | 100 => ⟨S8x2064x64, .f32⟩
  | 101 => ⟨S_, .i32⟩
  | 102 => ⟨S_, .f32⟩
  | 103 => ⟨S8x2304, .f32⟩
  | 104 => ⟨S8x3x1x768, .f32⟩
  | 105 => ⟨S_, .i32⟩
  | 106 => ⟨S_, .f32⟩
  | 107 => ⟨S8x2304, .f32⟩
  | 108 => ⟨S2304x8, .f32⟩
  | 109 => ⟨S2304x8x128, .f32⟩
  | 110 => ⟨S2304x1024, .f32⟩
  | 111 => ⟨S2064x8x64, .f32⟩
  | 112 => ⟨S_, .i32⟩
  | 113 => ⟨S_, .f32⟩
  | 114 => ⟨S2304x8x128, .f32⟩
  | 115 => ⟨S2304x1024, .f32⟩
  | 116 => ⟨S2304x1024, .bf16⟩
  | 117 => ⟨S2064x8x64, .f32⟩
  | 118 => ⟨S_, .i32⟩
  | 119 => ⟨S_, .f32⟩
  | 120 => ⟨S2304x8x128, .f32⟩
  | 121 => ⟨S2304x1024, .f32⟩
  | 122 => ⟨S2304x1024, .bf16⟩
  | 123 => ⟨S2064x8x64, .f32⟩
  | 124 => ⟨S_, .i32⟩
  | 125 => ⟨S_, .f32⟩
  | 126 => ⟨S2304x8x128, .f32⟩
  | 127 => ⟨S2304x1024, .f32⟩
  | _ => ⟨S8x2064x64, .f32⟩

abbrev hbmTy0_1 (i : Nat) : BufTy := match i % 128 with
  | 0 => ⟨S2304x1024, .bf16⟩
  | _ => ⟨S8x2064x64, .f32⟩

abbrev hbmTy (i : Nat) : BufTy := match i / 128 with
  | 0 => hbmTy0_0 i
  | 1 => hbmTy0_1 i
  | _ => ⟨S8x2064x64, .f32⟩

abbrev bufTy : (tb : Table) → Fin (tcTables nBuf tb) → BufTy
  | .hbm, ⟨i, _⟩ => hbmTy i
  | _, _ => ⟨S8x2064x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c : Ref sig .tc := ⟨.hbm, 101, rfl⟩
abbrev main_call2_v0 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_call3_v0 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_18 : Ref sig .tc := ⟨.hbm, 112, rfl⟩
abbrev main_call4_v0 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_call5_v0 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_20 : Ref sig .tc := ⟨.hbm, 124, rfl⟩
abbrev main_call6_v0 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]

def κ : String → Option EReal := fun
  | "mask" => some ⊥
  | _ => none
-- ==== Kernel2.lean ====
abbrev S2304x1024 : Shape := ⟨2, ![2304, 1024]⟩
abbrev S2304x5632 : Shape := ⟨2, ![2304, 5632]⟩
abbrev S1024x5632 : Shape := ⟨2, ![1024, 5632]⟩
abbrev S1152x1024 : Shape := ⟨2, ![1152, 1024]⟩
abbrev S1152x1408 : Shape := ⟨2, ![1152, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2304x1024, .bf16⟩
  | .hbm, ⟨1, _⟩ => ⟨S2304x5632, .bf16⟩
  | .hbm, ⟨2, _⟩ => ⟨S1024x5632, .bf16⟩
  | .local _ .vmem, ⟨0, _⟩ => ⟨S1152x1024, .bf16⟩
  | .local _ .vmem, ⟨1, _⟩ => ⟨S1152x1024, .bf16⟩
  | .local _ .vmem, ⟨2, _⟩ => ⟨S1152x1408, .bf16⟩
  | .local _ .vmem, ⟨3, _⟩ => ⟨S1152x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2304x1024 : Shape := ⟨2, ![2304, 1024]⟩
abbrev S2304x5632 : Shape := ⟨2, ![2304, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x5632, .bf16⟩
  | .hbm, ⟨2, _⟩ => ⟨S2304x1024, .f32⟩
  | .hbm, ⟨3, _⟩ => ⟨S2304x5632, .f32⟩
  | .hbm, ⟨4, _⟩ => ⟨S_, .f32⟩
  | .hbm, ⟨5, _⟩ => ⟨S1024x5632, .f32⟩
  | .hbm, ⟨6, _⟩ => ⟨S2304x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2304x5632 : Shape := ⟨2, ![2304, 5632]⟩
abbrev S1024x5632 : Shape := ⟨2, ![1024, 5632]⟩
abbrev S2304x1024 : Shape := ⟨2, ![2304, 1024]⟩
abbrev S1152x1408 : Shape := ⟨2, ![1152, 1408]⟩
abbrev S1024x1408 : Shape := ⟨2, ![1024, 1408]⟩
abbrev S1152x1024 : Shape := ⟨2, ![1152, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2304x5632, .bf16⟩
  | .hbm, ⟨1, _⟩ => ⟨S1024x5632, .bf16⟩
  | .hbm, ⟨2, _⟩ => ⟨S2304x1024, .f32⟩
  | .hbm, ⟨3, _⟩ => ⟨S2304x1024, .f32⟩
  | .local _ .vmem, ⟨0, _⟩ => ⟨S1152x1408, .bf16⟩
  | .local _ .vmem, ⟨1, _⟩ => ⟨S1152x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | .local _ .vmem, ⟨7, _⟩ => ⟨S1152x1024, .f32⟩
  | .local _ .vmem, ⟨8, _⟩ => ⟨S1152x1024, .f32⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1152x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2304x5632 : Shape := ⟨2, ![2304, 5632]⟩
abbrev S1024x5632 : Shape := ⟨2, ![1024, 5632]⟩
abbrev S2304x1024 : Shape := ⟨2, ![2304, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2304x5632, .bf16⟩
  | .hbm, ⟨1, _⟩ => ⟨S1024x5632, .bf16⟩
  | .hbm, ⟨2, _⟩ => ⟨S2304x1024, .f32⟩
  | .hbm, ⟨3, _⟩ => ⟨S1024x5632, .f32⟩
  | .hbm, ⟨4, _⟩ => ⟨S_, .f32⟩
  | .hbm, ⟨5, _⟩ => ⟨S2304x1024, .f32⟩
  | .hbm, ⟨6, _⟩ => ⟨S2304x5632, .f32⟩
  | .hbm, ⟨7, _⟩ => ⟨S_, .f32⟩
  | .hbm, ⟨8, _⟩ => ⟨S2304x1024, .f32⟩
  | .hbm, ⟨9, _⟩ => ⟨S2304x1024, .f32⟩
  | .hbm, ⟨10, _⟩ => ⟨S2304x5632, .f32⟩
  | .hbm, ⟨11, _⟩ => ⟨S_, .f32⟩
  | .hbm, ⟨12, _⟩ => ⟨S2304x1024, .f32⟩
  | .hbm, ⟨13, _⟩ => ⟨S2304x1024, .f32⟩
  | .hbm, ⟨14, _⟩ => ⟨S2304x1024, .f32⟩
  | .hbm, ⟨15, _⟩ => ⟨S2304x1024, .f32⟩
  | _, _ => ⟨S2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S2304x2816 : Shape := ⟨2, ![2304, 2816]⟩
abbrev S2304x1024 : Shape := ⟨2, ![2304, 1024]⟩
abbrev S2816x1024 : Shape := ⟨2, ![2816, 1024]⟩
abbrev S1152x1408 : Shape := ⟨2, ![1152, 1408]⟩
abbrev S1152x1024 : Shape := ⟨2, ![1152, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2816x1024, .bf16⟩
  | .local _ .vmem, ⟨0, _⟩ => ⟨S1152x1408, .bf16⟩
  | .local _ .vmem, ⟨1, _⟩ => ⟨S1152x1408, .bf16⟩
  | .local _ .vmem, ⟨2, _⟩ => ⟨S1152x1024, .bf16⟩
  | .local _ .vmem, ⟨3, _⟩ => ⟨S1152x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2304x2816 : Shape := ⟨2, ![2304, 2816]⟩
abbrev S2304x1024 : Shape := ⟨2, ![2304, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2304x1024, .bf16⟩
  | .hbm, ⟨2, _⟩ => ⟨S2304x2816, .f32⟩
  | .hbm, ⟨3, _⟩ => ⟨S2304x1024, .f32⟩
  | .hbm, ⟨4, _⟩ => ⟨S_, .f32⟩
  | .hbm, ⟨5, _⟩ => ⟨S2816x1024, .f32⟩
  | .hbm, ⟨6, _⟩ => ⟨S2304x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2304x1024 : Shape := ⟨2, ![2304, 1024]⟩
abbrev S2816x1024 : Shape := ⟨2, ![2816, 1024]⟩
abbrev S2304x2816 : Shape := ⟨2, ![2304, 2816]⟩
abbrev S1152x1024 : Shape := ⟨2, ![1152, 1024]⟩
abbrev S1408x1024 : Shape := ⟨2, ![1408, 1024]⟩
abbrev S1152x1408 : Shape := ⟨2, ![1152, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S2304x2816, .bf16⟩
  | .local _ .vmem, ⟨0, _⟩ => ⟨S1152x1024, .bf16⟩
  | .local _ .vmem, ⟨1, _⟩ => ⟨S1152x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1408, .bf16⟩
  | .local _ .vmem, ⟨5, _⟩ => ⟨S1152x1408, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2304x1024 : Shape := ⟨2, ![2304, 1024]⟩
abbrev S2816x1024 : Shape := ⟨2, ![2816, 1024]⟩
abbrev S_ : Shape := ⟨0, ![]⟩
abbrev S2304x2816 : Shape := ⟨2, ![2304, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S2304x2816, .f32⟩
  | .hbm, ⟨5, _⟩ => ⟨S2304x1024, .f32⟩
  | .hbm, ⟨6, _⟩ => ⟨S2304x1024, .f32⟩
  | .hbm, ⟨7, _⟩ => ⟨S2304x2816, .f32⟩
  | .hbm, ⟨8, _⟩ => ⟨S2304x2816, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2304x1024 : Shape := ⟨2, ![2304, 1024]⟩
abbrev S1024x5632 : Shape := ⟨2, ![1024, 5632]⟩
abbrev S2304x5632 : Shape := ⟨2, ![2304, 5632]⟩
abbrev S1152x1024 : Shape := ⟨2, ![1152, 1024]⟩
abbrev S1024x1408 : Shape := ⟨2, ![1024, 1408]⟩
abbrev S1152x1408 : Shape := ⟨2, ![1152, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x5632, .bf16⟩
  | .hbm, ⟨2, _⟩ => ⟨S2304x5632, .bf16⟩
  | .local _ .vmem, ⟨0, _⟩ => ⟨S1152x1024, .bf16⟩
  | .local _ .vmem, ⟨1, _⟩ => ⟨S1152x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1152x1408, .bf16⟩
  | .local _ .vmem, ⟨5, _⟩ => ⟨S1152x1408, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2304x1024 : Shape := ⟨2, ![2304, 1024]⟩
abbrev S1024x5632 : Shape := ⟨2, ![1024, 5632]⟩
abbrev S2304x5632 : Shape := ⟨2, ![2304, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x5632, .bf16⟩
  | .hbm, ⟨2, _⟩ => ⟨S2304x1024, .f32⟩
  | .hbm, ⟨3, _⟩ => ⟨S1024x5632, .f32⟩
  | .hbm, ⟨4, _⟩ => ⟨S2304x5632, .f32⟩
  | .hbm, ⟨5, _⟩ => ⟨S2304x5632, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S2304x2816 : Shape := ⟨2, ![2304, 2816]⟩
abbrev S2816x1024 : Shape := ⟨2, ![2816, 1024]⟩
abbrev S2304x1024 : Shape := ⟨2, ![2304, 1024]⟩
abbrev S1152x1408 : Shape := ⟨2, ![1152, 1408]⟩
abbrev S1408x1024 : Shape := ⟨2, ![1408, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x2816, .bf16⟩
  | .hbm, ⟨1, _⟩ => ⟨S2816x1024, .bf16⟩
  | .hbm, ⟨2, _⟩ => ⟨S2304x1024, .f32⟩
  | .local _ .vmem, ⟨0, _⟩ => ⟨S1152x1408, .bf16⟩
  | .local _ .vmem, ⟨1, _⟩ => ⟨S1152x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .f32⟩
  | _, _ => ⟨S2304x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2304x2816 : Shape := ⟨2, ![2304, 2816]⟩
abbrev S2816x1024 : Shape := ⟨2, ![2816, 1024]⟩
abbrev S2304x1024 : Shape := ⟨2, ![2304, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2304x2816, .bf16⟩
  | .hbm, ⟨1, _⟩ => ⟨S2816x1024, .bf16⟩
  | .hbm, ⟨2, _⟩ => ⟨S2304x2816, .f32⟩
  | .hbm, ⟨3, _⟩ => ⟨S2816x1024, .f32⟩
  | .hbm, ⟨4, _⟩ => ⟨S2304x1024, .f32⟩
  | _, _ => ⟨S2304x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S2304x1024 : Shape := ⟨2, ![2304, 1024]⟩
abbrev S1024x1536 : Shape := ⟨2, ![1024, 1536]⟩
abbrev S2304x1536 : Shape := ⟨2, ![2304, 1536]⟩
abbrev S1152x1024 : Shape := ⟨2, ![1152, 1024]⟩
abbrev S1024x768 : Shape := ⟨2, ![1024, 768]⟩
abbrev S1152x768 : Shape := ⟨2, ![1152, 768]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x1536, .bf16⟩
  | .hbm, ⟨2, _⟩ => ⟨S2304x1536, .bf16⟩
  | .local _ .vmem, ⟨0, _⟩ => ⟨S1152x1024, .bf16⟩
  | .local _ .vmem, ⟨1, _⟩ => ⟨S1152x1024, .bf16⟩
  | .local _ .vmem, ⟨2, _⟩ => ⟨S1024x768, .bf16⟩
  | .local _ .vmem, ⟨3, _⟩ => ⟨S1024x768, .bf16⟩
  | .local _ .vmem, ⟨4, _⟩ => ⟨S1152x768, .bf16⟩
  | .local _ .vmem, ⟨5, _⟩ => ⟨S1152x768, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2304x1024 : Shape := ⟨2, ![2304, 1024]⟩
abbrev S1024x1536 : Shape := ⟨2, ![1024, 1536]⟩
abbrev S2304x1536 : Shape := ⟨2, ![2304, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x1536, .bf16⟩
  | .hbm, ⟨2, _⟩ => ⟨S2304x1024, .f32⟩
  | .hbm, ⟨3, _⟩ => ⟨S1024x1536, .f32⟩
  | .hbm, ⟨4, _⟩ => ⟨S2304x1536, .f32⟩
  | .hbm, ⟨5, _⟩ => ⟨S2304x1536, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2304x1024 : Shape := ⟨2, ![2304, 1024]⟩
abbrev S1024x2688 : Shape := ⟨2, ![1024, 2688]⟩
abbrev S2304x2688 : Shape := ⟨2, ![2304, 2688]⟩
abbrev S1152x1024 : Shape := ⟨2, ![1152, 1024]⟩
abbrev S1024x896 : Shape := ⟨2, ![1024, 896]⟩
abbrev S1152x896 : Shape := ⟨2, ![1152, 896]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S1024x2688, .bf16⟩
  | .hbm, ⟨2, _⟩ => ⟨S2304x2688, .f32⟩
  | .local _ .vmem, ⟨0, _⟩ => ⟨S1152x1024, .bf16⟩
  | .local _ .vmem, ⟨1, _⟩ => ⟨S1152x1024, .bf16⟩
  | .local _ .vmem, ⟨2, _⟩ => ⟨S1024x896, .bf16⟩
  | .local _ .vmem, ⟨3, _⟩ => ⟨S1024x896, .bf16⟩
  | .local _ .vmem, ⟨4, _⟩ => ⟨S1152x896, .f32⟩
  | .local _ .vmem, ⟨5, _⟩ => ⟨S1152x896, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2304x1024 : Shape := ⟨2, ![2304, 1024]⟩
abbrev S1024x2688 : Shape := ⟨2, ![1024, 2688]⟩
abbrev S2304x2688 : Shape := ⟨2, ![2304, 2688]⟩

abbrev nBuf : Space → Nat
  | .hbm => 5
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S1024x2688, .bf16⟩
  | .hbm, ⟨2, _⟩ => ⟨S2304x1024, .f32⟩
  | .hbm, ⟨3, _⟩ => ⟨S1024x2688, .f32⟩
  | .hbm, ⟨4, _⟩ => ⟨S2304x2688, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.PI.Offsets.lean ====
/-
  The two loops over the masked row blocks: where their trips read and write. At grid point `(h, j)` the first loop has
  the one trip `i = j` (the block on the diagonal), the second none.
-/
module

public import proofs.«01_k».proof.Proof.Gen.KernelIdeal.Loops
public import proofs.«01_k».proof.Proof.Gen.KernelIdeal.Frame

@[expose] public section

set_option maxRecDepth 16384

noncomputable section

namespace Cert.Proof.PI

open Cert.KernelIdeal Cert.KernelIdeal.Gen
open Idealize.ShloMosaic Idealize.ShloMosaic.TcCoe

theorem trips1 : ∀ i : grid0.Coords, (k0_t1_loop i).trips = 1 := by decide +kernel
theorem trips2 : ∀ i : grid0.Coords, (k0_t2_loop i).trips = 0 := by decide +kernel
theorem trips3 : ∀ i : grid0.Coords, (k0_t3_loop i).trips = 2 - (i 1).val := by decide +kernel
theorem trips4 : ∀ i : grid0.Coords, (k0_t4_loop i).trips = 0 := by decide +kernel

theorem off1_eq : ∀ (i : grid0.Coords) (t : Fin (k0_t1_loop i).trips), k0_off1 i t = ![768 * (i 1).val, 0] := by decide +kernel
theorem off2_eq : ∀ (i : grid0.Coords) (t : Fin (k0_t1_loop i).trips), k0_off2 i t = ![0, (i 1).val, 0, 0] := by decide +kernel
theorem off3_eq : ∀ (i : grid0.Coords) (t : Fin (k0_t1_loop i).trips), k0_off3 i t = ![0, (i 1).val, 0, 0] := by decide +kernel
theorem off4_eq : ∀ (i : grid0.Coords) (t : Fin (k0_t1_loop i).trips), k0_off4 i t = ![768 * (i 1).val, 128] := by decide +kernel
theorem off5_eq : ∀ (i : grid0.Coords) (t : Fin (k0_t1_loop i).trips), k0_off5 i t = ![1, (i 1).val, 0, 0] := by decide +kernel
theorem off6_eq : ∀ (i : grid0.Coords) (t : Fin (k0_t1_loop i).trips), k0_off6 i t = ![1, (i 1).val, 0, 0] := by decide +kernel

instance (i : grid0.Coords) (t : Fin (k0_t1_loop i).trips) : ClosedOff (k0_off1 i t) := ⟨_, off1_eq i t⟩
instance (i : grid0.Coords) (t : Fin (k0_t1_loop i).trips) : ClosedOff (k0_off2 i t) := ⟨_, off2_eq i t⟩
instance (i : grid0.Coords) (t : Fin (k0_t1_loop i).trips) : ClosedOff (k0_off3 i t) := ⟨_, off3_eq i t⟩
instance (i : grid0.Coords) (t : Fin (k0_t1_loop i).trips) : ClosedOff (k0_off4 i t) := ⟨_, off4_eq i t⟩
instance (i : grid0.Coords) (t : Fin (k0_t1_loop i).trips) : ClosedOff (k0_off5 i t) := ⟨_, off5_eq i t⟩
instance (i : grid0.Coords) (t : Fin (k0_t1_loop i).trips) : ClosedOff (k0_off6 i t) := ⟨_, off6_eq i t⟩

end Cert.Proof.PI

end
-- ==== Proof.PI.Base.lean ====
/-
  The body's two branch conditions in closed form over the points, and the memrefs a point is run on.
-/
module

public import proofs.«01_k».proof.Proof.PI.Offsets

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's first branch: the first key block. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 3 = 0 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [cond0, e0, e1]
    word_cmp
   : ∀ t : Fin grid0.N, cond0 (grid0.coords t) ↔ t.val % 3 = 0)

/-- The condition of the body's second branch: the last key block. -/
abbrev cond1 (i : grid0.Coords) : Prop := k0_cond2 i = 1#1
theorem hcond1 : ∀ t : Fin cfg0.N, cond1 (grid0.coords t) ↔ t.val % 3 = 2 :=
  (fun t => by
    have ht : t.val < 12 := Nat.lt_of_lt_of_eq t.isLt N_0
    have e0 : (grid0.coords t 0).val = t.val / 3 % 4 := Pipeline.Grid.coords_val t 0 (by decide) rfl
    have e1 : (grid0.coords t 1).val = t.val / 1 % 3 := Pipeline.Grid.coords_val t 1 (by decide) rfl
    simp only [cond1, k0_cond2, e0, e1]
    word_cmp
   : ∀ t : Fin grid0.N, cond1 (grid0.coords t) ↔ t.val % 3 = 2)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl
theorem live_12 : ∀ t : Fin cfg0.N, cfg0.idle 12 (grid0.coords t) = false := fun _ => rfl
/-- The gradient of the queries is stored at the last key block alone. -/
theorem idle_8 : ∀ t : Fin cfg0.N, ¬cond1 (grid0.coords t) → cfg0.idle 8 (grid0.coords t) = true := by decide +kernel
theorem noFlush_8 : ∀ t : Fin cfg0.N, ¬cond1 (grid0.coords t) → (cfg0.win 8).flush t = false := by decide +kernel
theorem live_8 : ∀ t : Fin cfg0.N, cond1 (grid0.coords t) → cfg0.idle 8 (grid0.coords t) = false := by decide +kernel

abbrev ms_0 (t : Fin cfg0.N) : Memref sig .tc .vmem S2304x256 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S768x256 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S768x256 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2304x256 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2304x256 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S2x3x1x768 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S768x256 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S2x3x1x768 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S2304x256 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S768x256 .bf16 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S768x256 .bf16 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S2x3x1x768 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S768x256 .f32 := win0_12.stage (cfg0.slots t 12)
abbrev hs_12 (t : Fin cfg0.N) : (ms_12 t).IsWhole := hstage0_12 ((cfg0.slots t 12).cast nbuf0_12)
/-- The two scratch buffers: the transposed gradient of the queries, and each query's product of the output with its gradient. -/
abbrev scM_0 : Memref sig .tc .vmem S2x3x128x768 .f32 := Memref.whole cc0_scratch0
abbrev scM_1 : Memref sig .tc .vmem S2x3x1x768 .f32 := Memref.whole cc0_scratch1

/-- The region's invariant with the scratch operands as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d)) ∗ (∃ r, prngReg c r)) := by
  unfold Pipeline.ΦA; rw [scopedRest0_eq]; simp only [scM_0, scM_1, owns_whole]; try rfl

end Cert.Proof.PI

end
-- ==== Proof.PI.Spec.lean ====
/-
  What the body computes, over any float semantics: the blocks it reads, one trip's gradients of one row block, and the loops' iterates.
-/
module

public import proofs.«01_k».proof.Proof.PI.Offsets
public import Idealize.ShloMosaic.Lib.VecWindow

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem inbQ (h : Fin 2) (b : Fin 3) : ∀ a, (![768 * b.val, 128 * h.val] : Fin 2 → ℕ) a + S768x128.size a ≤ S2304x256.size a := by
  revert h b; decide
theorem inbK (h : Fin 2) : ∀ a, (![0, 128 * h.val] : Fin 2 → ℕ) a + S768x128.size a ≤ S768x256.size a := by
  revert h; decide
theorem inbC (h : Fin 2) : ∀ a, (![0, 128 * h.val] : Fin 2 → ℕ) a + S768x1.size a ≤ S768x256.size a := by
  revert h; decide
theorem inbR (h : Fin 2) (b : Fin 3) : ∀ a, (![h.val, b.val, 0, 0] : Fin 4 → ℕ) a + S1x1x1x768.size a ≤ S2x3x1x768.size a := by
  revert h b; decide
theorem inbT (h : Fin 2) (b : Fin 3) : ∀ a, (![h.val, b.val, 0, 0] : Fin 4 → ℕ) a + S1x1x128x768.size a ≤ S2x3x128x768.size a := by
  revert h b; decide

/-- Row block `b` of head `h` of the pair, of an array of all rows. -/
def qBlk {e : EltTy} (x : Vec F S2304x256 e) (h : Fin 2) (b : Fin 3) : Vec F S768x128 e :=
  VecWindow.window x ![768 * b.val, 128 * h.val] S768x128.size (inbQ h b)
/-- Head `h`'s lanes of a tile. -/
def kBlk {e : EltTy} (x : Vec F S768x256 e) (h : Fin 2) : Vec F S768x128 e :=
  VecWindow.window x ![0, 128 * h.val] S768x128.size (inbK h)
/-- The first of head `h`'s lanes of a tile. -/
def cBlk {e : EltTy} (x : Vec F S768x256 e) (h : Fin 2) : Vec F S768x1 e :=
  VecWindow.window x ![0, 128 * h.val] S768x1.size (inbC h)
/-- Row block `b` of head `h`, of a row vector per head and block. -/
def rBlk (x : Vec F S2x3x1x768 .f32) (h : Fin 2) (b : Fin 3) : Vec F S1x1x1x768 .f32 :=
  VecWindow.window x ![h.val, b.val, 0, 0] S1x1x1x768.size (inbR h b)
/-- Row block `b` of head `h` of the transposed gradient of the queries. -/
def tBlk (x : Vec F S2x3x128x768 .f32) (h : Fin 2) (b : Fin 3) : Vec F S1x1x128x768 .f32 :=
  VecWindow.window x ![h.val, b.val, 0, 0] S1x1x128x768.size (inbT h b)
/-- The row vectors with one block replaced. -/
def rPut (x : Vec F S2x3x1x768 .f32) (h : Fin 2) (b : Fin 3) (w : Vec F S1x1x1x768 .f32) : Vec F S2x3x1x768 .f32 :=
  VecWindow.put x ![h.val, b.val, 0, 0] S1x1x1x768.size w
/-- The transposed gradient with one block replaced. -/
def tPut (x : Vec F S2x3x128x768 .f32) (h : Fin 2) (b : Fin 3) (w : Vec F S1x1x128x768 .f32) : Vec F S2x3x128x768 .f32 :=
  VecWindow.put x ![h.val, b.val, 0, 0] S1x1x128x768.size w

/-- What a point keeps of its key block: the keys, the values, the keys transposed and the forget gates' cumulative
    logarithm of both heads. -/
structure KV (F : FTy → Type) [FloatOps F] where
  k0 : FVec F S768x128 .bf16
  k1 : FVec F S768x128 .bf16
  v0 : FVec F S768x128 .bf16
  v1 : FVec F S768x128 .bf16
  t0 : FVec F S128x768 .bf16
  t1 : FVec F S128x768 .bf16
  c0 : FVec F S768x1 .f32
  c1 : FVec F S768x1 .f32

/-- A block of the second head reads the same after one of the first is replaced. -/
theorem rBlk_rPut (x : Vec F S2x3x1x768 .f32) (b b' : Fin 3) (w : Vec F S1x1x1x768 .f32) : rBlk (rPut x 0 b w) 1 b' = rBlk x 1 b' :=
  VecWindow.window_put_of_disjoint x _ _ _ _ _ w 0 (.inr (by clear w; revert b b'; decide))
theorem tBlk_tPut (x : Vec F S2x3x128x768 .f32) (b b' : Fin 3) (w : Vec F S1x1x128x768 .f32) : tBlk (tPut x 0 b w) 1 b' = tBlk x 1 b' :=
  VecWindow.window_put_of_disjoint x _ _ _ _ _ w 0 (.inr (by clear w; revert b b'; decide))

/-- The key block's gradients that the loops carry: of both heads those of the keys, the values and the gates. -/
abbrev Carry (F : FTy → Type) [FloatOps F] : Type := FVec F S768x128 .f32 × FVec F S768x128 .f32 × FVec F S768x1 .f32 × FVec F S768x128 .f32 × FVec F S768x128 .f32 × FVec F S768x1 .f32
/-- The state of the loops: what they carry, the gates' gradient by queries, the transposed gradient of the queries. -/
abbrev St (F : FTy → Type) [FloatOps F] : Type := Carry F × Vec F S2x3x1x768 .f32 × Vec F S2x3x128x768 .f32

/-- The gradient of the scores of one block: the probabilities times the difference of their gradient and the row sum. -/
def dsOf (p : FVec F S768x768 .f32) (v d : FVec F S768x128 .bf16) (l : Vec F S1x1x1x768 .f32) : FVec F S768x768 .f32 :=
  mulf p (subf (matmul dot_S768x128_S768x128_S768x768_1_1_0_0_n_n none v d (constant S768x768 .f32 0x00000000#32))
    (broadcastTo S768x768 (shapeCast S1x768 l shapeCasts_S1x1x1x768_S1x768) broadcasts_S1x768_S768x768))
/-- A product of a block of scores with a block of rows, added to an accumulator. -/
def accOf (a : FVec F S768x128 .f32) (p : FVec F S768x768 .f32) (d : FVec F S768x128 .bf16) : FVec F S768x128 .f32 :=
  addf a (matmul dot_S768x768_S768x128_S768x128_1_0_0_1_n_n none (truncf .bf16 p bitsLt_bf16_f32) d (constant S768x128 .f32 0x00000000#32))

/-- One trip, from the probabilities of both heads: the row block `b`'s part of every gradient added. -/
def trip (p0 p1 : FVec F S768x768 .f32) (kv : KV F) (x2 x5 : Vec F S2304x256 .bf16) (x16 : Vec F S2x3x1x768 .f32) (b : Fin 3) (s : St F) : St F :=
  let d0 := k0_pay31 (qBlk x5 0 b)
  let d1 := k0_pay31 (qBlk x5 1 b)
  let ds0 := dsOf p0 kv.v0 d0 (rBlk x16 0 b)
  let ds1 := dsOf p1 kv.v1 d1 (rBlk x16 1 b)
  let y13 := rPut s.2.1 0 b (k0_pay28 ds0 (rBlk s.2.1 0 b))
  let y15 := tPut s.2.2 0 b (k0_pay27 kv.t0 (truncf .bf16 ds0 bitsLt_bf16_f32) (tBlk s.2.2 0 b))
  ((accOf s.1.1 ds0 (k0_pay30 (qBlk x2 0 b)), accOf s.1.2.1 p0 d0, k0_pay29 s.1.2.2.1 ds0,
    accOf s.1.2.2.2.1 ds1 (k0_pay30 (qBlk x2 1 b)), accOf s.1.2.2.2.2.1 p1 d1, k0_pay29 s.1.2.2.2.2.2 ds1),
   rPut y13 1 b (k0_pay28 ds1 (rBlk s.2.1 1 b)),
   tPut y15 1 b (k0_pay27 kv.t1 (truncf .bf16 ds1 bitsLt_bf16_f32) (tBlk s.2.2 1 b)))

/-- A trip of the masked loop, at the block's first row `iw` and the key block's number `jw` as the program's words. -/
def tripM (jw iw : BitVec 32) (diff : IVec S768x768 32) (kv : KV F) (x2 x5 : Vec F S2304x256 .bf16) (x7 x9 x16 : Vec F S2x3x1x768 .f32) (b : Fin 3) (s : St F) : St F :=
  trip (k0_pay34 jw diff iw (k0_pay32 kv.k0 (qBlk x2 0 b)) (k0_pay33 kv.c0 (rBlk x9 0 b)) (rBlk x7 0 b))
    (k0_pay34 jw diff iw (k0_pay32 kv.k1 (qBlk x2 1 b)) (k0_pay33 kv.c1 (rBlk x9 1 b)) (rBlk x7 1 b)) kv x2 x5 x16 b s
/-- A trip of the loop without the mask. -/
def tripU (kv : KV F) (x2 x5 : Vec F S2304x256 .bf16) (x7 x9 x16 : Vec F S2x3x1x768 .f32) (b : Fin 3) (s : St F) : St F :=
  trip (k0_pay62 kv.k0 kv.c0 (qBlk x2 0 b) (rBlk x9 0 b) (rBlk x7 0 b)) (k0_pay62 kv.k1 kv.c1 (qBlk x2 1 b) (rBlk x9 1 b) (rBlk x7 1 b)) kv x2 x5 x16 b s

/-- The row block `n` places after key block `j`. -/
def blk (j n : ℕ) : Fin 3 := ⟨(j + n) % 3, Nat.mod_lt _ (by decide)⟩

def iterM (j : ℕ) (jw v c : BitVec 32) (diff : IVec S768x768 32) (kv : KV F) (x2 x5 : Vec F S2304x256 .bf16) (x7 x9 x16 : Vec F S2x3x1x768 .f32) : ℕ → St F → St F
  | 0, s => s
  | n + 1, s => tripM jw (Scf.iv v c n) diff kv x2 x5 x7 x9 x16 (blk j n) (iterM j jw v c diff kv x2 x5 x7 x9 x16 n s)
def iterU (j : ℕ) (kv : KV F) (x2 x5 : Vec F S2304x256 .bf16) (x7 x9 x16 : Vec F S2x3x1x768 .f32) : ℕ → St F → St F
  | 0, s => s
  | n + 1, s => tripU kv x2 x5 x7 x9 x16 (blk j (n + 1)) (iterU j kv x2 x5 x7 x9 x16 n s)

/-! ## Reading a block through a memref, writing one -/

variable {m2 : Memref sig .tc .vmem S2304x256 .bf16} {m4 : Memref sig .tc .vmem S2x3x1x768 .f32} {mT : Memref sig .tc .vmem S2x3x128x768 .f32}

theorem ldQ (f : BufTy.Contents (Elt F) m2.view.ty) (h : Fin 2) (b : Fin 3) {off : Fin 2 → ℕ} (inb : ∀ a, off a + S768x128.size a ≤ S2304x256.size a) (e : off = ![768 * b.val, 128 * h.val]) :
    m2.view.readAt (Elt F) (Rect.unit (s := S2304x256) off S768x128.size inb).toLoadRect f = qBlk (m2.view.read (Elt F) f) h b :=
  View.readAt_unit _ f inb e (inbQ h b)
theorem ldR (f : BufTy.Contents (Elt F) m4.view.ty) (h : Fin 2) (b : Fin 3) {off : Fin 4 → ℕ} (inb : ∀ a, off a + S1x1x1x768.size a ≤ S2x3x1x768.size a) (e : off = ![h.val, b.val, 0, 0]) :
    m4.view.readAt (Elt F) (Rect.unit (s := S2x3x1x768) off S1x1x1x768.size inb).toLoadRect f = rBlk (m4.view.read (Elt F) f) h b :=
  View.readAt_unit _ f inb e (inbR h b)
theorem ldT (f : BufTy.Contents (Elt F) mT.view.ty) (h : Fin 2) (b : Fin 3) {off : Fin 4 → ℕ} (inb : ∀ a, off a + S1x1x128x768.size a ≤ S2x3x128x768.size a) (e : off = ![h.val, b.val, 0, 0]) :
    mT.view.readAt (Elt F) (Rect.unit (s := S2x3x128x768) off S1x1x128x768.size inb).toLoadRect f = tBlk (mT.view.read (Elt F) f) h b :=
  View.readAt_unit _ f inb e (inbT h b)
theorem stR (f : BufTy.Contents (Elt F) m4.view.ty) (h : Fin 2) (b : Fin 3) {off : Fin 4 → ℕ} (inb : ∀ a, off a + S1x1x1x768.size a ≤ S2x3x1x768.size a) (e : off = ![h.val, b.val, 0, 0])
    (w : Vec F S1x1x1x768 .f32) (L : List (View.Piece (Elt F) S2x3x1x768 .f32)) :
    m4.view.read (Elt F) (m4.view.writes (Elt F) f (⟨Rect.unit (s := S2x3x1x768) off S1x1x1x768.size inb, w⟩ :: L)) = rPut (m4.view.read (Elt F) (m4.view.writes (Elt F) f L)) h b w :=
  View.read_writes_cons_put _ f inb w L e
theorem stT (f : BufTy.Contents (Elt F) mT.view.ty) (h : Fin 2) (b : Fin 3) {off : Fin 4 → ℕ} (inb : ∀ a, off a + S1x1x128x768.size a ≤ S2x3x128x768.size a) (e : off = ![h.val, b.val, 0, 0])
    (w : Vec F S1x1x128x768 .f32) (L : List (View.Piece (Elt F) S2x3x128x768 .f32)) :
    mT.view.read (Elt F) (mT.view.writes (Elt F) f (⟨Rect.unit (s := S2x3x128x768) off S1x1x128x768.size inb, w⟩ :: L)) = tPut (mT.view.read (Elt F) (mT.view.writes (Elt F) f L)) h b w :=
  View.read_writes_cons_put _ f inb w L e

end Cert.Proof.PI

end
-- ==== Proof.PI.Point.lean ====
/-
  What a whole point computes, over any float semantics: arrays put together from their blocks, the sums over each query's lanes, the loops' final state.
-/
module

public import proofs.«01_k».proof.Proof.PI.Spec

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- An array is determined by the windows that cover it. -/
theorem ext_of_windows {α : Type} {s : Shape} {ι : Type} (off : ι → Fin s.rank → ℕ) (size : Fin s.rank → ℕ) (inb : ∀ j, ∀ a, off j a + size a ≤ s.size a)
    (hc : ∀ p : s.Idx, ∃ j, ∀ a, off j a ≤ (p a).val ∧ (p a).val < off j a + size a) {x y : s.Idx → α}
    (h : ∀ j, VecWindow.window x (off j) size (inb j) = VecWindow.window y (off j) size (inb j)) : x = y := by
  funext p
  obtain ⟨j, hj⟩ := hc p
  have e : (Rect.unit (off j) size (inb j)).emb (Rect.unitLocal (s := s) (off := off j) (size := size) p hj) = p := funext fun a => Fin.ext (by
    show off j a + 1 * ((p a).val - off j a) = (p a).val
    have := (hj a).1; omega)
  have := congrFun (h j) (Rect.unitLocal (s := s) (off := off j) (size := size) p hj)
  simp only [VecWindow.window] at this
  rwa [e] at this

theorem rExt {x y : Vec F S2x3x1x768 .f32} (h : ∀ h b, rBlk x h b = rBlk y h b) : x = y := by
  refine ext_of_windows (s := S2x3x1x768) (ι := Fin 2 × Fin 3) (fun j => ![j.1.val, j.2.val, 0, 0]) S1x1x1x768.size (fun j => inbR j.1 j.2) (fun p => ⟨(p 0, p 1), ?_⟩) (fun j => h j.1 j.2)
  have h0 : (p 0).val < 2 := (p 0).isLt
  have h1 : (p 1).val < 3 := (p 1).isLt
  have h2 : (p 2).val < 1 := (p 2).isLt
  have h3 : (p 3).val < 768 := (p 3).isLt
  intro a; fin_cases a
  · exact ⟨le_refl _, Nat.lt_succ_self _⟩
  · exact ⟨le_refl _, Nat.lt_succ_self _⟩
  · exact ⟨Nat.zero_le _, by simpa using h2⟩
  · exact ⟨Nat.zero_le _, by show (p 3).val < 0 + 768; omega⟩
theorem tExt {x y : Vec F S2x3x128x768 .f32} (h : ∀ h b, tBlk x h b = tBlk y h b) : x = y := by
  refine ext_of_windows (s := S2x3x128x768) (ι := Fin 2 × Fin 3) (fun j => ![j.1.val, j.2.val, 0, 0]) S1x1x128x768.size (fun j => inbT j.1 j.2) (fun p => ⟨(p 0, p 1), ?_⟩) (fun j => h j.1 j.2)
  have h2 : (p 2).val < 128 := (p 2).isLt
  have h3 : (p 3).val < 768 := (p 3).isLt
  intro a; fin_cases a
  · exact ⟨le_refl _, Nat.lt_succ_self _⟩
  · exact ⟨le_refl _, Nat.lt_succ_self _⟩
  · exact ⟨Nat.zero_le _, by show (p 2).val < 0 + 128; omega⟩
  · exact ⟨Nat.zero_le _, by show (p 3).val < 0 + 768; omega⟩
theorem qExt {e : EltTy} {x y : Vec F S2304x256 e} (h : ∀ h b, qBlk x h b = qBlk y h b) : x = y := by
  refine ext_of_windows (s := S2304x256) (ι := Fin 2 × Fin 3) (fun j => ![768 * j.2.val, 128 * j.1.val]) S768x128.size (fun j => inbQ j.1 j.2)
    (fun p => ⟨(⟨(p 1).val / 128, ?_⟩, ⟨(p 0).val / 768, ?_⟩), ?_⟩) (fun j => h j.1 j.2)
  all_goals have h0 : (p 0).val < 2304 := (p 0).isLt
  all_goals have h1 : (p 1).val < 256 := (p 1).isLt
  · omega
  · omega
  · intro a; fin_cases a
    · show 768 * ((p 0).val / 768) ≤ (p 0).val ∧ (p 0).val < 768 * ((p 0).val / 768) + 768; omega
    · show 128 * ((p 1).val / 128) ≤ (p 1).val ∧ (p 1).val < 128 * ((p 1).val / 128) + 128; omega
theorem kExt {e : EltTy} {x y : Vec F S768x256 e} (h : ∀ h, kBlk x h = kBlk y h) : x = y := by
  refine ext_of_windows (s := S768x256) (ι := Fin 2) (fun j => ![0, 128 * j.val]) S768x128.size (fun j => inbK j)
    (fun p => ⟨⟨(p 1).val / 128, ?_⟩, ?_⟩) (fun j => h j)
  all_goals have h0 : (p 0).val < 768 := (p 0).isLt
  all_goals have h1 : (p 1).val < 256 := (p 1).isLt
  · omega
  · intro a; fin_cases a
    · show 0 ≤ (p 0).val ∧ (p 0).val < 0 + 768; omega
    · show 128 * ((p 1).val / 128) ≤ (p 1).val ∧ (p 1).val < 128 * ((p 1).val / 128) + 128; omega

/-- An array with one block of rows of one head replaced. -/
def qPut {e : EltTy} (x : Vec F S2304x256 e) (h : Fin 2) (b : Fin 3) (w : Vec F S768x128 e) : Vec F S2304x256 e :=
  VecWindow.put x ![768 * b.val, 128 * h.val] S768x128.size w
/-- A tile with one head's lanes replaced. -/
def kPut {e : EltTy} (x : Vec F S768x256 e) (h : Fin 2) (w : Vec F S768x128 e) : Vec F S768x256 e :=
  VecWindow.put x ![0, 128 * h.val] S768x128.size w

theorem rBlk_put (x : Vec F S2x3x1x768 .f32) (h : Fin 2) (b : Fin 3) (w : Vec F S1x1x1x768 .f32) (h' : Fin 2) (b' : Fin 3) :
    rBlk (rPut x h b w) h' b' = if h' = h ∧ b' = b then w else rBlk x h' b' := by
  by_cases e : h' = h ∧ b' = b
  · rw [if_pos e]; obtain ⟨rfl, rfl⟩ := e
    exact VecWindow.window_put_same x _ _ _ w
  · rw [if_neg e]
    by_cases e1 : h' = h
    · have e2 : b' ≠ b := fun h => e ⟨e1, h⟩
      refine VecWindow.window_put_of_disjoint x _ _ _ _ _ w 1 ?_
      show b'.val + 1 ≤ b.val ∨ b.val + 1 ≤ b'.val
      have : b'.val ≠ b.val := fun h => e2 (Fin.ext h)
      omega
    · refine VecWindow.window_put_of_disjoint x _ _ _ _ _ w 0 ?_
      show h'.val + 1 ≤ h.val ∨ h.val + 1 ≤ h'.val
      have : h'.val ≠ h.val := fun h => e1 (Fin.ext h)
      omega
theorem tBlk_put (x : Vec F S2x3x128x768 .f32) (h : Fin 2) (b : Fin 3) (w : Vec F S1x1x128x768 .f32) (h' : Fin 2) (b' : Fin 3) :
    tBlk (tPut x h b w) h' b' = if h' = h ∧ b' = b then w else tBlk x h' b' := by
  by_cases e : h' = h ∧ b' = b
  · rw [if_pos e]; obtain ⟨rfl, rfl⟩ := e
    exact VecWindow.window_put_same x _ _ _ w
  · rw [if_neg e]
    by_cases e1 : h' = h
    · have e2 : b' ≠ b := fun h => e ⟨e1, h⟩
      refine VecWindow.window_put_of_disjoint x _ _ _ _ _ w 1 ?_
      show b'.val + 1 ≤ b.val ∨ b.val + 1 ≤ b'.val
      have : b'.val ≠ b.val := fun h => e2 (Fin.ext h)
      omega
    · refine VecWindow.window_put_of_disjoint x _ _ _ _ _ w 0 ?_
      show h'.val + 1 ≤ h.val ∨ h.val + 1 ≤ h'.val
      have : h'.val ≠ h.val := fun h => e1 (Fin.ext h)
      omega
theorem qBlk_put {e : EltTy} (x : Vec F S2304x256 e) (h : Fin 2) (b : Fin 3) (w : Vec F S768x128 e) (h' : Fin 2) (b' : Fin 3) :
    qBlk (qPut x h b w) h' b' = if h' = h ∧ b' = b then w else qBlk x h' b' := by
  by_cases e : h' = h ∧ b' = b
  · rw [if_pos e]; obtain ⟨rfl, rfl⟩ := e
    exact VecWindow.window_put_same x _ _ _ w
  · rw [if_neg e]
    by_cases e1 : h' = h
    · have e2 : b' ≠ b := fun h => e ⟨e1, h⟩
      refine VecWindow.window_put_of_disjoint x _ _ _ _ _ w 0 ?_
      show 768 * b'.val + 768 ≤ 768 * b.val ∨ 768 * b.val + 768 ≤ 768 * b'.val
      have : b'.val ≠ b.val := fun h => e2 (Fin.ext h)
      omega
    · refine VecWindow.window_put_of_disjoint x _ _ _ _ _ w 1 ?_
      show 128 * h'.val + 128 ≤ 128 * h.val ∨ 128 * h.val + 128 ≤ 128 * h'.val
      have : h'.val ≠ h.val := fun h => e1 (Fin.ext h)
      omega
theorem kBlk_put {e : EltTy} (x : Vec F S768x256 e) (h : Fin 2) (w : Vec F S768x128 e) (h' : Fin 2) :
    kBlk (kPut x h w) h' = if h' = h then w else kBlk x h' := by
  by_cases e : h' = h
  · rw [if_pos e]; obtain rfl := e
    exact VecWindow.window_put_same x _ _ _ w
  · rw [if_neg e]
    refine VecWindow.window_put_of_disjoint x _ _ _ _ _ w 1 ?_
    show 128 * h'.val + 128 ≤ 128 * h.val ∨ 128 * h.val + 128 ≤ 128 * h'.val
    have : h'.val ≠ h.val := fun h => e (Fin.ext h)
    omega

/-- The row vectors of two heads by three row blocks, put together. -/
def rGrid (Y : Fin 2 → Fin 3 → Vec F S1x1x1x768 .f32) : Vec F S2x3x1x768 .f32 := fun p => Y (p 0) (p 1) (fun | 0 => (0 : Fin 1) | 1 => (0 : Fin 1) | 2 => (0 : Fin 1) | 3 => (p 3 : Fin 768))
/-- The row blocks of two heads put together. -/
def qGrid {e : EltTy} (Y : Fin 2 → Fin 3 → Vec F S768x128 e) : Vec F S2304x256 e := fun p =>
  Y ⟨(p 1).val / 128, Nat.div_lt_of_lt_mul (p 1).isLt⟩ ⟨(p 0).val / 768, Nat.div_lt_of_lt_mul (p 0).isLt⟩
    (fun | 0 => (⟨(p 0).val % 768, Nat.mod_lt _ (by decide)⟩ : Fin 768) | 1 => (⟨(p 1).val % 128, Nat.mod_lt _ (by decide)⟩ : Fin 128))
/-- The lanes of two heads put together. -/
def kPair {e : EltTy} (Y : Fin 2 → Vec F S768x128 e) : Vec F S768x256 e := fun p =>
  Y ⟨(p 1).val / 128, Nat.div_lt_of_lt_mul (p 1).isLt⟩ (fun | 0 => ((p 0) : Fin 768) | 1 => (⟨(p 1).val % 128, Nat.mod_lt _ (by decide)⟩ : Fin 128))

theorem rBlk_grid (Y : Fin 2 → Fin 3 → Vec F S1x1x1x768 .f32) (h : Fin 2) (b : Fin 3) : rBlk (rGrid Y) h b = Y h b := by
  funext y
  have h0 : (y 0).val < 1 := (y 0).isLt
  have h1 : (y 1).val < 1 := (y 1).isLt
  have h2 : (y 2).val < 1 := (y 2).isLt
  have key : ∀ h' b' y', h' = h → b' = b → y' = y → Y h' b' y' = Y h b y := by rintro _ _ _ rfl rfl rfl; rfl
  refine key _ _ _ (Fin.ext (by show h.val + 1 * (y 0).val = h.val; omega)) (Fin.ext (by show b.val + 1 * (y 1).val = b.val; omega)) (funext fun a => ?_)
  fin_cases a
  · exact Fin.ext (by show 0 = (y 0).val; omega)
  · exact Fin.ext (by show 0 = (y 1).val; omega)
  · exact Fin.ext (by show 0 = (y 2).val; omega)
  · exact Fin.ext (by show 0 + 1 * (y 3).val = (y 3).val; omega)
theorem qBlk_grid {e : EltTy} (Y : Fin 2 → Fin 3 → Vec F S768x128 e) (h : Fin 2) (b : Fin 3) : qBlk (qGrid Y) h b = Y h b := by
  funext y
  have h0 : (y 0).val < 768 := (y 0).isLt
  have h1 : (y 1).val < 128 := (y 1).isLt
  have key : ∀ h' b' y', h' = h → b' = b → y' = y → Y h' b' y' = Y h b y := by rintro _ _ _ rfl rfl rfl; rfl
  refine key _ _ _ (Fin.ext (by show (128 * h.val + 1 * (y 1).val) / 128 = h.val; omega)) (Fin.ext (by show (768 * b.val + 1 * (y 0).val) / 768 = b.val; omega)) (funext fun a => ?_)
  fin_cases a
  · exact Fin.ext (by show (768 * b.val + 1 * (y 0).val) % 768 = (y 0).val; omega)
  · exact Fin.ext (by show (128 * h.val + 1 * (y 1).val) % 128 = (y 1).val; omega)
theorem kBlk_pair {e : EltTy} (Y : Fin 2 → Vec F S768x128 e) (h : Fin 2) : kBlk (kPair Y) h = Y h := by
  funext y
  have h0 : (y 0).val < 768 := (y 0).isLt
  have h1 : (y 1).val < 128 := (y 1).isLt
  have key : ∀ h' y', h' = h → y' = y → Y h' y' = Y h y := by rintro _ _ rfl rfl; rfl
  refine key _ _ (Fin.ext (by show (128 * h.val + 1 * (y 1).val) / 128 = h.val; omega)) (funext fun a => ?_)
  fin_cases a
  · exact Fin.ext (by show 0 + 1 * (y 0).val = (y 0).val; omega)
  · exact Fin.ext (by show (128 * h.val + 1 * (y 1).val) % 128 = (y 1).val; omega)

theorem kPair_puts {e : EltTy} (x : Vec F S768x256 e) (w0 w1 : Vec F S768x128 e) : kPut (kPut x 0 w0) 1 w1 = kPair fun h => if h = 0 then w0 else w1 :=
  kExt fun h => by rw [kBlk_pair, kBlk_put, kBlk_put]; fin_cases h <;> rfl
theorem rGrid_puts (x : Vec F S2x3x1x768 .f32) (Y : Fin 2 → Fin 3 → Vec F S1x1x1x768 .f32) :
    rPut (rPut (rPut (rPut (rPut (rPut x 0 0 (Y 0 0)) 0 1 (Y 0 1)) 0 2 (Y 0 2)) 1 0 (Y 1 0)) 1 1 (Y 1 1)) 1 2 (Y 1 2) = rGrid Y :=
  rExt fun h b => by
    rw [rBlk_grid]; simp only [rBlk_put]
    fin_cases h <;> fin_cases b <;> rfl
theorem qGrid_puts {e : EltTy} (x : Vec F S2304x256 e) (Y : Fin 2 → Fin 3 → Vec F S768x128 e) :
    qPut (qPut (qPut (qPut (qPut (qPut x 0 0 (Y 0 0)) 0 1 (Y 0 1)) 0 2 (Y 0 2)) 1 0 (Y 1 0)) 1 1 (Y 1 1)) 1 2 (Y 1 2) = qGrid Y :=
  qExt fun h b => by
    rw [qBlk_grid]; simp only [qBlk_put]
    fin_cases h <;> fin_cases b <;> rfl

/-- What a point keeps of its key block's tiles. -/
def kvOf (x3 x4 : Vec F S768x256 .bf16) (x8 : Vec F S768x256 .f32) : KV F :=
  ⟨k0_pay111 (kBlk x3 0), k0_pay112 (kBlk x3 1), k0_pay113 (kBlk x4 0), k0_pay114 (kBlk x4 1), k0_pay115 (kBlk x3 0), k0_pay116 (kBlk x3 1), k0_pay117 (cBlk x8 0), k0_pay118 (cBlk x8 1)⟩
/-- The loops start from zeros. -/
def carry0 : Carry F := (k0_pay120 (F := F), k0_pay121 (F := F), k0_pay122 (F := F), k0_pay123 (F := F), k0_pay124 (F := F), k0_pay125 (F := F))

/-- The state after a point's loops. -/
def pointSt (i : grid0.Coords) (kv : KV F) (x2 x5 : Vec F S2304x256 .bf16) (x7 x9 x16 x13 : Vec F S2x3x1x768 .f32) (x15 : Vec F S2x3x128x768 .f32) : St F :=
  let s := iterM (i 1).val (BitVec.ofNat 32 (i 1).val) (k0_t1_loop i).lb 1#32 k0_pay119 kv x2 x5 x7 x9 x16 (k0_t1_loop i).trips (carry0, x13, x15)
  iterU (i 1).val kv x2 x5 x7 x9 x16 (k0_t3_loop i).trips (s.1, s.2.1, s.2.2)

theorem pointSt_eq (i : grid0.Coords) (kv : KV F) (x2 x5 : Vec F S2304x256 .bf16) (x7 x9 x16 x13 : Vec F S2x3x1x768 .f32) (x15 : Vec F S2x3x128x768 .f32)
    (a a' : Carry F) (y13 y13' : Vec F S2x3x1x768 .f32) (y15 y15' : Vec F S2x3x128x768 .f32)
    (hM : (a, y13, y15) = iterM (i 1).val (BitVec.ofNat 32 (i 1).val) (k0_t1_loop i).lb 1#32 k0_pay119 kv x2 x5 x7 x9 x16 (k0_t1_loop i).trips (carry0, x13, x15))
    (hU : (a', y13', y15') = iterU (i 1).val kv x2 x5 x7 x9 x16 (k0_t3_loop i).trips (a, y13, y15)) :
    pointSt i kv x2 x5 x7 x9 x16 x13 x15 = (a', y13', y15') := by
  unfold pointSt; rw [← hM]; exact hU.symm

def dkOut (s : St F) : Vec F S768x256 .bf16 := kPair fun h => if h = 0 then k0_pay5 s.1.1 else k0_pay8 s.1.2.2.2.1
def dvOut (s : St F) : Vec F S768x256 .bf16 := kPair fun h => if h = 0 then k0_pay6 s.1.2.1 else k0_pay9 s.1.2.2.2.2.1
def dckOut (s : St F) : Vec F S768x256 .f32 := kPair fun h => if h = 0 then k0_pay7 s.1.2.2.1 else k0_pay10 s.1.2.2.2.2.2
/-- The gradient of the queries, from its transposed accumulator. -/
def dqOut (x15 : Vec F S2x3x128x768 .f32) : Vec F S2304x256 .bf16 := qGrid fun h b => k0_pay11 (tBlk x15 h b)
/-- Each query's product of the output with its gradient, summed over the lanes. -/
def dlAll (x5 : Vec F S2304x256 .bf16) (x6 : Vec F S2304x256 .f32) : Vec F S2x3x1x768 .f32 := rGrid fun h b => k0_pay14 (qBlk x5 h b) (qBlk x6 h b)

variable {mQ : Memref sig .tc .vmem S2304x256 .bf16} {mQ32 : Memref sig .tc .vmem S2304x256 .f32} {mK : Memref sig .tc .vmem S768x256 .bf16} {mK32 : Memref sig .tc .vmem S768x256 .f32}
theorem ldQ32 (f : BufTy.Contents (Elt F) mQ32.view.ty) (h : Fin 2) (b : Fin 3) {off : Fin 2 → ℕ} (inb : ∀ a, off a + S768x128.size a ≤ S2304x256.size a) (e : off = ![768 * b.val, 128 * h.val]) :
    mQ32.view.readAt (Elt F) (Rect.unit (s := S2304x256) off S768x128.size inb).toLoadRect f = qBlk (mQ32.view.read (Elt F) f) h b :=
  View.readAt_unit _ f inb e (inbQ h b)
theorem ldK (f : BufTy.Contents (Elt F) mK.view.ty) (h : Fin 2) {off : Fin 2 → ℕ} (inb : ∀ a, off a + S768x128.size a ≤ S768x256.size a) (e : off = ![0, 128 * h.val]) :
    mK.view.readAt (Elt F) (Rect.unit (s := S768x256) off S768x128.size inb).toLoadRect f = kBlk (mK.view.read (Elt F) f) h :=
  View.readAt_unit _ f inb e (inbK h)
theorem ldC (f : BufTy.Contents (Elt F) mK32.view.ty) (h : Fin 2) {off : Fin 2 → ℕ} (inb : ∀ a, off a + S768x1.size a ≤ S768x256.size a) (e : off = ![0, 128 * h.val]) :
    mK32.view.readAt (Elt F) (Rect.unit (s := S768x256) off S768x1.size inb).toLoadRect f = cBlk (mK32.view.read (Elt F) f) h :=
  View.readAt_unit _ f inb e (inbC h)
theorem stQ (f : BufTy.Contents (Elt F) mQ.view.ty) (h : Fin 2) (b : Fin 3) {off : Fin 2 → ℕ} (inb : ∀ a, off a + S768x128.size a ≤ S2304x256.size a) (e : off = ![768 * b.val, 128 * h.val])
    (w : Vec F S768x128 .bf16) (L : List (View.Piece (Elt F) S2304x256 .bf16)) :
    mQ.view.read (Elt F) (mQ.view.writes (Elt F) f (⟨Rect.unit (s := S2304x256) off S768x128.size inb, w⟩ :: L)) = qPut (mQ.view.read (Elt F) (mQ.view.writes (Elt F) f L)) h b w :=
  View.read_writes_cons_put _ f inb w L e
theorem stK (f : BufTy.Contents (Elt F) mK.view.ty) (h : Fin 2) {off : Fin 2 → ℕ} (inb : ∀ a, off a + S768x128.size a ≤ S768x256.size a) (e : off = ![0, 128 * h.val])
    (w : Vec F S768x128 .bf16) (L : List (View.Piece (Elt F) S768x256 .bf16)) :
    mK.view.read (Elt F) (mK.view.writes (Elt F) f (⟨Rect.unit (s := S768x256) off S768x128.size inb, w⟩ :: L)) = kPut (mK.view.read (Elt F) (mK.view.writes (Elt F) f L)) h w :=
  View.read_writes_cons_put _ f inb w L e
theorem stK32 (f : BufTy.Contents (Elt F) mK32.view.ty) (h : Fin 2) {off : Fin 2 → ℕ} (inb : ∀ a, off a + S768x128.size a ≤ S768x256.size a) (e : off = ![0, 128 * h.val])
    (w : Vec F S768x128 .f32) (L : List (View.Piece (Elt F) S768x256 .f32)) :
    mK32.view.read (Elt F) (mK32.view.writes (Elt F) f (⟨Rect.unit (s := S768x256) off S768x128.size inb, w⟩ :: L)) = kPut (mK32.view.read (Elt F) (mK32.view.writes (Elt F) f L)) h w :=
  View.read_writes_cons_put _ f inb w L e

end Cert.Proof.PI

end
-- ==== Proof.PI.Trips.lean ====
/-
  The two loops trips run on the memrefs, with their results as functions of Spec.lean.
-/
module

public import proofs.«01_k».proof.Proof.PI.Spec
public import Idealize.ShloMosaic.Lib.Tactic.Stretches

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem of1 : ∀ (i : grid0.Coords) (k : Fin (k0_t1_loop i).trips), k0_off1 i k = ![768 * (blk (i 1).val k.val).val, 128 * (0 : Fin 2).val] := by decide +kernel
theorem of2 : ∀ (i : grid0.Coords) (k : Fin (k0_t1_loop i).trips), k0_off2 i k = ![(0 : Fin 2).val, (blk (i 1).val k.val).val, 0, 0] := by decide +kernel
theorem of3 : ∀ (i : grid0.Coords) (k : Fin (k0_t1_loop i).trips), k0_off3 i k = ![(0 : Fin 2).val, (blk (i 1).val k.val).val, 0, 0] := by decide +kernel
theorem of4 : ∀ (i : grid0.Coords) (k : Fin (k0_t1_loop i).trips), k0_off4 i k = ![768 * (blk (i 1).val k.val).val, 128 * (1 : Fin 2).val] := by decide +kernel
theorem of5 : ∀ (i : grid0.Coords) (k : Fin (k0_t1_loop i).trips), k0_off5 i k = ![(1 : Fin 2).val, (blk (i 1).val k.val).val, 0, 0] := by decide +kernel
theorem of6 : ∀ (i : grid0.Coords) (k : Fin (k0_t1_loop i).trips), k0_off6 i k = ![(1 : Fin 2).val, (blk (i 1).val k.val).val, 0, 0] := by decide +kernel
theorem of13 : ∀ (i : grid0.Coords) (k : Fin (k0_t3_loop i).trips), k0_off13 i k = ![768 * (blk (i 1).val (k.val + 1)).val, 128 * (0 : Fin 2).val] := by decide +kernel
theorem of14 : ∀ (i : grid0.Coords) (k : Fin (k0_t3_loop i).trips), k0_off14 i k = ![(0 : Fin 2).val, (blk (i 1).val (k.val + 1)).val, 0, 0] := by decide +kernel
theorem of15 : ∀ (i : grid0.Coords) (k : Fin (k0_t3_loop i).trips), k0_off15 i k = ![(0 : Fin 2).val, (blk (i 1).val (k.val + 1)).val, 0, 0] := by decide +kernel
theorem of16 : ∀ (i : grid0.Coords) (k : Fin (k0_t3_loop i).trips), k0_off16 i k = ![768 * (blk (i 1).val (k.val + 1)).val, 128 * (1 : Fin 2).val] := by decide +kernel
theorem of17 : ∀ (i : grid0.Coords) (k : Fin (k0_t3_loop i).trips), k0_off17 i k = ![(1 : Fin 2).val, (blk (i 1).val (k.val + 1)).val, 0, 0] := by decide +kernel
theorem of18 : ∀ (i : grid0.Coords) (k : Fin (k0_t3_loop i).trips), k0_off18 i k = ![(1 : Fin 2).val, (blk (i 1).val (k.val + 1)).val, 0, 0] := by decide +kernel

set_option maxHeartbeats 4000000 in
/-- One trip of the loop over the block on the diagonal, with what it yields and stores. -/
theorem tripM_run (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (arg1 v41 c1 : BitVec 32) (diff : IVec S768x768 32) (kv : KV F) (x2 : Vec F S2304x256 .bf16) (x5 : Vec F S2304x256 .bf16) (x7 : Vec F S2x3x1x768 .f32) (x9 : Vec F S2x3x1x768 .f32) (x16 : Vec F S2x3x1x768 .f32) (x13 : Vec F S2x3x1x768 .f32) (x15 : Vec F S2x3x128x768 .f32)
    (k : Fin (k0_t1_loop i).trips) (acc : Carry F) (E : Set ℕ) :
    (iprop((arg2.view.loc (c : Thread nD τ) ↦[arg2.view.set]{fullShare} harg2.unread x2) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} harg9.unread x9) ∗ (arg16.view.loc (c : Thread nD τ) ↦[arg16.view.set]{fullShare} harg16.unread x16) ∗ (arg13.view.loc (c : Thread nD τ) ↦[arg13.view.set]{fullShare} harg13.unread x13) ∗ (arg15.view.loc (c : Thread nD τ) ↦[arg15.view.set]{fullShare} harg15.unread x15)) : sProp 𝕄)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 kv.k0 kv.k1 kv.v0 kv.v1 kv.t0 kv.t1 kv.c0 kv.c1 diff v41 c1 k acc)
          (fun r => iprop(⌜r = (tripM arg1 (Scf.iv v41 c1 k.val) diff kv x2 x5 x7 x9 x16 (blk (i 1).val k.val) (acc, x13, x15)).1⌝ ∗ (arg2.view.loc (c : Thread nD τ) ↦[arg2.view.set]{fullShare} harg2.unread x2) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} harg9.unread x9) ∗ (arg16.view.loc (c : Thread nD τ) ↦[arg16.view.set]{fullShare} harg16.unread x16) ∗ owns (c : Thread nD τ) arg13 fullShare (tripM arg1 (Scf.iv v41 c1 k.val) diff kv x2 x5 x7 x9 x16 (blk (i 1).val k.val) (acc, x13, x15)).2.1 ∗ owns (c : Thread nD τ) arg15 fullShare (tripM arg1 (Scf.iv v41 c1 k.val) diff kv x2 x5 x7 x9 x16 (blk (i 1).val k.val) (acc, x13, x15)).2.2)) := by
  unfold k0_t1_body owns
  iintro ⟨H2, H5, H7, H9, H16, H13, H15⟩
  sl_exec
  sl_step
  isplitr
  · ipureintro
    (try sl_open_run); (try sl_open_pay); simp only [ldQ _ 0 _ _ (of1 i k), ldQ _ 1 _ _ (of4 i k), ldR _ 0 _ _ (of2 i k), ldR _ 1 _ _ (of5 i k), ldT _ 0 _ _ (of3 i k), ldT _ 1 _ _ (of6 i k), stR _ 0 _ _ (of2 i k), stR _ 1 _ _ (of5 i k), stT _ 0 _ _ (of3 i k), stT _ 1 _ _ (of6 i k), View.writes_nil, harg2.read_unread, harg5.read_unread, harg7.read_unread, harg9.read_unread, harg16.read_unread, harg13.read_unread, harg15.read_unread, rBlk_rPut, tBlk_tPut]
    rfl
  isplitl [H2]; · iexact H2
  isplitl [H5]; · iexact H5
  isplitl [H7]; · iexact H7
  isplitl [H9]; · iexact H9
  isplitl [H16]; · iexact H16
  isplitl [H13]
  · iexists _; isplitr
    rotate_left
    · iexact H13
    · ipureintro
      (try sl_open_run); (try sl_open_pay); simp only [ldQ _ 0 _ _ (of1 i k), ldQ _ 1 _ _ (of4 i k), ldR _ 0 _ _ (of2 i k), ldR _ 1 _ _ (of5 i k), ldT _ 0 _ _ (of3 i k), ldT _ 1 _ _ (of6 i k), stR _ 0 _ _ (of2 i k), stR _ 1 _ _ (of5 i k), stT _ 0 _ _ (of3 i k), stT _ 1 _ _ (of6 i k), View.writes_nil, harg2.read_unread, harg5.read_unread, harg7.read_unread, harg9.read_unread, harg16.read_unread, harg13.read_unread, harg15.read_unread, rBlk_rPut, tBlk_tPut]
      rfl
  · iexists _; isplitr
    rotate_left
    · iexact H15
    · ipureintro
      (try sl_open_run); (try sl_open_pay); simp only [ldQ _ 0 _ _ (of1 i k), ldQ _ 1 _ _ (of4 i k), ldR _ 0 _ _ (of2 i k), ldR _ 1 _ _ (of5 i k), ldT _ 0 _ _ (of3 i k), ldT _ 1 _ _ (of6 i k), stR _ 0 _ _ (of2 i k), stR _ 1 _ _ (of5 i k), stT _ 0 _ _ (of3 i k), stT _ 1 _ _ (of6 i k), View.writes_nil, harg2.read_unread, harg5.read_unread, harg7.read_unread, harg9.read_unread, harg16.read_unread, harg13.read_unread, harg15.read_unread, rBlk_rPut, tBlk_tPut]
      rfl

set_option maxHeartbeats 4000000 in
/-- One trip of the loop over the blocks after it, with what it yields and stores. -/
theorem tripU_run (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (v63 : BitVec 32) (kv : KV F) (x2 : Vec F S2304x256 .bf16) (x5 : Vec F S2304x256 .bf16) (x7 : Vec F S2x3x1x768 .f32) (x9 : Vec F S2x3x1x768 .f32) (x16 : Vec F S2x3x1x768 .f32) (x13 : Vec F S2x3x1x768 .f32) (x15 : Vec F S2x3x128x768 .f32)
    (k : Fin (k0_t3_loop i).trips) (acc : Carry F) (E : Set ℕ) :
    (iprop((arg2.view.loc (c : Thread nD τ) ↦[arg2.view.set]{fullShare} harg2.unread x2) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} harg9.unread x9) ∗ (arg16.view.loc (c : Thread nD τ) ↦[arg16.view.set]{fullShare} harg16.unread x16) ∗ (arg13.view.loc (c : Thread nD τ) ↦[arg13.view.set]{fullShare} harg13.unread x13) ∗ (arg15.view.loc (c : Thread nD τ) ↦[arg15.view.set]{fullShare} harg15.unread x15)) : sProp 𝕄)
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 kv.k0 kv.k1 kv.v0 kv.v1 kv.t0 kv.t1 kv.c0 kv.c1 v63 k acc)
          (fun r => iprop(⌜r = (tripU kv x2 x5 x7 x9 x16 (blk (i 1).val (k.val + 1)) (acc, x13, x15)).1⌝ ∗ (arg2.view.loc (c : Thread nD τ) ↦[arg2.view.set]{fullShare} harg2.unread x2) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} harg9.unread x9) ∗ (arg16.view.loc (c : Thread nD τ) ↦[arg16.view.set]{fullShare} harg16.unread x16) ∗ owns (c : Thread nD τ) arg13 fullShare (tripU kv x2 x5 x7 x9 x16 (blk (i 1).val (k.val + 1)) (acc, x13, x15)).2.1 ∗ owns (c : Thread nD τ) arg15 fullShare (tripU kv x2 x5 x7 x9 x16 (blk (i 1).val (k.val + 1)) (acc, x13, x15)).2.2)) := by
  unfold k0_t3_body owns
  iintro ⟨H2, H5, H7, H9, H16, H13, H15⟩
  sl_exec
  sl_step
  isplitr
  · ipureintro
    (try sl_open_run); (try sl_open_pay); simp only [ldQ _ 0 _ _ (of13 i k), ldQ _ 1 _ _ (of16 i k), ldR _ 0 _ _ (of14 i k), ldR _ 1 _ _ (of17 i k), ldT _ 0 _ _ (of15 i k), ldT _ 1 _ _ (of18 i k), stR _ 0 _ _ (of14 i k), stR _ 1 _ _ (of17 i k), stT _ 0 _ _ (of15 i k), stT _ 1 _ _ (of18 i k), View.writes_nil, harg2.read_unread, harg5.read_unread, harg7.read_unread, harg9.read_unread, harg16.read_unread, harg13.read_unread, harg15.read_unread, rBlk_rPut, tBlk_tPut]
    rfl
  isplitl [H2]; · iexact H2
  isplitl [H5]; · iexact H5
  isplitl [H7]; · iexact H7
  isplitl [H9]; · iexact H9
  isplitl [H16]; · iexact H16
  isplitl [H13]
  · iexists _; isplitr
    rotate_left
    · iexact H13
    · ipureintro
      (try sl_open_run); (try sl_open_pay); simp only [ldQ _ 0 _ _ (of13 i k), ldQ _ 1 _ _ (of16 i k), ldR _ 0 _ _ (of14 i k), ldR _ 1 _ _ (of17 i k), ldT _ 0 _ _ (of15 i k), ldT _ 1 _ _ (of18 i k), stR _ 0 _ _ (of14 i k), stR _ 1 _ _ (of17 i k), stT _ 0 _ _ (of15 i k), stT _ 1 _ _ (of18 i k), View.writes_nil, harg2.read_unread, harg5.read_unread, harg7.read_unread, harg9.read_unread, harg16.read_unread, harg13.read_unread, harg15.read_unread, rBlk_rPut, tBlk_tPut]
      rfl
  · iexists _; isplitr
    rotate_left
    · iexact H15
    · ipureintro
      (try sl_open_run); (try sl_open_pay); simp only [ldQ _ 0 _ _ (of13 i k), ldQ _ 1 _ _ (of16 i k), ldR _ 0 _ _ (of14 i k), ldR _ 1 _ _ (of17 i k), ldT _ 0 _ _ (of15 i k), ldT _ 1 _ _ (of18 i k), stR _ 0 _ _ (of14 i k), stR _ 1 _ _ (of17 i k), stT _ 0 _ _ (of15 i k), stT _ 1 _ _ (of18 i k), View.writes_nil, harg2.read_unread, harg5.read_unread, harg7.read_unread, harg9.read_unread, harg16.read_unread, harg13.read_unread, harg15.read_unread, rBlk_rPut, tBlk_tPut]
      rfl

end Cert.Proof.PI

end
-- ==== Proof.PI.LoopInvs.lean ====
/-
  The loops' invariants: what they carry and what their buffers hold before trip `n` is the iterate of the trips before it.
-/
module

public import proofs.«01_k».proof.Proof.PI.Trips

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop holds before trip `n`. -/
def invM (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (arg1 : BitVec 32) (v4 v6 v8 v10 : FVec F S768x128 .bf16) (v13 v16 : FVec F S128x768 .bf16) (v18 v20 : FVec F S768x1 .f32) (v23 : IVec S768x768 32) (v41 c1 : BitVec 32) (x2 : Vec F S2304x256 .bf16) (x5 : Vec F S2304x256 .bf16) (x7 : Vec F S2x3x1x768 .f32) (x9 : Vec F S2x3x1x768 .f32) (x16 : Vec F S2x3x1x768 .f32) (x13 : Vec F S2x3x1x768 .f32) (x15 : Vec F S2x3x128x768 .f32) (init : Carry F) (n : ℕ) (acc : Carry F) : sProp 𝕄 :=
  iprop((arg2.view.loc (c : Thread nD τ) ↦[arg2.view.set]{fullShare} harg2.unread x2) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} harg9.unread x9) ∗ (arg16.view.loc (c : Thread nD τ) ↦[arg16.view.set]{fullShare} harg16.unread x16) ∗ (arg13.view.loc (c : Thread nD τ) ↦[arg13.view.set]{fullShare} harg13.unread (iterM (i 1).val arg1 v41 c1 v23 ⟨v4, v6, v8, v10, v13, v16, v18, v20⟩ x2 x5 x7 x9 x16 n (init, x13, x15)).2.1) ∗ (arg15.view.loc (c : Thread nD τ) ↦[arg15.view.set]{fullShare} harg15.unread (iterM (i 1).val arg1 v41 c1 v23 ⟨v4, v6, v8, v10, v13, v16, v18, v20⟩ x2 x5 x7 x9 x16 n (init, x13, x15)).2.2) ∗ ⌜acc = (iterM (i 1).val arg1 v41 c1 v23 ⟨v4, v6, v8, v10, v13, v16, v18, v20⟩ x2 x5 x7 x9 x16 n (init, x13, x15)).1⌝)

set_option maxHeartbeats 1000000 in
set_option warn.classDefReducibility false in
@[sl_loop] def loopM (c : Dev nD) (E : Set ℕ) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (arg1 : BitVec 32) (v4 v6 v8 v10 : FVec F S768x128 .bf16) (v13 v16 : FVec F S128x768 .bf16) (v18 v20 : FVec F S768x1 .f32) (v23 : IVec S768x768 32) (v41 c1 : BitVec 32) (x2 : Vec F S2304x256 .bf16) (x5 : Vec F S2304x256 .bf16) (x7 : Vec F S2x3x1x768 .f32) (x9 : Vec F S2x3x1x768 .f32) (x16 : Vec F S2x3x1x768 .f32) (x13 : Vec F S2x3x1x768 .f32) (x15 : Vec F S2x3x128x768 .f32) (init : Carry F) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 v6 v8 v10 v13 v16 v18 v20 v23 v41 c1 init where
  inv := invM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 v6 v8 v10 v13 v16 v18 v20 v23 v41 c1 x2 x5 x7 x9 x16 x13 x15 init
  step k acc := by
    unfold invM
    iintro ⟨H2, H5, H7, H9, H16, H13, H15, %h_acc⟩
    subst h_acc
    iapply (wp_wand_r Idealize.ShloMosaic.frame (wpE (defs₀ (F := F)) Variants.none (c : Thread nD τ) none) E)
    isplitl [H2 H5 H7 H9 H16 H13 H15]
    · iapply (tripM_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v41 c1 v23 ⟨v4, v6, v8, v10, v13, v16, v18, v20⟩ x2 x5 x7 x9 x16 (iterM (i 1).val arg1 v41 c1 v23 ⟨v4, v6, v8, v10, v13, v16, v18, v20⟩ x2 x5 x7 x9 x16 k.val (init, x13, x15)).2.1 (iterM (i 1).val arg1 v41 c1 v23 ⟨v4, v6, v8, v10, v13, v16, v18, v20⟩ x2 x5 x7 x9 x16 k.val (init, x13, x15)).2.2 k (iterM (i 1).val arg1 v41 c1 v23 ⟨v4, v6, v8, v10, v13, v16, v18, v20⟩ x2 x5 x7 x9 x16 k.val (init, x13, x15)).1 E)
      isplitl [H2]; · iexact H2
      isplitl [H5]; · iexact H5
      isplitl [H7]; · iexact H7
      isplitl [H9]; · iexact H9
      isplitl [H16]; · iexact H16
      isplitl [H13]; · iexact H13
      iexact H15
    · unfold owns
      iintro %yld ⟨%h_res, H2, H5, H7, H9, H16, ⟨%f13, %hf13, H13⟩, ⟨%f15, %hf15, H15⟩⟩
      obtain rfl := harg13.eq_unread hf13; obtain rfl := harg15.eq_unread hf15
      isplitl [H2]; · iexact H2
      isplitl [H5]; · iexact H5
      isplitl [H7]; · iexact H7
      isplitl [H9]; · iexact H9
      isplitl [H16]; · iexact H16
      isplitl [H13]; · iexact H13
      isplitl [H15]; · iexact H15
      ipureintro; exact h_res

set_option warn.classDefReducibility false in
/-- After the loop its state by one equation. -/
@[instance] def exitM (c : Dev nD) (E : Set ℕ) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (arg1 : BitVec 32) (v4 v6 v8 v10 : FVec F S768x128 .bf16) (v13 v16 : FVec F S128x768 .bf16) (v18 v20 : FVec F S768x1 .f32) (v23 : IVec S768x768 32) (v41 c1 : BitVec 32) (x2 : Vec F S2304x256 .bf16) (x5 : Vec F S2304x256 .bf16) (x7 : Vec F S2x3x1x768 .f32) (x9 : Vec F S2x3x1x768 .f32) (x16 : Vec F S2x3x1x768 .f32) (x13 : Vec F S2x3x1x768 .f32) (x15 : Vec F S2x3x128x768 .f32) (init : Carry F) :
    LoopExit (loopM c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 v6 v8 v10 v13 v16 v18 v20 v23 v41 c1 x2 x5 x7 x9 x16 x13 x15 init) where
  post := fun acc => iprop((arg2.view.loc (c : Thread nD τ) ↦[arg2.view.set]{fullShare} harg2.unread x2) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} harg9.unread x9) ∗ (arg16.view.loc (c : Thread nD τ) ↦[arg16.view.set]{fullShare} harg16.unread x16) ∗ (∃ y13 y15, (arg13.view.loc (c : Thread nD τ) ↦[arg13.view.set]{fullShare} harg13.unread y13) ∗ (arg15.view.loc (c : Thread nD τ) ↦[arg15.view.set]{fullShare} harg15.unread y15) ∗ ⌜(acc, y13, y15) = iterM (i 1).val arg1 v41 c1 v23 ⟨v4, v6, v8, v10, v13, v16, v18, v20⟩ x2 x5 x7 x9 x16 (k0_t1_loop i).trips (init, x13, x15)⌝))
  exit acc := by
    refine (show invM c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 v6 v8 v10 v13 v16 v18 v20 v23 v41 c1 x2 x5 x7 x9 x16 x13 x15 init (k0_t1_loop i).trips acc ⊢ _ from ?_)
    unfold invM
    iintro ⟨H2, H5, H7, H9, H16, H13, H15, %h_acc⟩
    isplitl [H2]; · iexact H2
    isplitl [H5]; · iexact H5
    isplitl [H7]; · iexact H7
    isplitl [H9]; · iexact H9
    isplitl [H16]; · iexact H16
    iexists _; iexists _
    isplitl [H13]; · iexact H13
    isplitl [H15]; · iexact H15
    ipureintro; rw [h_acc]

/-- What the loop holds before trip `n`. -/
def invU (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (v4 v6 v8 v10 : FVec F S768x128 .bf16) (v13 v16 : FVec F S128x768 .bf16) (v18 v20 : FVec F S768x1 .f32) (v63 : BitVec 32) (x2 : Vec F S2304x256 .bf16) (x5 : Vec F S2304x256 .bf16) (x7 : Vec F S2x3x1x768 .f32) (x9 : Vec F S2x3x1x768 .f32) (x16 : Vec F S2x3x1x768 .f32) (x13 : Vec F S2x3x1x768 .f32) (x15 : Vec F S2x3x128x768 .f32) (init : Carry F) (n : ℕ) (acc : Carry F) : sProp 𝕄 :=
  iprop((arg2.view.loc (c : Thread nD τ) ↦[arg2.view.set]{fullShare} harg2.unread x2) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} harg9.unread x9) ∗ (arg16.view.loc (c : Thread nD τ) ↦[arg16.view.set]{fullShare} harg16.unread x16) ∗ (arg13.view.loc (c : Thread nD τ) ↦[arg13.view.set]{fullShare} harg13.unread (iterU (i 1).val ⟨v4, v6, v8, v10, v13, v16, v18, v20⟩ x2 x5 x7 x9 x16 n (init, x13, x15)).2.1) ∗ (arg15.view.loc (c : Thread nD τ) ↦[arg15.view.set]{fullShare} harg15.unread (iterU (i 1).val ⟨v4, v6, v8, v10, v13, v16, v18, v20⟩ x2 x5 x7 x9 x16 n (init, x13, x15)).2.2) ∗ ⌜acc = (iterU (i 1).val ⟨v4, v6, v8, v10, v13, v16, v18, v20⟩ x2 x5 x7 x9 x16 n (init, x13, x15)).1⌝)

set_option maxHeartbeats 1000000 in
set_option warn.classDefReducibility false in
@[sl_loop] def loopU (c : Dev nD) (E : Set ℕ) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (v4 v6 v8 v10 : FVec F S768x128 .bf16) (v13 v16 : FVec F S128x768 .bf16) (v18 v20 : FVec F S768x1 .f32) (v63 : BitVec 32) (x2 : Vec F S2304x256 .bf16) (x5 : Vec F S2304x256 .bf16) (x7 : Vec F S2x3x1x768 .f32) (x9 : Vec F S2x3x1x768 .f32) (x16 : Vec F S2x3x1x768 .f32) (x13 : Vec F S2x3x1x768 .f32) (x15 : Vec F S2x3x128x768 .f32) (init : Carry F) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v8 v10 v13 v16 v18 v20 v63 init where
  inv := invU c i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v8 v10 v13 v16 v18 v20 v63 x2 x5 x7 x9 x16 x13 x15 init
  step k acc := by
    unfold invU
    iintro ⟨H2, H5, H7, H9, H16, H13, H15, %h_acc⟩
    subst h_acc
    iapply (wp_wand_r Idealize.ShloMosaic.frame (wpE (defs₀ (F := F)) Variants.none (c : Thread nD τ) none) E)
    isplitl [H2 H5 H7 H9 H16 H13 H15]
    · iapply (tripU_run c i arg2 harg2 arg3 harg3 arg4 harg4 arg5 harg5 arg6 harg6 arg7 harg7 arg8 harg8 arg9 harg9 arg10 harg10 arg11 harg11 arg12 harg12 arg13 harg13 arg14 harg14 arg15 harg15 arg16 harg16 v63 ⟨v4, v6, v8, v10, v13, v16, v18, v20⟩ x2 x5 x7 x9 x16 (iterU (i 1).val ⟨v4, v6, v8, v10, v13, v16, v18, v20⟩ x2 x5 x7 x9 x16 k.val (init, x13, x15)).2.1 (iterU (i 1).val ⟨v4, v6, v8, v10, v13, v16, v18, v20⟩ x2 x5 x7 x9 x16 k.val (init, x13, x15)).2.2 k (iterU (i 1).val ⟨v4, v6, v8, v10, v13, v16, v18, v20⟩ x2 x5 x7 x9 x16 k.val (init, x13, x15)).1 E)
      isplitl [H2]; · iexact H2
      isplitl [H5]; · iexact H5
      isplitl [H7]; · iexact H7
      isplitl [H9]; · iexact H9
      isplitl [H16]; · iexact H16
      isplitl [H13]; · iexact H13
      iexact H15
    · unfold owns
      iintro %yld ⟨%h_res, H2, H5, H7, H9, H16, ⟨%f13, %hf13, H13⟩, ⟨%f15, %hf15, H15⟩⟩
      obtain rfl := harg13.eq_unread hf13; obtain rfl := harg15.eq_unread hf15
      isplitl [H2]; · iexact H2
      isplitl [H5]; · iexact H5
      isplitl [H7]; · iexact H7
      isplitl [H9]; · iexact H9
      isplitl [H16]; · iexact H16
      isplitl [H13]; · iexact H13
      isplitl [H15]; · iexact H15
      ipureintro; exact h_res

set_option warn.classDefReducibility false in
/-- After the loop its state by one equation. -/
@[instance] def exitU (c : Dev nD) (E : Set ℕ) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (v4 v6 v8 v10 : FVec F S768x128 .bf16) (v13 v16 : FVec F S128x768 .bf16) (v18 v20 : FVec F S768x1 .f32) (v63 : BitVec 32) (x2 : Vec F S2304x256 .bf16) (x5 : Vec F S2304x256 .bf16) (x7 : Vec F S2x3x1x768 .f32) (x9 : Vec F S2x3x1x768 .f32) (x16 : Vec F S2x3x1x768 .f32) (x13 : Vec F S2x3x1x768 .f32) (x15 : Vec F S2x3x128x768 .f32) (init : Carry F) :
    LoopExit (loopU c E i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v8 v10 v13 v16 v18 v20 v63 x2 x5 x7 x9 x16 x13 x15 init) where
  post := fun acc => iprop((arg2.view.loc (c : Thread nD τ) ↦[arg2.view.set]{fullShare} harg2.unread x2) ∗ (arg5.view.loc (c : Thread nD τ) ↦[arg5.view.set]{fullShare} harg5.unread x5) ∗ (arg7.view.loc (c : Thread nD τ) ↦[arg7.view.set]{fullShare} harg7.unread x7) ∗ (arg9.view.loc (c : Thread nD τ) ↦[arg9.view.set]{fullShare} harg9.unread x9) ∗ (arg16.view.loc (c : Thread nD τ) ↦[arg16.view.set]{fullShare} harg16.unread x16) ∗ (∃ y13 y15, (arg13.view.loc (c : Thread nD τ) ↦[arg13.view.set]{fullShare} harg13.unread y13) ∗ (arg15.view.loc (c : Thread nD τ) ↦[arg15.view.set]{fullShare} harg15.unread y15) ∗ ⌜(acc, y13, y15) = iterU (i 1).val ⟨v4, v6, v8, v10, v13, v16, v18, v20⟩ x2 x5 x7 x9 x16 (k0_t3_loop i).trips (init, x13, x15)⌝))
  exit acc := by
    refine (show invU c i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v8 v10 v13 v16 v18 v20 v63 x2 x5 x7 x9 x16 x13 x15 init (k0_t3_loop i).trips acc ⊢ _ from ?_)
    unfold invU
    iintro ⟨H2, H5, H7, H9, H16, H13, H15, %h_acc⟩
    isplitl [H2]; · iexact H2
    isplitl [H5]; · iexact H5
    isplitl [H7]; · iexact H7
    isplitl [H9]; · iexact H9
    isplitl [H16]; · iexact H16
    iexists _; iexists _
    isplitl [H13]; · iexact H13
    isplitl [H15]; · iexact H15
    ipureintro; rw [h_acc]

set_option warn.classDefReducibility false in
/-- Loop 2 runs no trip: what it is given it yields. -/
@[sl_loop] def loopZ2 (c : Dev nD) (E : Set ℕ) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (arg1 : BitVec 32) (v4 v6 v8 v10 : FVec F S768x128 .bf16) (v13 v16 : FVec F S128x768 .bf16) (v18 v20 : FVec F S768x1 .f32) (v23 : IVec S768x768 32) (v74 : BitVec 32) (init : Carry F) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v4 v6 v8 v10 v13 v16 v18 v20 v23 v74 init where
  inv := fun _ acc => iprop(⌜acc = init⌝)
  step := fun k acc => (Nat.not_lt_zero k.val (by have h := k.isLt; have e : (k0_t2_loop i).trips = 0 := trips2 i; exact e ▸ h)).elim

set_option warn.classDefReducibility false in
/-- Loop 4 runs no trip: what it is given it yields. -/
@[sl_loop] def loopZ4 (c : Dev nD) (E : Set ℕ) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (v4 : FVec F S768x128 .bf16) (v6 : FVec F S768x128 .bf16) (v8 : FVec F S768x128 .bf16) (v10 : FVec F S768x128 .bf16) (v13 : FVec F S128x768 .bf16) (v16 : FVec F S128x768 .bf16) (v18 : FVec F S768x1 .f32) (v20 : FVec F S768x1 .f32) (v81 : BitVec 32) (init : Carry F) :
    LoopInvTy_k0_t4 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v8 v10 v13 v16 v18 v20 v81 init where
  inv := fun _ acc => iprop(⌜acc = init⌝)
  step := fun k acc => (Nat.not_lt_zero k.val (by have h := k.isLt; have e : (k0_t4_loop i).trips = 0 := trips4 i; exact e ▸ h)).elim

end Cert.Proof.PI

end
-- ==== Proof.PI.Part16.lean ====
/-
  The first part of the body: at the first key block the scratch buffers and the gates' gradient are set up, then the key block's tiles are read.
-/
module

public import proofs.«01_k».proof.Proof.PI.Point
public import proofs.«01_k».proof.Proof.PI.LoopInvs
public import proofs.«01_k».proof.Proof.PI.Base

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The words the first part leaves to the second. -/
def w24 (i : grid0.Coords) : BitVec 32 := Scalar.muli (BitVec.ofNat 32 (i 1).val) 768#32
def w25 (i : grid0.Coords) : BitVec 32 := Scalar.divsi (w24 i) 768#32
def w36 (i : grid0.Coords) : BitVec 1 := Scalar.cmpi .ne (Scalar.subi (Scalar.extui (Scalar.cmpi .sgt (w24 i) 0#32)) (Scalar.extui (Scalar.cmpi .slt (w24 i) 0#32))) (Scalar.subi (Scalar.extui (Scalar.cmpi .sgt 768#32 0#32)) (Scalar.extui (Scalar.cmpi .slt 768#32 0#32)))

/-- The six stores of the sums over the lanes put the whole buffer together. -/
theorem dl_pieces {arg5 : Memref sig .tc .vmem S2304x256 .bf16} {arg6 : Memref sig .tc .vmem S2304x256 .f32} {arg16 : Memref sig .tc .vmem S2x3x1x768 .f32} (f5 : BufTy.Contents (Elt F) arg5.view.ty) (f6 : BufTy.Contents (Elt F) arg6.view.ty) (f : BufTy.Contents (Elt F) arg16.view.ty)
    (i12 : ∀ a, (![1, 2, 0, 0] : Fin 4 → ℕ) a + S1x1x1x768.size a ≤ S2x3x1x768.size a) (j12 : ∀ a, (![1536, 128] : Fin 2 → ℕ) a + S768x128.size a ≤ S2304x256.size a) (i11 : ∀ a, (![1, 1, 0, 0] : Fin 4 → ℕ) a + S1x1x1x768.size a ≤ S2x3x1x768.size a) (j11 : ∀ a, (![768, 128] : Fin 2 → ℕ) a + S768x128.size a ≤ S2304x256.size a) (i10 : ∀ a, (![1, 0, 0, 0] : Fin 4 → ℕ) a + S1x1x1x768.size a ≤ S2x3x1x768.size a) (j10 : ∀ a, (![0, 128] : Fin 2 → ℕ) a + S768x128.size a ≤ S2304x256.size a) (i02 : ∀ a, (![0, 2, 0, 0] : Fin 4 → ℕ) a + S1x1x1x768.size a ≤ S2x3x1x768.size a) (j02 : ∀ a, (![1536, 0] : Fin 2 → ℕ) a + S768x128.size a ≤ S2304x256.size a) (i01 : ∀ a, (![0, 1, 0, 0] : Fin 4 → ℕ) a + S1x1x1x768.size a ≤ S2x3x1x768.size a) (j01 : ∀ a, (![768, 0] : Fin 2 → ℕ) a + S768x128.size a ≤ S2304x256.size a) (i00 : ∀ a, (![0, 0, 0, 0] : Fin 4 → ℕ) a + S1x1x1x768.size a ≤ S2x3x1x768.size a) (j00 : ∀ a, (![0, 0] : Fin 2 → ℕ) a + S768x128.size a ≤ S2304x256.size a) :
    arg16.view.read (Elt F) (arg16.view.writes (Elt F) f [⟨Rect.unit (s := S2x3x1x768) ![1, 2, 0, 0] S1x1x1x768.size i12, k0_pay14 (arg5.view.readAt (Elt F) (Rect.unit (s := S2304x256) ![1536, 128] S768x128.size j12).toLoadRect f5) (arg6.view.readAt (Elt F) (Rect.unit (s := S2304x256) ![1536, 128] S768x128.size j12).toLoadRect f6)⟩, ⟨Rect.unit (s := S2x3x1x768) ![1, 1, 0, 0] S1x1x1x768.size i11, k0_pay14 (arg5.view.readAt (Elt F) (Rect.unit (s := S2304x256) ![768, 128] S768x128.size j11).toLoadRect f5) (arg6.view.readAt (Elt F) (Rect.unit (s := S2304x256) ![768, 128] S768x128.size j11).toLoadRect f6)⟩, ⟨Rect.unit (s := S2x3x1x768) ![1, 0, 0, 0] S1x1x1x768.size i10, k0_pay14 (arg5.view.readAt (Elt F) (Rect.unit (s := S2304x256) ![0, 128] S768x128.size j10).toLoadRect f5) (arg6.view.readAt (Elt F) (Rect.unit (s := S2304x256) ![0, 128] S768x128.size j10).toLoadRect f6)⟩, ⟨Rect.unit (s := S2x3x1x768) ![0, 2, 0, 0] S1x1x1x768.size i02, k0_pay14 (arg5.view.readAt (Elt F) (Rect.unit (s := S2304x256) ![1536, 0] S768x128.size j02).toLoadRect f5) (arg6.view.readAt (Elt F) (Rect.unit (s := S2304x256) ![1536, 0] S768x128.size j02).toLoadRect f6)⟩, ⟨Rect.unit (s := S2x3x1x768) ![0, 1, 0, 0] S1x1x1x768.size i01, k0_pay14 (arg5.view.readAt (Elt F) (Rect.unit (s := S2304x256) ![768, 0] S768x128.size j01).toLoadRect f5) (arg6.view.readAt (Elt F) (Rect.unit (s := S2304x256) ![768, 0] S768x128.size j01).toLoadRect f6)⟩, ⟨Rect.unit (s := S2x3x1x768) ![0, 0, 0, 0] S1x1x1x768.size i00, k0_pay14 (arg5.view.readAt (Elt F) (Rect.unit (s := S2304x256) ![0, 0] S768x128.size j00).toLoadRect f5) (arg6.view.readAt (Elt F) (Rect.unit (s := S2304x256) ![0, 0] S768x128.size j00).toLoadRect f6)⟩]) = dlAll (arg5.view.read (Elt F) f5) (arg6.view.read (Elt F) f6) := by
  simp only [ldQ (off := ![0, 0]) _ 0 0 _ rfl, ldQ32 (off := ![0, 0]) _ 0 0 _ rfl, ldQ (off := ![768, 0]) _ 0 1 _ rfl, ldQ32 (off := ![768, 0]) _ 0 1 _ rfl, ldQ (off := ![1536, 0]) _ 0 2 _ rfl, ldQ32 (off := ![1536, 0]) _ 0 2 _ rfl, ldQ (off := ![0, 128]) _ 1 0 _ rfl, ldQ32 (off := ![0, 128]) _ 1 0 _ rfl, ldQ (off := ![768, 128]) _ 1 1 _ rfl, ldQ32 (off := ![768, 128]) _ 1 1 _ rfl, ldQ (off := ![1536, 128]) _ 1 2 _ rfl, ldQ32 (off := ![1536, 128]) _ 1 2 _ rfl, stR (off := ![0, 0, 0, 0]) _ 0 0 _ rfl, stR (off := ![0, 1, 0, 0]) _ 0 1 _ rfl, stR (off := ![0, 2, 0, 0]) _ 0 2 _ rfl, stR (off := ![1, 0, 0, 0]) _ 1 0 _ rfl, stR (off := ![1, 1, 0, 0]) _ 1 1 _ rfl, stR (off := ![1, 2, 0, 0]) _ 1 2 _ rfl]
  exact rGrid_puts _ (fun h b => k0_pay14 (qBlk (arg5.view.read (Elt F) f5) h b) (qBlk (arg6.view.read (Elt F) f6) h b))

set_option maxHeartbeats 4000000 in
theorem part16N (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (hc0 : ¬cond0 i) (x3 : Vec F S768x256 .bf16) (x4 : Vec F S768x256 .bf16) (x8 : Vec F S768x256 .f32) (E : Set ℕ) :
    (iprop((arg3.view.loc (c : Thread nD τ) ↦[arg3.view.set]{fullShare} harg3.unread x3) ∗ (arg4.view.loc (c : Thread nD τ) ↦[arg4.view.set]{fullShare} harg4.unread x4) ∗ (arg8.view.loc (c : Thread nD τ) ↦[arg8.view.set]{fullShare} harg8.unread x8)) : sProp 𝕄)
      ⊢ wp frame (wpE (defs₀ (F := F)) Variants.none (c : Thread nD τ) none) E (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = ⟨BitVec.ofNat 32 (i 1).val, (kvOf x3 x4 x8).k0, (kvOf x3 x4 x8).k1, (kvOf x3 x4 x8).v0, (kvOf x3 x4 x8).v1, (kvOf x3 x4 x8).t0, (kvOf x3 x4 x8).t1, (kvOf x3 x4 x8).c0, (kvOf x3 x4 x8).c1, k0_pay119, w24 i, 768#32, w25 i, w36 i⟩⌝ ∗ (arg3.view.loc (c : Thread nD τ) ↦[arg3.view.set]{fullShare} harg3.unread x3) ∗ (arg4.view.loc (c : Thread nD τ) ↦[arg4.view.set]{fullShare} harg4.unread x4) ∗ (arg8.view.loc (c : Thread nD τ) ↦[arg8.view.set]{fullShare} harg8.unread x8))) := by
  rw [k0_part16_eq_skeleton]; unfold k0_part16_skel
  iintro ⟨H3, H4, H8⟩
  sl_exec (disch := first | sl_exact hc0)
  sl_step
  isplitr
  · ipureintro
    (try sl_open_run); (try sl_open_pay); simp only [ldK (off := ![0, 0]) _ 0 _ rfl, ldK (off := ![0, 128]) _ 1 _ rfl, ldC (off := ![0, 0]) _ 0 _ rfl, ldC (off := ![0, 128]) _ 1 _ rfl, harg3.read_unread, harg4.read_unread, harg8.read_unread]
    rfl
  isplitl [H3]; · iexact H3
  isplitl [H4]; · iexact H4
  iexact H8

set_option maxHeartbeats 4000000 in
theorem part16A (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (hc0 : cond0 i) (x3 : Vec F S768x256 .bf16) (x4 : Vec F S768x256 .bf16) (x5 : Vec F S2304x256 .bf16) (x6 : Vec F S2304x256 .f32) (x8 : Vec F S768x256 .f32) (x13 : Vec F S2x3x1x768 .f32) (x15 : Vec F S2x3x128x768 .f32) (x16 : Vec F S2x3x1x768 .f32) (E : Set ℕ) :
    (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} harg8.unread x8) ∗ (arg13.view.loc (c : Thread nD τ) ↦[arg13.view.set]{fullShare} harg13.unread x13) ∗ (arg15.view.loc (c : Thread nD τ) ↦[arg15.view.set]{fullShare} harg15.unread x15) ∗ (arg16.view.loc (c : Thread nD τ) ↦[arg16.view.set]{fullShare} harg16.unread x16)) : sProp 𝕄)
      ⊢ wp frame (wpE (defs₀ (F := F)) Variants.none (c : Thread nD τ) none) E (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun r => iprop(⌜r = ⟨BitVec.ofNat 32 (i 1).val, (kvOf x3 x4 x8).k0, (kvOf x3 x4 x8).k1, (kvOf x3 x4 x8).v0, (kvOf x3 x4 x8).v1, (kvOf x3 x4 x8).t0, (kvOf x3 x4 x8).t1, (kvOf x3 x4 x8).c0, (kvOf x3 x4 x8).c1, k0_pay119, w24 i, 768#32, w25 i, w36 i⟩⌝ ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg8.view.loc (c : Thread nD τ) ↦[arg8.view.set]{fullShare} harg8.unread x8) ∗ owns (c : Thread nD τ) arg13 fullShare (k0_pay13 (F := F)) ∗ owns (c : Thread nD τ) arg15 fullShare (k0_pay12 (F := F)) ∗ owns (c : Thread nD τ) arg16 fullShare (dlAll x5 x6))) := by
  rw [k0_part16_eq_skeleton]; unfold k0_part16_skel owns
  iintro ⟨H3, H4, H5, H6, H8, H13, H15, H16⟩
  sl_exec (disch := first | sl_exact hc0)
  sl_step
  isplitr
  · ipureintro
    have e30 : kBlk x3 0 = arg3.view.readAt (Elt F) (Rect.unit (s := S768x256) ![0, 0] S768x128.size inb_S768x256_S768x128_0_0).toLoadRect (harg3.unread x3) := ((ldK (off := ![0, 0]) _ 0 _ rfl).trans (congrArg (kBlk · 0) (harg3.read_unread _))).symm
    have e31 : kBlk x3 1 = arg3.view.readAt (Elt F) (Rect.unit (s := S768x256) ![0, 128] S768x128.size inb_S768x256_S768x128_0_128).toLoadRect (harg3.unread x3) := ((ldK (off := ![0, 128]) _ 1 _ rfl).trans (congrArg (kBlk · 1) (harg3.read_unread _))).symm
    have e40 : kBlk x4 0 = arg4.view.readAt (Elt F) (Rect.unit (s := S768x256) ![0, 0] S768x128.size inb_S768x256_S768x128_0_0).toLoadRect (harg4.unread x4) := ((ldK (off := ![0, 0]) _ 0 _ rfl).trans (congrArg (kBlk · 0) (harg4.read_unread _))).symm
    have e41 : kBlk x4 1 = arg4.view.readAt (Elt F) (Rect.unit (s := S768x256) ![0, 128] S768x128.size inb_S768x256_S768x128_0_128).toLoadRect (harg4.unread x4) := ((ldK (off := ![0, 128]) _ 1 _ rfl).trans (congrArg (kBlk · 1) (harg4.read_unread _))).symm
    have e80 : cBlk x8 0 = arg8.view.readAt (Elt F) (Rect.unit (s := S768x256) ![0, 0] S768x1.size inb_S768x256_S768x1_0_0).toLoadRect (harg8.unread x8) := ((ldC (off := ![0, 0]) _ 0 _ rfl).trans (congrArg (cBlk · 0) (harg8.read_unread _))).symm
    have e81 : cBlk x8 1 = arg8.view.readAt (Elt F) (Rect.unit (s := S768x256) ![0, 128] S768x1.size inb_S768x256_S768x1_0_128).toLoadRect (harg8.unread x8) := ((ldC (off := ![0, 128]) _ 1 _ rfl).trans (congrArg (cBlk · 1) (harg8.read_unread _))).symm
    unfold kvOf; rw [e30, e31, e40, e41, e80, e81]; rfl
  isplitl [H3]; · iexact H3
  isplitl [H4]; · iexact H4
  isplitl [H5]; · iexact H5
  isplitl [H6]; · iexact H6
  isplitl [H8]; · iexact H8
  isplitl [H13]
  · iexists _; isplitr
    rotate_left
    · iexact H13
    · ipureintro
      exact View.read_writes_full _ _ _ _ _
  isplitl [H15]
  · iexists _; isplitr
    rotate_left
    · iexact H15
    · ipureintro
      exact View.read_writes_full _ _ _ _ _
  · iexists _; isplitr
    rotate_left
    · iexact H16
    · ipureintro
      sl_open_run; sl_open_pay
      refine (dl_pieces (arg5 := arg5) (arg6 := arg6) (harg5.unread x5) (harg6.unread x6) _ (by decide) (by decide) (by decide) (by decide) (by decide) (by decide) (by decide) (by decide) (by decide) (by decide) (by decide) (by decide)).trans ?_
      rw [harg5.read_unread, harg6.read_unread]

end Cert.Proof.PI

end
-- ==== Proof.PI.BodyA.lean ====
/-
  The body's run at the first key block.
-/
module

public import proofs.«01_k».proof.Proof.PI.Part16

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first key block: every memref owned at its contents, to what the point computes of them. -/
theorem bodyA (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (hc0 : cond0 i) (hc1 : ¬cond1 i) (x2 : Vec F S2304x256 .bf16) (x3 : Vec F S768x256 .bf16) (x4 : Vec F S768x256 .bf16) (x5 : Vec F S2304x256 .bf16) (x6 : Vec F S2304x256 .f32) (x7 : Vec F S2x3x1x768 .f32) (x8 : Vec F S768x256 .f32) (x9 : Vec F S2x3x1x768 .f32) (x10 : Vec F S2304x256 .bf16) (x11 : Vec F S768x256 .bf16) (x12 : Vec F S768x256 .bf16) (x13 : Vec F S2x3x1x768 .f32) (x14 : Vec F S768x256 .f32) (x15 : Vec F S2x3x128x768 .f32) (x16 : Vec F S2x3x1x768 .f32) (E : Set ℕ) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16) : sProp 𝕄)
      ⊢ wp frame (wpE (defs₀ (F := F)) Variants.none (c : Thread nD τ) none) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (dkOut (pointSt i (kvOf x3 x4 x8) x2 x5 x7 x9 (dlAll x5 x6) (k0_pay13 (F := F)) (k0_pay12 (F := F)))) ∗ owns (c : Thread nD τ) arg12 fullShare (dvOut (pointSt i (kvOf x3 x4 x8) x2 x5 x7 x9 (dlAll x5 x6) (k0_pay13 (F := F)) (k0_pay12 (F := F)))) ∗ owns (c : Thread nD τ) arg13 fullShare (pointSt i (kvOf x3 x4 x8) x2 x5 x7 x9 (dlAll x5 x6) (k0_pay13 (F := F)) (k0_pay12 (F := F))).2.1 ∗ owns (c : Thread nD τ) arg14 fullShare (dckOut (pointSt i (kvOf x3 x4 x8) x2 x5 x7 x9 (dlAll x5 x6) (k0_pay13 (F := F)) (k0_pay12 (F := F)))) ∗ owns (c : Thread nD τ) arg15 fullShare (pointSt i (kvOf x3 x4 x8) x2 x5 x7 x9 (dlAll x5 x6) (k0_pay13 (F := F)) (k0_pay12 (F := F))).2.2 ∗ owns (c : Thread nD τ) arg16 fullShare (dlAll x5 x6))) := by
  rw [cc0_fox_bwd_eq_skeleton]; unfold cc0_fox_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  rw [wp_bind]
  iapply (wp_wand_r Idealize.ShloMosaic.frame (wpE (defs₀ (F := F)) Variants.none (c : Thread nD τ) none) E)
  isplitl [H3 H4 H5 H6 H8 H13 H15 H16]
  · iapply (part16A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x3 x4 x5 x6 x8 x13 x15 x16 E)
    isplitl [H3]; · iexact H3
    isplitl [H4]; · iexact H4
    isplitl [H5]; · iexact H5
    isplitl [H6]; · iexact H6
    isplitl [H8]; · iexact H8
    isplitl [H13]; · iexact H13
    isplitl [H15]; · iexact H15
    iexact H16
  unfold owns
  iintro %r ⟨%hr, H3, H4, H5, H6, H8, ⟨%g13, %hg13, H13⟩, ⟨%g15, %hg15, H15⟩, ⟨%g16, %hg16, H16⟩⟩
  obtain rfl := harg13.eq_unread hg13; obtain rfl := harg15.eq_unread hg15; obtain rfl := harg16.eq_unread hg16
  subst hr
  dsimp only
  sl_exec (disch := first | sl_exact hc1)
  have hM := ‹(_, y13L0, y15L1) = (_ : St F)›
  have hU := ‹(_, y13L2, y15L3) = (_ : St F)›
  have key := pointSt_eq i (kvOf x3 x4 x8) x2 x5 x7 x9 (dlAll x5 x6) (k0_pay13 (F := F)) (k0_pay12 (F := F)) _ _ _ _ _ _ hM hU
  rw [key]
  sl_step
  isplitl [HL9]
  · iexists _; isplitr
    rotate_left
    · iexact HL9
    · ipureintro
      exact harg2.read_unread _
  isplitl [H3]
  · iexists _; isplitr
    rotate_left
    · iexact H3
    · ipureintro
      exact harg3.read_unread _
  isplitl [H4]
  · iexists _; isplitr
    rotate_left
    · iexact H4
    · ipureintro
      exact harg4.read_unread _
  isplitl [HL10]
  · iexists _; isplitr
    rotate_left
    · iexact HL10
    · ipureintro
      exact harg5.read_unread _
  isplitl [H6]
  · iexists _; isplitr
    rotate_left
    · iexact H6
    · ipureintro
      exact harg6.read_unread _
  isplitl [HL11]
  · iexists _; isplitr
    rotate_left
    · iexact HL11
    · ipureintro
      exact harg7.read_unread _
  isplitl [H8]
  · iexists _; isplitr
    rotate_left
    · iexact H8
    · ipureintro
      exact harg8.read_unread _
  isplitl [HL12]
  · iexists _; isplitr
    rotate_left
    · iexact HL12
    · ipureintro
      exact harg9.read_unread _
  isplitl [H10]
  · iexists _; isplitr
    rotate_left
    · iexact H10
    · ipureintro
      exact harg10.read_unread _
  isplitl [H11]
  · iexists _; isplitr
    rotate_left
    · iexact H11
    · ipureintro
      refine (stK (F := F) (mK := arg11) (off := ![0, 128]) _ 1 _ rfl _ _).trans ?_
      rw [stK (off := ![0, 0]) _ 0 _ rfl]
      exact kPair_puts _ _ _
  isplitl [H12]
  · iexists _; isplitr
    rotate_left
    · iexact H12
    · ipureintro
      refine (stK (F := F) (mK := arg12) (off := ![0, 128]) _ 1 _ rfl _ _).trans ?_
      rw [stK (off := ![0, 0]) _ 0 _ rfl]
      exact kPair_puts _ _ _
  isplitl [HL14]
  · iexists _; isplitr
    rotate_left
    · iexact HL14
    · ipureintro
      exact harg13.read_unread _
  isplitl [H14]
  · iexists _; isplitr
    rotate_left
    · iexact H14
    · ipureintro
      refine (stK32 (F := F) (mK32 := arg14) (off := ![0, 128]) _ 1 _ rfl _ _).trans ?_
      rw [stK32 (off := ![0, 0]) _ 0 _ rfl]
      exact kPair_puts _ _ _
  isplitl [HL15]
  · iexists _; isplitr
    rotate_left
    · iexact HL15
    · ipureintro
      exact harg15.read_unread _
  · iexists _; isplitr
    rotate_left
    · iexact HL13
    · ipureintro
      exact harg16.read_unread _

end Cert.Proof.PI

end
-- ==== Proof.PI.BodyB.lean ====
/-
  The body's run at the middle key block.
-/
module

public import proofs.«01_k».proof.Proof.PI.Part16

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the middle key block: every memref owned at its contents, to what the point computes of them. -/
theorem bodyB (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (hc0 : ¬cond0 i) (hc1 : ¬cond1 i) (x2 : Vec F S2304x256 .bf16) (x3 : Vec F S768x256 .bf16) (x4 : Vec F S768x256 .bf16) (x5 : Vec F S2304x256 .bf16) (x6 : Vec F S2304x256 .f32) (x7 : Vec F S2x3x1x768 .f32) (x8 : Vec F S768x256 .f32) (x9 : Vec F S2x3x1x768 .f32) (x10 : Vec F S2304x256 .bf16) (x11 : Vec F S768x256 .bf16) (x12 : Vec F S768x256 .bf16) (x13 : Vec F S2x3x1x768 .f32) (x14 : Vec F S768x256 .f32) (x15 : Vec F S2x3x128x768 .f32) (x16 : Vec F S2x3x1x768 .f32) (E : Set ℕ) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16) : sProp 𝕄)
      ⊢ wp frame (wpE (defs₀ (F := F)) Variants.none (c : Thread nD τ) none) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (dkOut (pointSt i (kvOf x3 x4 x8) x2 x5 x7 x9 x16 x13 x15)) ∗ owns (c : Thread nD τ) arg12 fullShare (dvOut (pointSt i (kvOf x3 x4 x8) x2 x5 x7 x9 x16 x13 x15)) ∗ owns (c : Thread nD τ) arg13 fullShare (pointSt i (kvOf x3 x4 x8) x2 x5 x7 x9 x16 x13 x15).2.1 ∗ owns (c : Thread nD τ) arg14 fullShare (dckOut (pointSt i (kvOf x3 x4 x8) x2 x5 x7 x9 x16 x13 x15)) ∗ owns (c : Thread nD τ) arg15 fullShare (pointSt i (kvOf x3 x4 x8) x2 x5 x7 x9 x16 x13 x15).2.2 ∗ owns (c : Thread nD τ) arg16 fullShare x16)) := by
  rw [cc0_fox_bwd_eq_skeleton]; unfold cc0_fox_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  rw [wp_bind]
  iapply (wp_wand_r Idealize.ShloMosaic.frame (wpE (defs₀ (F := F)) Variants.none (c : Thread nD τ) none) E)
  isplitl [H3 H4 H8]
  · iapply (part16N c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x3 x4 x8 E)
    isplitl [H3]; · iexact H3
    isplitl [H4]; · iexact H4
    iexact H8
  iintro %r ⟨%hr, H3, H4, H8⟩
  subst hr
  dsimp only
  sl_exec (disch := first | sl_exact hc1)
  have hM := ‹(_, y13L0, y15L1) = (_ : St F)›
  have hU := ‹(_, y13L2, y15L3) = (_ : St F)›
  have key := pointSt_eq i (kvOf x3 x4 x8) x2 x5 x7 x9 x16 x13 x15 _ _ _ _ _ _ hM hU
  rw [key]
  sl_step
  isplitl [HL9]
  · iexists _; isplitr
    rotate_left
    · iexact HL9
    · ipureintro
      exact harg2.read_unread _
  isplitl [H3]
  · iexists _; isplitr
    rotate_left
    · iexact H3
    · ipureintro
      exact harg3.read_unread _
  isplitl [H4]
  · iexists _; isplitr
    rotate_left
    · iexact H4
    · ipureintro
      exact harg4.read_unread _
  isplitl [HL10]
  · iexists _; isplitr
    rotate_left
    · iexact HL10
    · ipureintro
      exact harg5.read_unread _
  isplitl [H6]
  · iexists _; isplitr
    rotate_left
    · iexact H6
    · ipureintro
      exact harg6.read_unread _
  isplitl [HL11]
  · iexists _; isplitr
    rotate_left
    · iexact HL11
    · ipureintro
      exact harg7.read_unread _
  isplitl [H8]
  · iexists _; isplitr
    rotate_left
    · iexact H8
    · ipureintro
      exact harg8.read_unread _
  isplitl [HL12]
  · iexists _; isplitr
    rotate_left
    · iexact HL12
    · ipureintro
      exact harg9.read_unread _
  isplitl [H10]
  · iexists _; isplitr
    rotate_left
    · iexact H10
    · ipureintro
      exact harg10.read_unread _
  isplitl [H11]
  · iexists _; isplitr
    rotate_left
    · iexact H11
    · ipureintro
      refine (stK (F := F) (mK := arg11) (off := ![0, 128]) _ 1 _ rfl _ _).trans ?_
      rw [stK (off := ![0, 0]) _ 0 _ rfl]
      exact kPair_puts _ _ _
  isplitl [H12]
  · iexists _; isplitr
    rotate_left
    · iexact H12
    · ipureintro
      refine (stK (F := F) (mK := arg12) (off := ![0, 128]) _ 1 _ rfl _ _).trans ?_
      rw [stK (off := ![0, 0]) _ 0 _ rfl]
      exact kPair_puts _ _ _
  isplitl [HL14]
  · iexists _; isplitr
    rotate_left
    · iexact HL14
    · ipureintro
      exact harg13.read_unread _
  isplitl [H14]
  · iexists _; isplitr
    rotate_left
    · iexact H14
    · ipureintro
      refine (stK32 (F := F) (mK32 := arg14) (off := ![0, 128]) _ 1 _ rfl _ _).trans ?_
      rw [stK32 (off := ![0, 0]) _ 0 _ rfl]
      exact kPair_puts _ _ _
  isplitl [HL15]
  · iexists _; isplitr
    rotate_left
    · iexact HL15
    · ipureintro
      exact harg15.read_unread _
  · iexists _; isplitr
    rotate_left
    · iexact HL13
    · ipureintro
      exact harg16.read_unread _

end Cert.Proof.PI

end
-- ==== Proof.PI.BodyC.lean ====
/-
  The body's run at the last key block.
-/
module

public import proofs.«01_k».proof.Proof.PI.Part16

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The six stores of the gradient of the queries put the whole array together. -/
theorem dq_pieces {arg15 : Memref sig .tc .vmem S2x3x128x768 .f32} {arg10 : Memref sig .tc .vmem S2304x256 .bf16} (f15 : BufTy.Contents (Elt F) arg15.view.ty) (f : BufTy.Contents (Elt F) arg10.view.ty)
    (i12 : ∀ a, (![1, 2, 0, 0] : Fin 4 → ℕ) a + S1x1x128x768.size a ≤ S2x3x128x768.size a) (j12 : ∀ a, (![1536, 128] : Fin 2 → ℕ) a + S768x128.size a ≤ S2304x256.size a) (i11 : ∀ a, (![1, 1, 0, 0] : Fin 4 → ℕ) a + S1x1x128x768.size a ≤ S2x3x128x768.size a) (j11 : ∀ a, (![768, 128] : Fin 2 → ℕ) a + S768x128.size a ≤ S2304x256.size a) (i10 : ∀ a, (![1, 0, 0, 0] : Fin 4 → ℕ) a + S1x1x128x768.size a ≤ S2x3x128x768.size a) (j10 : ∀ a, (![0, 128] : Fin 2 → ℕ) a + S768x128.size a ≤ S2304x256.size a) (i02 : ∀ a, (![0, 2, 0, 0] : Fin 4 → ℕ) a + S1x1x128x768.size a ≤ S2x3x128x768.size a) (j02 : ∀ a, (![1536, 0] : Fin 2 → ℕ) a + S768x128.size a ≤ S2304x256.size a) (i01 : ∀ a, (![0, 1, 0, 0] : Fin 4 → ℕ) a + S1x1x128x768.size a ≤ S2x3x128x768.size a) (j01 : ∀ a, (![768, 0] : Fin 2 → ℕ) a + S768x128.size a ≤ S2304x256.size a) (i00 : ∀ a, (![0, 0, 0, 0] : Fin 4 → ℕ) a + S1x1x128x768.size a ≤ S2x3x128x768.size a) (j00 : ∀ a, (![0, 0] : Fin 2 → ℕ) a + S768x128.size a ≤ S2304x256.size a) :
    arg10.view.read (Elt F) (arg10.view.writes (Elt F) f [⟨Rect.unit (s := S2304x256) ![1536, 128] S768x128.size j12, k0_pay11 (arg15.view.readAt (Elt F) (Rect.unit (s := S2x3x128x768) ![1, 2, 0, 0] S1x1x128x768.size i12).toLoadRect f15)⟩, ⟨Rect.unit (s := S2304x256) ![768, 128] S768x128.size j11, k0_pay11 (arg15.view.readAt (Elt F) (Rect.unit (s := S2x3x128x768) ![1, 1, 0, 0] S1x1x128x768.size i11).toLoadRect f15)⟩, ⟨Rect.unit (s := S2304x256) ![0, 128] S768x128.size j10, k0_pay11 (arg15.view.readAt (Elt F) (Rect.unit (s := S2x3x128x768) ![1, 0, 0, 0] S1x1x128x768.size i10).toLoadRect f15)⟩, ⟨Rect.unit (s := S2304x256) ![1536, 0] S768x128.size j02, k0_pay11 (arg15.view.readAt (Elt F) (Rect.unit (s := S2x3x128x768) ![0, 2, 0, 0] S1x1x128x768.size i02).toLoadRect f15)⟩, ⟨Rect.unit (s := S2304x256) ![768, 0] S768x128.size j01, k0_pay11 (arg15.view.readAt (Elt F) (Rect.unit (s := S2x3x128x768) ![0, 1, 0, 0] S1x1x128x768.size i01).toLoadRect f15)⟩, ⟨Rect.unit (s := S2304x256) ![0, 0] S768x128.size j00, k0_pay11 (arg15.view.readAt (Elt F) (Rect.unit (s := S2x3x128x768) ![0, 0, 0, 0] S1x1x128x768.size i00).toLoadRect f15)⟩]) = dqOut (arg15.view.read (Elt F) f15) := by
  simp only [ldT (off := ![1, 2, 0, 0]) _ 1 2 _ rfl, stQ (off := ![1536, 128]) _ 1 2 _ rfl, ldT (off := ![1, 1, 0, 0]) _ 1 1 _ rfl, stQ (off := ![768, 128]) _ 1 1 _ rfl, ldT (off := ![1, 0, 0, 0]) _ 1 0 _ rfl, stQ (off := ![0, 128]) _ 1 0 _ rfl, ldT (off := ![0, 2, 0, 0]) _ 0 2 _ rfl, stQ (off := ![1536, 0]) _ 0 2 _ rfl, ldT (off := ![0, 1, 0, 0]) _ 0 1 _ rfl, stQ (off := ![768, 0]) _ 0 1 _ rfl, ldT (off := ![0, 0, 0, 0]) _ 0 0 _ rfl, stQ (off := ![0, 0]) _ 0 0 _ rfl]
  exact qGrid_puts (e := .bf16) _ (fun h b => k0_pay11 (tBlk (arg15.view.read (Elt F) f15) h b))

set_option maxHeartbeats 4000000 in
/-- The body at the last key block: every memref owned at its contents, to what the point computes of them. -/
theorem bodyC (c : Dev nD) (i : grid0.Coords) (arg2 : Memref sig .tc .vmem S2304x256 .bf16) (harg2 : arg2.IsWhole) (arg3 : Memref sig .tc .vmem S768x256 .bf16) (harg3 : arg3.IsWhole) (arg4 : Memref sig .tc .vmem S768x256 .bf16) (harg4 : arg4.IsWhole) (arg5 : Memref sig .tc .vmem S2304x256 .bf16) (harg5 : arg5.IsWhole) (arg6 : Memref sig .tc .vmem S2304x256 .f32) (harg6 : arg6.IsWhole) (arg7 : Memref sig .tc .vmem S2x3x1x768 .f32) (harg7 : arg7.IsWhole) (arg8 : Memref sig .tc .vmem S768x256 .f32) (harg8 : arg8.IsWhole) (arg9 : Memref sig .tc .vmem S2x3x1x768 .f32) (harg9 : arg9.IsWhole) (arg10 : Memref sig .tc .vmem S2304x256 .bf16) (harg10 : arg10.IsWhole) (arg11 : Memref sig .tc .vmem S768x256 .bf16) (harg11 : arg11.IsWhole) (arg12 : Memref sig .tc .vmem S768x256 .bf16) (harg12 : arg12.IsWhole) (arg13 : Memref sig .tc .vmem S2x3x1x768 .f32) (harg13 : arg13.IsWhole) (arg14 : Memref sig .tc .vmem S768x256 .f32) (harg14 : arg14.IsWhole) (arg15 : Memref sig .tc .vmem S2x3x128x768 .f32) (harg15 : arg15.IsWhole) (arg16 : Memref sig .tc .vmem S2x3x1x768 .f32) (harg16 : arg16.IsWhole) (hc0 : ¬cond0 i) (hc1 : cond1 i) (x2 : Vec F S2304x256 .bf16) (x3 : Vec F S768x256 .bf16) (x4 : Vec F S768x256 .bf16) (x5 : Vec F S2304x256 .bf16) (x6 : Vec F S2304x256 .f32) (x7 : Vec F S2x3x1x768 .f32) (x8 : Vec F S768x256 .f32) (x9 : Vec F S2x3x1x768 .f32) (x10 : Vec F S2304x256 .bf16) (x11 : Vec F S768x256 .bf16) (x12 : Vec F S768x256 .bf16) (x13 : Vec F S2x3x1x768 .f32) (x14 : Vec F S768x256 .f32) (x15 : Vec F S2x3x128x768 .f32) (x16 : Vec F S2x3x1x768 .f32) (E : Set ℕ) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16) : sProp 𝕄)
      ⊢ wp frame (wpE (defs₀ (F := F)) Variants.none (c : Thread nD τ) none) E (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (dqOut (pointSt i (kvOf x3 x4 x8) x2 x5 x7 x9 x16 x13 x15).2.2) ∗ owns (c : Thread nD τ) arg11 fullShare (dkOut (pointSt i (kvOf x3 x4 x8) x2 x5 x7 x9 x16 x13 x15)) ∗ owns (c : Thread nD τ) arg12 fullShare (dvOut (pointSt i (kvOf x3 x4 x8) x2 x5 x7 x9 x16 x13 x15)) ∗ owns (c : Thread nD τ) arg13 fullShare (pointSt i (kvOf x3 x4 x8) x2 x5 x7 x9 x16 x13 x15).2.1 ∗ owns (c : Thread nD τ) arg14 fullShare (dckOut (pointSt i (kvOf x3 x4 x8) x2 x5 x7 x9 x16 x13 x15)) ∗ owns (c : Thread nD τ) arg15 fullShare (pointSt i (kvOf x3 x4 x8) x2 x5 x7 x9 x16 x13 x15).2.2 ∗ owns (c : Thread nD τ) arg16 fullShare x16)) := by
  rw [cc0_fox_bwd_eq_skeleton]; unfold cc0_fox_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  rw [wp_bind]
  iapply (wp_wand_r Idealize.ShloMosaic.frame (wpE (defs₀ (F := F)) Variants.none (c : Thread nD τ) none) E)
  isplitl [H3 H4 H8]
  · iapply (part16N c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x3 x4 x8 E)
    isplitl [H3]; · iexact H3
    isplitl [H4]; · iexact H4
    iexact H8
  iintro %r ⟨%hr, H3, H4, H8⟩
  subst hr
  dsimp only
  sl_exec (disch := first | sl_exact hc1)
  have hM := ‹(_, y13L0, y15L1) = (_ : St F)›
  have hU := ‹(_, y13L2, y15L3) = (_ : St F)›
  have key := pointSt_eq i (kvOf x3 x4 x8) x2 x5 x7 x9 x16 x13 x15 _ _ _ _ _ _ hM hU
  rw [key]
  sl_step
  isplitl [HL9]
  · iexists _; isplitr
    rotate_left
    · iexact HL9
    · ipureintro
      exact harg2.read_unread _
  isplitl [H3]
  · iexists _; isplitr
    rotate_left
    · iexact H3
    · ipureintro
      exact harg3.read_unread _
  isplitl [H4]
  · iexists _; isplitr
    rotate_left
    · iexact H4
    · ipureintro
      exact harg4.read_unread _
  isplitl [HL10]
  · iexists _; isplitr
    rotate_left
    · iexact HL10
    · ipureintro
      exact harg5.read_unread _
  isplitl [H6]
  · iexists _; isplitr
    rotate_left
    · iexact H6
    · ipureintro
      exact harg6.read_unread _
  isplitl [HL11]
  · iexists _; isplitr
    rotate_left
    · iexact HL11
    · ipureintro
      exact harg7.read_unread _
  isplitl [H8]
  · iexists _; isplitr
    rotate_left
    · iexact H8
    · ipureintro
      exact harg8.read_unread _
  isplitl [HL12]
  · iexists _; isplitr
    rotate_left
    · iexact HL12
    · ipureintro
      exact harg9.read_unread _
  isplitl [H10]
  · iexists _; isplitr
    rotate_left
    · iexact H10
    · ipureintro
      sl_open_run; sl_open_pay
      refine (dq_pieces (arg15 := arg15) (arg10 := arg10) (harg15.unread _) _ (by decide) (by decide) (by decide) (by decide) (by decide) (by decide) (by decide) (by decide) (by decide) (by decide) (by decide) (by decide)).trans ?_
      rw [harg15.read_unread]
  isplitl [H11]
  · iexists _; isplitr
    rotate_left
    · iexact H11
    · ipureintro
      refine (stK (F := F) (mK := arg11) (off := ![0, 128]) _ 1 _ rfl _ _).trans ?_
      rw [stK (off := ![0, 0]) _ 0 _ rfl]
      exact kPair_puts _ _ _
  isplitl [H12]
  · iexists _; isplitr
    rotate_left
    · iexact H12
    · ipureintro
      refine (stK (F := F) (mK := arg12) (off := ![0, 128]) _ 1 _ rfl _ _).trans ?_
      rw [stK (off := ![0, 0]) _ 0 _ rfl]
      exact kPair_puts _ _ _
  isplitl [HL14]
  · iexists _; isplitr
    rotate_left
    · iexact HL14
    · ipureintro
      exact harg13.read_unread _
  isplitl [H14]
  · iexists _; isplitr
    rotate_left
    · iexact H14
    · ipureintro
      refine (stK32 (F := F) (mK32 := arg14) (off := ![0, 128]) _ 1 _ rfl _ _).trans ?_
      rw [stK32 (off := ![0, 0]) _ 0 _ rfl]
      exact kPair_puts _ _ _
  isplitl [HL15]
  · iexists _; isplitr
    rotate_left
    · iexact HL15
    · ipureintro
      exact harg15.read_unread _
  · iexists _; isplitr
    rotate_left
    · iexact HL13
    · ipureintro
      exact harg16.read_unread _

end Cert.Proof.PI

end
-- ==== Proof.PI.Frame.lean ====
/-
  The run of the whole program: what every point leaves, the body at every point, and the frame.
-/
module

public import proofs.«01_k».proof.Proof.PI.Base
public import proofs.«01_k».proof.Proof.PI.BodyA
public import proofs.«01_k».proof.Proof.PI.BodyB
public import proofs.«01_k».proof.Proof.PI.BodyC
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a point's body computes of its input blocks, given the row sums and the two accumulators it starts from. -/
def stepSt (c : Dev nD) (t : Fin cfg0.N) (dl y13 : Vec F S2x3x1x768 .f32) (y15 : Vec F S2x3x128x768 .f32) : St F :=
  pointSt (grid0.coords t) (kvOf (iblk m c 1 t) (iblk m c 2 t) (iblk m c 6 t)) (iblk m c 0 t) (iblk m c 3 t) (iblk m c 5 t) (iblk m c 7 t) dl y13 y15

/-- The row sums of the output with its gradient, over a point's blocks. -/
def dlAt (c : Dev nD) (t : Fin cfg0.N) : Vec F S2x3x1x768 .f32 := dlAll (iblk m c 3 t) (iblk m c 4 t)

/-- What the body leaves after the point at position `n`: the accumulators, and the row sums kept beside them. A head
    pair's first point starts from zero, the others from what the point before left. -/
def stAt (c : Dev nD) : (n : ℕ) → n < cfg0.N → St F × Vec F S2x3x1x768 .f32
  | 0, hn => (stepSt m c ⟨0, hn⟩ (dlAt m c ⟨0, hn⟩) k0_pay13 k0_pay12, dlAt m c ⟨0, hn⟩)
  | n + 1, hn =>
    if (n + 1) % 3 = 0 then (stepSt m c ⟨n + 1, hn⟩ (dlAt m c ⟨n + 1, hn⟩) k0_pay13 k0_pay12, dlAt m c ⟨n + 1, hn⟩)
    else (stepSt m c ⟨n + 1, hn⟩ (stAt c n (Nat.lt_of_succ_lt hn)).2 (stAt c n (Nat.lt_of_succ_lt hn)).1.2.1 (stAt c n (Nat.lt_of_succ_lt hn)).1.2.2, (stAt c n (Nat.lt_of_succ_lt hn)).2)

theorem stAt_first (c : Dev nD) (t : Fin cfg0.N) (h0 : t.val % 3 = 0) :
    stAt m c t.val t.isLt = (stepSt m c t (dlAt m c t) k0_pay13 k0_pay12, dlAt m c t) := by
  obtain ⟨n, hn⟩ := t
  cases n with
  | zero => rfl
  | succ n => exact if_pos h0

theorem stAt_next (c : Dev nD) (t : Fin cfg0.N) (h0 : ¬t.val % 3 = 0) :
    stAt m c t.val t.isLt = (stepSt m c t (stAt m c (t.val - 1) (Nat.lt_of_le_of_lt (Nat.sub_le _ _) t.isLt)).2 (stAt m c (t.val - 1) (Nat.lt_of_le_of_lt (Nat.sub_le _ _) t.isLt)).1.2.1 (stAt m c (t.val - 1) (Nat.lt_of_le_of_lt (Nat.sub_le _ _) t.isLt)).1.2.2, (stAt m c (t.val - 1) (Nat.lt_of_le_of_lt (Nat.sub_le _ _) t.isLt)).2) := by
  obtain ⟨n, hn⟩ := t
  cases n with
  | zero => exact absurd rfl h0
  | succ n => exact if_neg h0

/-- The invariant before position `n`: before the first point both scratch buffers hold anything, afterwards what the
    point before left in them. -/
def PhiS (c : Dev nD) : (n : ℕ) → n ≤ cfg0.N → sProp 𝕄
  | 0, _ => Pipeline.ΦA spec0 c
  | n + 1, hn => iprop(iprop(owns (c : Thread nD τ) scM_0 fullShare ((stAt m c n hn).1.2.2) ∗ owns (c : Thread nD τ) scM_1 fullShare ((stAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare ((stAt m c n hn).1.2.2) ∗ owns (c : Thread nD τ) scM_1 fullShare ((stAt m c n hn).2)) ∗ (∃ r, prngReg c r)) := rfl

theorem PhiS_pos (c : Dev nD) (n : ℕ) (h : n ≤ cfg0.N) (hz : n ≠ 0) :
    PhiS m c n h = iprop(iprop(owns (c : Thread nD τ) scM_0 fullShare ((stAt m c (n - 1) (by omega)).1.2.2) ∗ owns (c : Thread nD τ) scM_1 fullShare ((stAt m c (n - 1) (by omega)).2)) ∗ (∃ r, prngReg c r)) := by
  cases n with
  | zero => exact absurd rfl hz
  | succ n => rfl

/-- The pipeline's proof data on core `c`: the arrays as the region finds them; after a point each input's buffer at its
    block, each output's at what the point's accumulators say. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (stAt m c t.val t.isLt).1.2.2
    | ⟨9, _⟩ => dkOut (stAt m c t.val t.isLt).1
    | ⟨10, _⟩ => dvOut (stAt m c t.val t.isLt).1
    | ⟨11, _⟩ => (stAt m c t.val t.isLt).1.2.1
    | ⟨12, _⟩ => dckOut (stAt m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dqOut (stAt m c t.val t.isLt).1.2.2 := by dsimp only [dats]
theorem after_9 (c : Dev nD) (t : Fin cfg0.N) : (dats m 0 c).after 9 t = dkOut (stAt m c t.val t.isLt).1 := by dsimp only [dats]
theorem after_10 (c : Dev nD) (t : Fin cfg0.N) : (dats m 0 c).after 10 t = dvOut (stAt m c t.val t.isLt).1 := by dsimp only [dats]
theorem after_11 (c : Dev nD) (t : Fin cfg0.N) : (dats m 0 c).after 11 t = (stAt m c t.val t.isLt).1.2.1 := by dsimp only [dats]
theorem after_12 (c : Dev nD) (t : Fin cfg0.N) : (dats m 0 c).after 12 t = dckOut (stAt m c t.val t.isLt).1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem noFlush_11 : ∀ t : Fin cfg0.N, ¬t.val % 3 = 2 → (cfg0.win 11).flush t = false := by decide +kernel

/-- The gradient of the query side's bias stays in its buffer over a head pair's points. -/
theorem before_11 (c : Dev nD) (t : Fin cfg0.N) (h0 : ¬t.val % 3 = 0) (d) :
    (dats m 0 c).before 11 t d = (stAt m c (t.val - 1) (Nat.lt_of_le_of_lt (Nat.sub_le _ _) t.isLt)).1.2.1 := by
  have hN : t.val < 12 := lt_of_lt_of_eq t.isLt (show cfg0.N = 12 from N_0)
  rw [Dat.before_out_kept _ 11 rfl t (by omega) (noFlush_11 _ (by dsimp only; omega))
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_0 (c : Dev nD) (t : Fin cfg0.N) : (dats m 0 c).leavesExact 0 t = owns (c : Thread nD τ) (ms_0 t) fullShare (iblk m c 0 t) := by
  unfold Dat.leavesExact; rw [live_0 t, after_0]
theorem leaves_1 (c : Dev nD) (t : Fin cfg0.N) : (dats m 0 c).leavesExact 1 t = owns (c : Thread nD τ) (ms_1 t) fullShare (iblk m c 1 t) := by
  unfold Dat.leavesExact; rw [live_1 t, after_1]
theorem leaves_2 (c : Dev nD) (t : Fin cfg0.N) : (dats m 0 c).leavesExact 2 t = owns (c : Thread nD τ) (ms_2 t) fullShare (iblk m c 2 t) := by
  unfold Dat.leavesExact; rw [live_2 t, after_2]
theorem leaves_3 (c : Dev nD) (t : Fin cfg0.N) : (dats m 0 c).leavesExact 3 t = owns (c : Thread nD τ) (ms_3 t) fullShare (iblk m c 3 t) := by
  unfold Dat.leavesExact; rw [live_3 t, after_3]
theorem leaves_4 (c : Dev nD) (t : Fin cfg0.N) : (dats m 0 c).leavesExact 4 t = owns (c : Thread nD τ) (ms_4 t) fullShare (iblk m c 4 t) := by
  unfold Dat.leavesExact; rw [live_4 t, after_4]
theorem leaves_5 (c : Dev nD) (t : Fin cfg0.N) : (dats m 0 c).leavesExact 5 t = owns (c : Thread nD τ) (ms_5 t) fullShare (iblk m c 5 t) := by
  unfold Dat.leavesExact; rw [live_5 t, after_5]
theorem leaves_6 (c : Dev nD) (t : Fin cfg0.N) : (dats m 0 c).leavesExact 6 t = owns (c : Thread nD τ) (ms_6 t) fullShare (iblk m c 6 t) := by
  unfold Dat.leavesExact; rw [live_6 t, after_6]
theorem leaves_7 (c : Dev nD) (t : Fin cfg0.N) : (dats m 0 c).leavesExact 7 t = owns (c : Thread nD τ) (ms_7 t) fullShare (iblk m c 7 t) := by
  unfold Dat.leavesExact; rw [live_7 t, after_7]
theorem leaves_9 (c : Dev nD) (t : Fin cfg0.N) : (dats m 0 c).leavesExact 9 t = owns (c : Thread nD τ) (ms_9 t) fullShare (dkOut (stAt m c t.val t.isLt).1) := by
  unfold Dat.leavesExact; rw [live_9 t, after_9]
theorem leaves_10 (c : Dev nD) (t : Fin cfg0.N) : (dats m 0 c).leavesExact 10 t = owns (c : Thread nD τ) (ms_10 t) fullShare (dvOut (stAt m c t.val t.isLt).1) := by
  unfold Dat.leavesExact; rw [live_10 t, after_10]
theorem leaves_11 (c : Dev nD) (t : Fin cfg0.N) : (dats m 0 c).leavesExact 11 t = owns (c : Thread nD τ) (ms_11 t) fullShare ((stAt m c t.val t.isLt).1.2.1) := by
  unfold Dat.leavesExact; rw [live_11 t, after_11]
theorem leaves_12 (c : Dev nD) (t : Fin cfg0.N) : (dats m 0 c).leavesExact 12 t = owns (c : Thread nD τ) (ms_12 t) fullShare (dckOut (stAt m c t.val t.isLt).1) := by
  unfold Dat.leavesExact; rw [live_12 t, after_12]
theorem leaves_8 (c : Dev nD) (t : Fin cfg0.N) (h : cond1 (grid0.coords t)) : (dats m 0 c).leavesExact 8 t = owns (c : Thread nD τ) (ms_8 t) fullShare (dqOut (stAt m c t.val t.isLt).1.2.2) := by
  unfold Dat.leavesExact; rw [live_8 t h, after_8]

set_option maxHeartbeats 4000000 in
/-- The body at the very first point. -/
theorem sound_start (c : Dev nD) (t : Fin cfg0.N) (h0 : t.val % 3 = 0) (h1 : ¬t.val % 3 = 2) (hz : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_9, leaves_10, leaves_11, leaves_12]
  have hN : t.val < 12 := lt_of_lt_of_eq t.isLt (show cfg0.N = 12 from N_0)
  rw [Dat.leavesExact_idle (dats m 0 c) 8 t (idle_8 t (fun h => h1 ((hcond1 t).mp h))) (noFlush_8 t (fun h => h1 ((hcond1 t).mp h)))]
  rw [PhiS_castSucc m c t, PhiS_zero m c _ _ hz, PhiA_eq]
  rw [stAt_first m c t h0]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12 HS0 HS1]
  · iapply (bodyA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM_0 (Memref.isWhole_whole _) scM_1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) _ _ _ _ _ _ _ Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  iintro %r ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  iexact H12

set_option maxHeartbeats 4000000 in
/-- The body at a later head pair's first point. -/
theorem sound_first (c : Dev nD) (t : Fin cfg0.N) (h0 : t.val % 3 = 0) (h1 : ¬t.val % 3 = 2) (hz : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_9, leaves_10, leaves_11, leaves_12]
  have hN : t.val < 12 := lt_of_lt_of_eq t.isLt (show cfg0.N = 12 from N_0)
  rw [Dat.leavesExact_idle (dats m 0 c) 8 t (idle_8 t (fun h => h1 ((hcond1 t).mp h))) (noFlush_8 t (fun h => h1 ((hcond1 t).mp h)))]
  rw [PhiS_castSucc m c t, PhiS_pos m c _ _ hz]
  rw [stAt_first m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12 HS0 HS1]
  · iapply (bodyA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM_0 (Memref.isWhole_whole _) scM_1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) _ _ _ _ _ _ _ Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  iintro %r ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  iexact H12

set_option maxHeartbeats 4000000 in
/-- The body at a head pair's middle point. -/
theorem sound_mid (c : Dev nD) (t : Fin cfg0.N) (h0 : ¬t.val % 3 = 0) (h1 : ¬t.val % 3 = 2) (hz : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_9, leaves_10, leaves_11, leaves_12]
  have hN : t.val < 12 := lt_of_lt_of_eq t.isLt (show cfg0.N = 12 from N_0)
  rw [Dat.leavesExact_idle (dats m 0 c) 8 t (idle_8 t (fun h => h1 ((hcond1 t).mp h))) (noFlush_8 t (fun h => h1 ((hcond1 t).mp h)))]
  rw [PhiS_castSucc m c t, PhiS_pos m c _ _ hz]
  rw [stAt_next m c t h0]
  simp only [before_11 m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12 HS0 HS1]
  · iapply (bodyB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM_0 (Memref.isWhole_whole _) scM_1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) _ _ _ _ _ _ _ Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  iintro %r ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  iexact H12

set_option maxHeartbeats 4000000 in
/-- The body at a head pair's last point. -/
theorem sound_last (c : Dev nD) (t : Fin cfg0.N) (h0 : ¬t.val % 3 = 0) (h1 : t.val % 3 = 2) (hz : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7, leaves_9, leaves_10, leaves_11, leaves_12]
  have hN : t.val < 12 := lt_of_lt_of_eq t.isLt (show cfg0.N = 12 from N_0)
  rw [leaves_8 m c t ((hcond1 t).mpr h1)]
  rw [PhiS_castSucc m c t, PhiS_pos m c _ _ hz]
  rw [stAt_next m c t h0]
  simp only [before_11 m c t h0]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (wp_wand_r Idealize.ShloMosaic.frame (wpE (defs₀ (F := F)) Variants.none (c : Thread nD τ) none) Set.univ)
  isplitl [H0 H1 H2 H3 H4 H5 H6 H7 H8 H9 H10 H11 H12 HS0 HS1]
  · iapply (bodyC c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) scM_0 (Memref.isWhole_whole _) scM_1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) _ _ _ _ _ _ _ Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  iintro %r ⟨H0, H1, H2, H3, H4, H5, H6, H7, H8, H9, H10, H11, H12, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 3 = 0
  · have h1 : ¬t.val % 3 = 2 := by omega
    by_cases hz : t.val = 0
    · exact sound_start m c t h0 h1 hz
    · exact sound_first m c t h0 h1 hz
  · have hz : t.val ≠ 0 := fun h => h0 (by rw [h])
    by_cases h1 : t.val % 3 = 2
    · exact sound_last m c t h0 h1 hz
    · exact sound_mid m c t h0 h1 hz

theorem defs₀_row (t : Fin cfg0.N) :
    defs₀ (F := F) .tc cfg0.body (cfg0.bodyArgs t (cfg0.slots t)) = bodyAt0 t := by
  unfold defs₀; rw [Defs.onTc_tc]

/-- The body obligation of the launch, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 12 := N_0; omega)

-- the launch theorem's implicit arguments are found by unifying its conclusion with this one
set_option backward.isDefEq.respectTransparency.types false in
/-- Every run ends, with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.PI

end
-- ==== Proof.RI.Frame.lean ====
/-
  The reference's frame: it is a program of array operations only, which leaves its arguments alone.
-/
module

public import proofs.«01_k».proof.Defs
public import proofs.«01_k».proof.Proof.Gen.ReferenceIdeal
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.RI

set_option maxHeartbeats 4000000 in
/-- The reference runs and leaves its arguments as they were. -/
theorem frame : Cert.quiescent_ReferenceIdeal := by
  intro m g _
  hlo_run
  all_goals first
    | exact fun _ => ⟨trivial, trivial, trivial, trivial, trivial⟩
    | exact Idealize.ShloMosaic.sem_eq_zero_of_no_sems (sig := Cert.ReferenceIdeal.sig) (by decide) _

end Cert.Proof.RI

end
-- ==== Proof.Alg.Host.lean ====
/-
  The forward pass on the host, over an extended real as a float: the arrays the kernel is given, as terms over the
  arguments.
-/
module

public import proofs.«01_k».proof.Proof.Gen.KernelIdeal.Frame
public import Idealize.ShloMosaic.Lib.Claim
public import Idealize.ShloMosaic.Lib.StableHlo.RunRead
public import Idealize.ShloMosaic.Lib.Pointwise

@[expose] public section

set_option maxRecDepth 16384

noncomputable section

namespace Cert.Proof.Alg

open Cert.KernelIdeal Cert.KernelIdeal.Gen
open Idealize.ShloMosaic Idealize.ShloMosaic.TcCoe Idealize.ShloMosaic.Tactic
open Idealize.SL.Sem

variable (Q K W D : FVec Ideal S8x2064x64 .f32) (C : FVec Ideal S8x2064 .f32)

/-- The queries, scaled. -/
def qsT : FVec Ideal S8x2064x64 .f32 := mulf Q (broadcastInDim S8x2064x64 ![] bcast_S_S8x2064x64 (constant S_ .f32 1040187392#32))

/-- Which key is not after which query. -/
def maskT : IVec S1x2064x2064 1 :=
  broadcastInDim S1x2064x2064 ![1, 2] bcast_S2064x2064_S1x2064x2064_1_2
    (cmpi .sle (broadcastInDim S2064x2064 ![0, 1] bcast_S1x2064_S2064x2064_0_1 (broadcastInDim S1x2064 ![1] bcast_S2064_S1x2064_1 (iotaInDim S2064 32 0)))
      (broadcastInDim S2064x2064 ![0, 1] bcast_S2064x1_S2064x2064_0_1 (broadcastInDim S2064x1 ![0] bcast_S2064_S2064x1_0 (iotaInDim S2064 32 0))))

/-- The scores, masked. -/
def scT : FVec Ideal S8x2064x2064 .f32 :=
  select (broadcastInDim S8x2064x2064 ![0, 1, 2] bcast_S1x2064x2064_S8x2064x2064_0_1_2 maskT)
    (addf (Host.dotGeneral dot_S8x2064x64_S8x2064x64_S8x2064x2064_2_2_1_1_0_0 none (qsT Q) K)
      (subf (broadcastInDim S8x2064x2064 ![0, 1, 2] bcast_S8x2064x1_S8x2064x2064_0_1_2 (broadcastInDim S8x2064x1 ![0, 1] bcast_S8x2064_S8x2064x1_0_1 C))
        (broadcastInDim S8x2064x2064 ![0, 1, 2] bcast_S8x1x2064_S8x2064x2064_0_1_2 (broadcastInDim S8x1x2064 ![0, 2] bcast_S8x2064_S8x1x2064_0_2 C))))
    (broadcastInDim S8x2064x2064 ![] bcast_S_S8x2064x2064 (constant S_ .f32 4286578688#32))

/-- The greatest score of each query. -/
def mxT : FVec Ideal S8x2064 .f32 :=
  Host.reduce FloatOps.maximumf (scT Q K C) (constant S_ .f32 4286578688#32) reducesTo_S8x2064x2064_S8x2064_d2 h_S_

/-- The exponentials. -/
def exT : FVec Ideal S8x2064x2064 .f32 :=
  Host.exp (subf (scT Q K C) (broadcastInDim S8x2064x2064 ![0, 1, 2] bcast_S8x2064x1_S8x2064x2064_0_1_2 (broadcastInDim S8x2064x1 ![0, 1] bcast_S8x2064_S8x2064x1_0_1 (mxT Q K C))))

/-- The sum of each query's exponentials, and the probabilities. -/
def lT : FVec Ideal S8x2064 .f32 := Host.reduceAdd (exT Q K C) (constant S_ .f32 0#32) reducesTo_S8x2064x2064_S8x2064_d2 h_S_
def pT : FVec Ideal S8x2064x2064 .f32 :=
  Host.divf (exT Q K C) (broadcastInDim S8x2064x2064 ![0, 1, 2] bcast_S8x2064x1_S8x2064x2064_0_1_2 (broadcastInDim S8x2064x1 ![0, 1] bcast_S8x2064_S8x2064x1_0_1 (lT Q K C)))
/-- The output. -/
def oT : FVec Ideal S8x2064x64 .f32 := Host.dotGeneral dot_S8x2064x2064_S8x2064x64_S8x2064x64_2_1_1_2_0_0 none (pT Q K C) W
/-- Each query's log-sum. -/
def lseT : FVec Ideal S8x2064 .f32 :=
  shapeCast S8x2064 (addf (broadcastInDim S8x2064x1 ![0, 1] bcast_S8x2064_S8x2064x1_0_1 (mxT Q K C)) (Host.log (broadcastInDim S8x2064x1 ![0, 1] bcast_S8x2064_S8x2064x1_0_1 (lT Q K C)))) shapeCasts_S8x2064x1_S8x2064

/-- Rows laid out for the call: each head in 128 lanes, filled up with zeros. -/
def rowsT (X : FVec Ideal S8x2064x64 .f32) : FVec Ideal S2304x1024 .f32 :=
  shapeCast S2304x1024 (pad S2304x8x128 ![0, 0, 0] ![240, 0, 64] ![0, 0, 0] (transpose S2064x8x64 [1, 0, 2] X transposes_S8x2064x64_S2064x8x64_1_0_2)
    (sitofp .f32 (constantI S_ 32 0#32)) pads_S2064x8x64_S2304x8x128_02400_000_0640 h_S_) shapeCasts_S2304x8x128_S2304x1024
/-- A number per row, filled up with zeros, by heads and row blocks. -/
def vecT (X : FVec Ideal S8x2064 .f32) : FVec Ideal S8x3x1x768 .f32 :=
  shapeCast S8x3x1x768 (pad S8x2304 ![0, 0] ![0, 240] ![0, 0] X (sitofp .f32 (constantI S_ 32 0#32)) pads_S8x2064_S8x2304_000_02400 h_S_) shapeCasts_S8x2304_S8x3x1x768
/-- A number per row, repeated over its head's lanes. -/
def lanesT (X : FVec Ideal S8x2064 .f32) : FVec Ideal S2304x1024 .f32 :=
  shapeCast S2304x1024 (broadcastInDim S2304x8x128 ![0, 1, 2] bcast_S2304x8x1_S2304x8x128_0_1_2 (broadcastInDim S2304x8x1 ![0, 1] bcast_S2304x8_S2304x8x1_0_1
    (transpose S2304x8 [1, 0] (pad S8x2304 ![0, 0] ![0, 240] ![0, 0] X (sitofp .f32 (constantI S_ 32 0#32)) pads_S8x2064_S8x2304_000_02400 h_S_) transposes_S8x2304_S2304x8_1_0)))
    shapeCasts_S2304x8x128_S2304x1024
/-- The scaled queries, the keys and the values side by side. -/
def qkvT : FVec Ideal S2304x3072 .bf16 :=
  truncf .bf16 (concatenate S2304x3072 1 [⟨S2304x1024, rowsT (qsT Q)⟩, ⟨S2304x1024, rowsT K⟩, ⟨S2304x1024, rowsT W⟩] concatenates_S2304x1024_S2304x1024_S2304x1024_S2304x3072_d1) bitsLt_bf16_f32

section reads

variable (m : (ℓ : Loc nD τ sig) → Buf (Elt Ideal) ℓ) (c : Dev nD)

def aQ : FVec Ideal S8x2064x64 .f32 := m ((c.tc : Thread nD τ).loc main_arg0)
def aK : FVec Ideal S8x2064x64 .f32 := m ((c.tc : Thread nD τ).loc main_arg1)
def aW : FVec Ideal S8x2064x64 .f32 := m ((c.tc : Thread nD τ).loc main_arg2)
def aC : FVec Ideal S8x2064 .f32 := m ((c.tc : Thread nD τ).loc main_arg3)
def aD : FVec Ideal S8x2064x64 .f32 := m ((c.tc : Thread nD τ).loc main_arg4)

/-- The contents after the first `n` host operations. -/
abbrev U (n : ℕ) :=
  StableHlo.upto (Val := Elt Ideal) [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten (fun b => m (c, b)) n

theorem V44 : V m c main_v44 = truncf .bf16 (rowsT (aD m c)) bitsLt_bf16_f32 := by
  simp only [V]
  after_reads_simp
  simp -implicitDefEqProofs only [StableHlo.TRef.ofBuf_toBuf, StableHlo.TRef.ofBuf, StableHlo.TRef.toBuf, cast_eq]
  rfl

theorem V47 : V m c main_v47 = rowsT (oT (aQ m c) (aK m c) (aW m c) (aC m c)) := by
  simp only [V]
  after_reads_simp
  simp -implicitDefEqProofs only [StableHlo.TRef.ofBuf_toBuf, StableHlo.TRef.ofBuf, StableHlo.TRef.toBuf, cast_eq]
  rfl

theorem V53 : V m c main_v53 = lanesT (aC m c) := by
  simp only [V]
  after_reads_simp
  simp -implicitDefEqProofs only [StableHlo.TRef.ofBuf_toBuf, StableHlo.TRef.ofBuf, StableHlo.TRef.toBuf, cast_eq]
  rfl

theorem V54 : V m c main_v54 = vecT (lseT (aQ m c) (aK m c) (aC m c)) := by
  simp only [V]
  after_reads_simp
  simp -implicitDefEqProofs only [StableHlo.TRef.ofBuf_toBuf, StableHlo.TRef.ofBuf, StableHlo.TRef.toBuf, cast_eq]
  rfl

theorem V55 : V m c main_v55 = vecT (aC m c) := by
  simp only [V]
  after_reads_simp
  simp -implicitDefEqProofs only [StableHlo.TRef.ofBuf_toBuf, StableHlo.TRef.ofBuf, StableHlo.TRef.toBuf, cast_eq]
  rfl

theorem U32 : U m c 52 (Proc.tc.devRef main_v32) = rowsT (qsT (aQ m c)) := by
  after_reads_simp
  simp -implicitDefEqProofs only [StableHlo.TRef.ofBuf_toBuf, StableHlo.TRef.ofBuf, StableHlo.TRef.toBuf, cast_eq]
  rfl
theorem U35 : U m c 52 (Proc.tc.devRef main_v35) = rowsT (aK m c) := by
  after_reads_simp
  simp -implicitDefEqProofs only [StableHlo.TRef.ofBuf_toBuf, StableHlo.TRef.ofBuf, StableHlo.TRef.toBuf, cast_eq]
  rfl
theorem U38 : U m c 52 (Proc.tc.devRef main_v38) = rowsT (aW m c) := by
  after_reads_simp
  simp -implicitDefEqProofs only [StableHlo.TRef.ofBuf_toBuf, StableHlo.TRef.ofBuf, StableHlo.TRef.toBuf, cast_eq]
  rfl

theorem concat_congr {a b d a' b' d' : FVec Ideal S2304x1024 .f32} (ha : a = a') (hb : b = b') (hd : d = d') :
    truncf (F := Ideal) .bf16 (concatenate S2304x3072 1 [⟨S2304x1024, a⟩, ⟨S2304x1024, b⟩, ⟨S2304x1024, d⟩] concatenates_S2304x1024_S2304x1024_S2304x1024_S2304x3072_d1) bitsLt_bf16_f32
      = truncf (F := Ideal) .bf16 (concatenate S2304x3072 1 [⟨S2304x1024, a'⟩, ⟨S2304x1024, b'⟩, ⟨S2304x1024, d'⟩] concatenates_S2304x1024_S2304x1024_S2304x1024_S2304x3072_d1) bitsLt_bf16_f32 := by
  subst ha hb hd; rfl

theorem V40 : V m c main_v40 = qkvT (aQ m c) (aK m c) (aW m c) := by
  simp only [V]
  after_reads_simp
  exact concat_congr (U32 m c) (U35 m c) (U38 m c)

end reads

end Cert.Proof.Alg

end
-- ==== Proof.Alg.Pay.lean ====
/-
  What the body's operations compute, entry by entry, when a float is an extended real: the products and sums of one
  row block against one key block.
-/
module

public import proofs.«01_k».proof.Proof.PI.Point
public import Idealize.ShloMosaic.Lib.Pointwise
public import Idealize.ShloMosaic.Lib.WordCmp

@[expose] public section

set_option maxRecDepth 16384

noncomputable section

namespace Cert.Proof.Alg

open Cert.KernelIdeal Cert.KernelIdeal.Gen
open Idealize.ShloMosaic Idealize.ShloMosaic.TcCoe
open Cert.Proof.PI

theorem dsOf_at (p : FVec Ideal S768x768 .f32) (v d : FVec Ideal S768x128 .bf16) (l : Vec Ideal S1x1x1x768 .f32) (k q : Fin 768) :
    dsOf p v d l (ix2 k q) = p (ix2 k q) * ((∑ e : Fin 128, v (ix2 k e) * d (ix2 q e)) - l (ix4 0 0 0 q)) := by
  pointwise [dsOf]

theorem accOf_at (a : FVec Ideal S768x128 .f32) (p : FVec Ideal S768x768 .f32) (d : FVec Ideal S768x128 .bf16) (k : Fin 768) (e : Fin 128) :
    accOf a p d (ix2 k e) = a (ix2 k e) + ∑ q : Fin 768, p (ix2 k q) * d (ix2 q e) := by
  pointwise [accOf]

theorem pay27_at (t : FVec Ideal S128x768 .bf16) (ds : FVec Ideal S768x768 .bf16) (acc : Vec Ideal S1x1x128x768 .f32) (e : Fin 128) (q : Fin 768) :
    k0_pay27 t ds acc (ix4 0 0 e q) = acc (ix4 0 0 e q) + ∑ k : Fin 768, t (ix2 e k) * ds (ix2 k q) := by
  pointwise [k0_pay27]

theorem pay28_at (ds : FVec Ideal S768x768 .f32) (acc : Vec Ideal S1x1x1x768 .f32) (q : Fin 768) :
    k0_pay28 ds acc (ix4 0 0 0 q) = acc (ix4 0 0 0 q) + ∑ k : Fin 768, ds (ix2 k q) := by
  pointwise [k0_pay28]

theorem pay29_at (a : FVec Ideal S768x1 .f32) (ds : FVec Ideal S768x768 .f32) (k : Fin 768) :
    k0_pay29 a ds (ix2 k 0) = a (ix2 k 0) - ∑ q : Fin 768, ds (ix2 k q) := by
  pointwise [k0_pay29]

theorem pay30_eq (x : Vec Ideal S768x128 .bf16) : k0_pay30 x = x := by
  funext i; pointwise [k0_pay30]
theorem pay31_eq (x : Vec Ideal S768x128 .bf16) : k0_pay31 x = x := by
  funext i; pointwise [k0_pay31]

/-- The score of key `k` for query `q`: the product of their rows and the difference of their gates. -/
def score (K Q : Vec Ideal S768x128 .bf16) (c : FVec Ideal S768x1 .f32) (ct : Vec Ideal S1x1x1x768 .f32) (k q : Fin 768) : EReal :=
  (∑ e : Fin 128, K (ix2 k e) * Q (ix2 q e)) + (ct (ix4 0 0 0 q) - c (ix2 k 0))

theorem pay62_at (K Q : Vec Ideal S768x128 .bf16) (c : FVec Ideal S768x1 .f32) (ct l : Vec Ideal S1x1x1x768 .f32) (k q : Fin 768) :
    k0_pay62 K c Q ct l (ix2 k q) = Ideal.exp (score K Q c ct k q - l (ix4 0 0 0 q)) := by
  pointwise [k0_pay62, k0_pay60, score]

theorem le_word (k q : Fin 768) (w : BitVec 32) :
    IntOp.cmpi .sle (IntOp.subi (BitVec.ofNat 32 k.val) (BitVec.ofNat 32 q.val)) (Scalar.subi (Scalar.muli w 768#32) (Scalar.muli w 768#32)) = if k.val ≤ q.val then 1#1 else 0#1 := by
  have hk := k.isLt
  have hq := q.isLt
  have e : (BitVec.ofNat 32 k.val - BitVec.ofNat 32 q.val).toInt = (k.val : ℤ) - q.val := by
    rw [BitVec.toInt_sub, WordCmp.toInt_ofNat_of_lt (by omega), WordCmp.toInt_ofNat_of_lt (by omega)]
    exact Int.bmod_eq_of_le (by omega) (by omega)
  have e0 : Scalar.subi (Scalar.muli w 768#32) (Scalar.muli w 768#32) = 0#32 := BitVec.sub_self _
  rw [e0]
  show BitVec.ofBool (BitVec.sle (BitVec.ofNat 32 k.val - BitVec.ofNat 32 q.val) 0#32) = _
  rw [BitVec.sle_eq_decide, e]
  by_cases h : k.val ≤ q.val
  · rw [if_pos h, decide_eq_true (by simp; omega)]; rfl
  · rw [if_neg h, decide_eq_false (by simp; omega)]; rfl

theorem mask_named : (Named.named (F := Ideal) κ "mask" (φ := .f32) 0xF149F2CA#32 : EReal) = ⊥ :=
  IdealRules.named_const.ideal_named_scalar _ _ _ _ rfl

theorem pay34_at (K Q : Vec Ideal S768x128 .bf16) (c : FVec Ideal S768x1 .f32) (ct l : Vec Ideal S1x1x1x768 .f32) (w : BitVec 32) (k q : Fin 768) :
    k0_pay34 w k0_pay119 w (k0_pay32 K Q) (k0_pay33 c ct) l (ix2 k q)
      = Ideal.exp ((if k.val ≤ q.val then score K Q c ct k q else ⊥) - l (ix4 0 0 0 q)) := by
  pointwise [k0_pay34, k0_pay32, k0_pay33, k0_pay30, k0_pay119]
  rw [le_word, mask_named]
  unfold score
  by_cases h : k.val ≤ q.val
  · rw [if_pos h, if_pos h]; rfl
  · rw [if_neg h, if_neg h]; rfl

theorem pay14_at (d : Vec Ideal S768x128 .bf16) (o : Vec Ideal S768x128 .f32) (q : Fin 768) :
    k0_pay14 d o (ix4 0 0 0 q) = ∑ e : Fin 128, d (ix2 q e) * o (ix2 q e) := by
  pointwise [k0_pay14]

theorem pay11_at (x : Vec Ideal S1x1x128x768 .f32) (q : Fin 768) (e : Fin 128) :
    k0_pay11 x (ix2 q e) = x (ix4 0 0 e q) := by
  pointwise [k0_pay11]

theorem pay12_at (i : S2x3x128x768.Idx) : (k0_pay12 : FVec Ideal S2x3x128x768 .f32) i = 0 := by
  pointwise [k0_pay12]
theorem pay13_at (i : S2x3x1x768.Idx) : (k0_pay13 : FVec Ideal S2x3x1x768 .f32) i = 0 := by
  pointwise [k0_pay13]
theorem pay5_at (x : FVec Ideal S768x128 .f32) (i : S768x128.Idx) : k0_pay5 x i = x i := by pointwise [k0_pay5]
theorem pay6_at (x : FVec Ideal S768x128 .f32) (i : S768x128.Idx) : k0_pay6 x i = x i := by pointwise [k0_pay6]
theorem pay8_at (x : FVec Ideal S768x128 .f32) (i : S768x128.Idx) : k0_pay8 x i = x i := by pointwise [k0_pay8]
theorem pay9_at (x : FVec Ideal S768x128 .f32) (i : S768x128.Idx) : k0_pay9 x i = x i := by pointwise [k0_pay9]
theorem pay7_at (x : FVec Ideal S768x1 .f32) (k : Fin 768) (e : Fin 128) : k0_pay7 x (ix2 k e) = x (ix2 k 0) := by pointwise [k0_pay7]
theorem pay10_at (x : FVec Ideal S768x1 .f32) (k : Fin 768) (e : Fin 128) : k0_pay10 x (ix2 k e) = x (ix2 k 0) := by pointwise [k0_pay10]
theorem pay111_eq (x : Vec Ideal S768x128 .bf16) : k0_pay111 x = x := by funext i; pointwise [k0_pay111]
theorem pay112_eq (x : Vec Ideal S768x128 .bf16) : k0_pay112 x = x := by funext i; pointwise [k0_pay112]
theorem pay113_eq (x : Vec Ideal S768x128 .bf16) : k0_pay113 x = x := by funext i; pointwise [k0_pay113]
theorem pay114_eq (x : Vec Ideal S768x128 .bf16) : k0_pay114 x = x := by funext i; pointwise [k0_pay114]
theorem pay115_at (x : Vec Ideal S768x128 .bf16) (e : Fin 128) (k : Fin 768) : k0_pay115 x (ix2 e k) = x (ix2 k e) := by pointwise [k0_pay115, k0_pay111]
theorem pay116_at (x : Vec Ideal S768x128 .bf16) (e : Fin 128) (k : Fin 768) : k0_pay116 x (ix2 e k) = x (ix2 k e) := by pointwise [k0_pay116, k0_pay112]
theorem pay117_eq (x : Vec Ideal S768x1 .f32) : k0_pay117 x = x := by funext i; pointwise [k0_pay117]
theorem pay118_eq (x : Vec Ideal S768x1 .f32) : k0_pay118 x = x := by funext i; pointwise [k0_pay118]
theorem pay120_at (i : S768x128.Idx) : (k0_pay120 : FVec Ideal S768x128 .f32) i = 0 := by pointwise [k0_pay120]
theorem pay121_at (i : S768x128.Idx) : (k0_pay121 : FVec Ideal S768x128 .f32) i = 0 := by pointwise [k0_pay121]
theorem pay122_at (i : S768x1.Idx) : (k0_pay122 : FVec Ideal S768x1 .f32) i = 0 := by pointwise [k0_pay122]
theorem pay123_at (i : S768x128.Idx) : (k0_pay123 : FVec Ideal S768x128 .f32) i = 0 := by pointwise [k0_pay123]
theorem pay124_at (i : S768x128.Idx) : (k0_pay124 : FVec Ideal S768x128 .f32) i = 0 := by pointwise [k0_pay124]
theorem pay125_at (i : S768x1.Idx) : (k0_pay125 : FVec Ideal S768x1 .f32) i = 0 := by pointwise [k0_pay125]

end Cert.Proof.Alg

end
-- ==== Proof.Alg.Real.lean ====
/-
  One head's gradients in real numbers: the scores, the softmax as the forward pass leaves it, the gradient of the
  scores, and why the reference's spelling of it is the kernel's.
-/
module

public import Mathlib.Analysis.SpecialFunctions.Log.Basic
public import Mathlib.Algebra.BigOperators.Intervals
public import Mathlib.Algebra.BigOperators.Field
public import Mathlib.Tactic.FieldSimp
public import Mathlib.Tactic.Ring

@[expose] public section

noncomputable section

namespace Cert.Proof.Alg

open Finset

/-- One head's rows: queries, keys, values, the gradient of the output, the gates' cumulative logarithm, and what the
    forward pass takes off each query's scores before the exponential. -/
structure Hd where
  Q : ℕ → ℕ → ℝ
  K : ℕ → ℕ → ℝ
  V : ℕ → ℕ → ℝ
  D : ℕ → ℕ → ℝ
  C : ℕ → ℝ
  M : ℕ → ℝ

namespace Hd

variable (A : Hd)

/-- The scaled queries. -/
def Qs (q e : ℕ) : ℝ := A.Q q e * (1 / 8)
def sc (q k : ℕ) : ℝ := (∑ d ∈ range 64, A.Qs q d * A.K k d) + (A.C q - A.C k)
def ex (q k : ℕ) : ℝ := if k ≤ q then Real.exp (A.sc q k - A.M q) else 0
def l (q : ℕ) : ℝ := ∑ k ∈ range 2064, A.ex q k
def pr (q k : ℕ) : ℝ := A.ex q k / A.l q
def o (q e : ℕ) : ℝ := ∑ k ∈ range 2064, A.pr q k * A.V k e
def lse (q : ℕ) : ℝ := A.M q + Real.log (A.l q)
def dp (q k : ℕ) : ℝ := ∑ e ∈ range 64, A.D q e * A.V k e
def dl (q : ℕ) : ℝ := ∑ e ∈ range 64, A.D q e * A.o q e
def ds (q k : ℕ) : ℝ := if q < 2064 then A.pr q k * (A.dp q k - A.dl q) else 0

/-- The rows past the last, and the lanes past the last, are zero. -/
structure Padded : Prop where
  q : ∀ r e, 2064 ≤ r ∨ 64 ≤ e → A.Q r e = 0
  k : ∀ r e, 2064 ≤ r ∨ 64 ≤ e → A.K r e = 0
  v : ∀ r e, 2064 ≤ r ∨ 64 ≤ e → A.V r e = 0
  d : ∀ r e, 2064 ≤ r ∨ 64 ≤ e → A.D r e = 0

theorem ex_nonneg (q k : ℕ) : 0 ≤ A.ex q k := by
  unfold ex; split
  · exact (Real.exp_pos _).le
  · exact le_refl _

theorem l_pos {q : ℕ} (hq : q < 2064) : 0 < A.l q := by
  have h1 : 0 < A.ex q q := by unfold ex; rw [if_pos (le_refl q)]; exact Real.exp_pos _
  have h2 : A.ex q q ≤ A.l q := by
    unfold l
    exact single_le_sum (f := fun k => A.ex q k) (fun k _ => A.ex_nonneg q k) (mem_range.mpr hq)
  exact lt_of_lt_of_le h1 h2

theorem exp_sub_lse {q k : ℕ} (hq : q < 2064) (hk : k ≤ q) : Real.exp (A.sc q k - A.lse q) = A.pr q k := by
  unfold pr ex lse
  rw [if_pos hk, ← sub_sub, Real.exp_sub, Real.exp_log (A.l_pos hq)]

theorem pr_of_gt {q k : ℕ} (hk : q < k) : A.pr q k = 0 := by
  unfold pr ex; rw [if_neg (by omega), zero_div]

theorem ds_of_gt {q k : ℕ} (hk : q < k) : A.ds q k = 0 := by
  unfold ds; rw [A.pr_of_gt hk, zero_mul, ite_self]

theorem ds_of_ge {q k : ℕ} (hq : 2064 ≤ q) : A.ds q k = 0 := by
  unfold ds; rw [if_neg (by omega)]

theorem dl_eq (q : ℕ) : A.dl q = ∑ k ∈ range 2064, A.pr q k * A.dp q k := by
  unfold dl o dp
  simp only [mul_sum]
  rw [sum_comm]
  refine sum_congr rfl fun k _ => sum_congr rfl fun e _ => ?_
  ring

/-- The reference's spelling of the gradient of the scores. -/
theorem ref_ds {q k : ℕ} (hq : q < 2064) :
    (A.dp q k / A.l q + -(∑ k' ∈ range 2064, A.dp q k' * (1 / (A.l q * A.l q)) * A.ex q k')) * A.ex q k = A.ds q k := by
  have hl := (A.l_pos hq).ne'
  have e : ∑ k' ∈ range 2064, A.dp q k' * (1 / (A.l q * A.l q)) * A.ex q k' = A.dl q / A.l q := by
    rw [A.dl_eq, sum_div]
    refine sum_congr rfl fun k' _ => ?_
    unfold pr
    field_simp
  rw [e]
  unfold ds pr
  rw [if_pos hq]
  field_simp
  try ring

/-! ## The kernel's sums -/

theorem sum_range3 (f : ℕ → ℝ) : ∑ q ∈ range 2304, f q = (∑ q ∈ range 768, f q) + (∑ q ∈ range 768, f (768 + q)) + ∑ q ∈ range 768, f (1536 + q) := by
  rw [show 2304 = 768 + 768 + 768 from rfl, sum_range_add, sum_range_add]

theorem sum_pad (f : ℕ → ℝ) (h : ∀ q, 2064 ≤ q → f q = 0) : ∑ q ∈ range 2304, f q = ∑ q ∈ range 2064, f q := by
  rw [show 2304 = 2064 + 240 from rfl, sum_range_add]
  rw [sum_eq_zero (s := range 240) fun q _ => h _ (by omega), add_zero]

theorem sum_lanes (f : ℕ → ℝ) (h : ∀ e, 64 ≤ e → f e = 0) : ∑ e ∈ range 128, f e = ∑ e ∈ range 64, f e := by
  rw [show 128 = 64 + 64 from rfl, sum_range_add]
  rw [sum_eq_zero (s := range 64) (f := fun x => f (64 + x)) fun q _ => h _ (by omega), add_zero]

/-- The gradient of the keys' rows, as the kernel sums it. -/
def dk (k e : ℕ) : ℝ := ∑ q ∈ range 2304, A.ds q k * A.Qs q e
def dv (k e : ℕ) : ℝ := ∑ q ∈ range 2304, A.pr q k * A.D q e
def dck (k : ℕ) : ℝ := -∑ q ∈ range 2304, A.ds q k
def dq (q e : ℕ) : ℝ := ∑ k ∈ range 2304, A.K k e * A.ds q k
def dcq (q : ℕ) : ℝ := ∑ k ∈ range 2304, A.ds q k

variable {A}

theorem dk_eq (h : A.Padded) (k e : ℕ) : A.dk k e = if k < 2064 ∧ e < 64 then ∑ q ∈ range 2064, A.ds q k * A.Qs q e else 0 := by
  unfold dk
  rw [sum_pad _ fun q hq => by rw [A.ds_of_ge hq, zero_mul]]
  split
  · rfl
  · rename_i hk
    refine sum_eq_zero fun q hq => ?_
    have hq := mem_range.mp hq
    by_cases he : e < 64
    · rw [A.ds_of_gt (by omega), zero_mul]
    · rw [show A.Qs q e = 0 by unfold Qs; rw [h.q q e (.inr (by omega)), zero_mul], mul_zero]

theorem dv_eq (h : A.Padded) (k e : ℕ) : A.dv k e = if k < 2064 ∧ e < 64 then ∑ q ∈ range 2064, A.D q e * A.pr q k else 0 := by
  unfold dv
  rw [sum_pad _ fun q hq => by rw [h.d q e (.inl hq), mul_zero]]
  split
  · exact sum_congr rfl fun q _ => mul_comm _ _
  · rename_i hk
    refine sum_eq_zero fun q hq => ?_
    have hq := mem_range.mp hq
    by_cases he : e < 64
    · rw [A.pr_of_gt (by omega), zero_mul]
    · rw [h.d q e (.inr (by omega)), mul_zero]

theorem dck_eq (k : ℕ) : A.dck k = if k < 2064 then ∑ q ∈ range 2064, -A.ds q k else 0 := by
  unfold dck
  rw [sum_pad _ fun q hq => A.ds_of_ge hq, ← sum_neg_distrib]
  split
  · rfl
  · rename_i hk
    refine sum_eq_zero fun q hq => ?_
    have hq := mem_range.mp hq
    rw [A.ds_of_gt (by omega), neg_zero]

theorem dq_eq (h : A.Padded) (q e : ℕ) : A.dq q e = if q < 2064 ∧ e < 64 then ∑ k ∈ range 2064, A.ds q k * A.K k e else 0 := by
  unfold dq
  rw [sum_pad _ fun k hk => by rw [h.k k e (.inl hk), zero_mul]]
  split
  · exact sum_congr rfl fun q _ => mul_comm _ _
  · rename_i hk
    refine sum_eq_zero fun k hk => ?_
    by_cases he : e < 64
    · rw [A.ds_of_ge (by omega), mul_zero]
    · rw [h.k k e (.inr (by omega)), zero_mul]

theorem dcq_eq (q : ℕ) : A.dcq q = if q < 2064 then ∑ k ∈ range 2064, A.ds q k else 0 := by
  unfold dcq
  split
  · rename_i hq
    exact sum_pad _ fun k hk => A.ds_of_gt (by omega)
  · exact sum_eq_zero fun k _ => A.ds_of_ge (by omega)

end Hd

end Cert.Proof.Alg

end
-- ==== Proof.Alg.State.lean ====
/-
  One head's share of the loops' state, in real numbers: what a trip adds to each gradient, and what a whole point leaves.
-/
module

public import proofs.«01_k».proof.Proof.Alg.Pay
public import proofs.«01_k».proof.Proof.Alg.Real

@[expose] public section

set_option maxRecDepth 16384

noncomputable section

namespace Cert.Proof.Alg

open Cert.KernelIdeal Cert.KernelIdeal.Gen
open Idealize.ShloMosaic Idealize.ShloMosaic.TcCoe
open Cert.Proof.PI
open Finset

/-- A sum of real numbers, taken among the extended ones. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [sum_insert ha, sum_insert ha, ih, EReal.coe_add]

theorem coe_sum_fin {n : ℕ} (f : ℕ → ℝ) (g : Fin n → EReal) (h : ∀ i, g i = (f i.val : EReal)) : (∑ i, g i) = ((∑ i ∈ range n, f i : ℝ) : EReal) := by
  rw [sum_congr rfl fun i _ => h i, coe_sum, sum_range]

/-! ## One head of the pair -/

def sDk (h : Fin 2) (s : St Ideal) : FVec Ideal S768x128 .f32 := if h = 0 then s.1.1 else s.1.2.2.2.1
def sDv (h : Fin 2) (s : St Ideal) : FVec Ideal S768x128 .f32 := if h = 0 then s.1.2.1 else s.1.2.2.2.2.1
def sDc (h : Fin 2) (s : St Ideal) : FVec Ideal S768x1 .f32 := if h = 0 then s.1.2.2.1 else s.1.2.2.2.2.2
def kvK (h : Fin 2) (kv : KV Ideal) : FVec Ideal S768x128 .bf16 := if h = 0 then kv.k0 else kv.k1
def kvV (h : Fin 2) (kv : KV Ideal) : FVec Ideal S768x128 .bf16 := if h = 0 then kv.v0 else kv.v1
def kvT (h : Fin 2) (kv : KV Ideal) : FVec Ideal S128x768 .bf16 := if h = 0 then kv.t0 else kv.t1
def kvC (h : Fin 2) (kv : KV Ideal) : FVec Ideal S768x1 .f32 := if h = 0 then kv.c0 else kv.c1

section trip

variable (p0 p1 : FVec Ideal S768x768 .f32) (kv : KV Ideal) (x2 x5 : Vec Ideal S2304x256 .bf16) (x16 : Vec Ideal S2x3x1x768 .f32) (b : Fin 3) (s : St Ideal) (h : Fin 2)

/-- The gradient of one head's block of scores. -/
def dsH : FVec Ideal S768x768 .f32 := dsOf (if h = 0 then p0 else p1) (kvV h kv) (qBlk x5 h b) (rBlk x16 h b)

theorem trip_dk : sDk h (trip p0 p1 kv x2 x5 x16 b s) = accOf (sDk h s) (dsH p0 p1 kv x5 x16 b h) (qBlk x2 h b) := by
  unfold trip dsH sDk kvV; simp only [pay30_eq, pay31_eq]; fin_cases h <;> rfl
theorem trip_dv : sDv h (trip p0 p1 kv x2 x5 x16 b s) = accOf (sDv h s) (if h = 0 then p0 else p1) (qBlk x5 h b) := by
  unfold trip sDv; simp only [pay30_eq, pay31_eq]; fin_cases h <;> rfl
theorem trip_dc : sDc h (trip p0 p1 kv x2 x5 x16 b s) = k0_pay29 (sDc h s) (dsH p0 p1 kv x5 x16 b h) := by
  unfold trip dsH sDc kvV; simp only [pay30_eq, pay31_eq]; fin_cases h <;> rfl
theorem trip_r (b' : Fin 3) : rBlk (trip p0 p1 kv x2 x5 x16 b s).2.1 h b' = if b' = b then k0_pay28 (dsH p0 p1 kv x5 x16 b h) (rBlk s.2.1 h b) else rBlk s.2.1 h b' := by
  unfold trip dsH kvV; simp only [rBlk_put, pay31_eq]
  by_cases e : b' = b <;> fin_cases h <;> simp [e]
theorem trip_t (b' : Fin 3) : tBlk (trip p0 p1 kv x2 x5 x16 b s).2.2 h b' = if b' = b then k0_pay27 (kvT h kv) (truncf .bf16 (dsH p0 p1 kv x5 x16 b h) bitsLt_bf16_f32) (tBlk s.2.2 h b) else tBlk s.2.2 h b' := by
  unfold trip dsH kvV kvT; simp only [tBlk_put, pay31_eq]
  by_cases e : b' = b <;> fin_cases h <;> simp [e]

end trip

theorem truncf_at (x : FVec Ideal S768x768 .f32) (i : S768x768.Idx) : (truncf .bf16 x bitsLt_bf16_f32 : FVec Ideal S768x768 .bf16) i = x i := by
  pointwise

/-- The logarithm of the sum, zero past the last row. -/
def Hd.lseP (A : Hd) (q : ℕ) : ℝ := if q < 2064 then A.lse q else 0

/-- What a point reads of head `A`: key block `j`'s tiles, and every row of the queries, of the output's gradient and of
    the row vectors. -/
structure In (A : Hd) (h : Fin 2) (j : ℕ) (kv : KV Ideal) (x2 x5 : Vec Ideal S2304x256 .bf16) (x7 x9 x16 : Vec Ideal S2x3x1x768 .f32) : Prop where
  k : ∀ r e, kvK h kv (ix2 r e) = (A.K (768 * j + r.val) e.val : EReal)
  v : ∀ r e, kvV h kv (ix2 r e) = (A.V (768 * j + r.val) e.val : EReal)
  t : ∀ r e, kvT h kv (ix2 e r) = (A.K (768 * j + r.val) e.val : EReal)
  c : ∀ r, kvC h kv (ix2 r 0) = (A.C (768 * j + r.val) : EReal)
  q : ∀ (b : Fin 3) r e, qBlk x2 h b (ix2 r e) = (A.Qs (768 * b.val + r.val) e.val : EReal)
  d : ∀ (b : Fin 3) r e, qBlk x5 h b (ix2 r e) = (A.D (768 * b.val + r.val) e.val : EReal)
  l : ∀ (b : Fin 3) r, rBlk x7 h b (ix4 0 0 0 r) = (A.lseP (768 * b.val + r.val) : EReal)
  g : ∀ (b : Fin 3) r, rBlk x9 h b (ix4 0 0 0 r) = (A.C (768 * b.val + r.val) : EReal)
  s : ∀ (b : Fin 3) r, rBlk x16 h b (ix4 0 0 0 r) = (A.dl (768 * b.val + r.val) : EReal)

/-- One head's share of the state: the gradients of the keys, the values and the gates at the key block's rows, and of
    the gates and the queries at every row block. -/
structure HS (h : Fin 2) (s : St Ideal) (fk fv : ℕ → ℕ → ℝ) (fc : ℕ → ℝ) (gc : ℕ → ℕ → ℝ) (gq : ℕ → ℕ → ℕ → ℝ) : Prop where
  dk : ∀ k e, sDk h s (ix2 k e) = (fk k.val e.val : EReal)
  dv : ∀ k e, sDv h s (ix2 k e) = (fv k.val e.val : EReal)
  dc : ∀ k, sDc h s (ix2 k 0) = (fc k.val : EReal)
  cq : ∀ (b : Fin 3) q, rBlk s.2.1 h b (ix4 0 0 0 q) = (gc b.val q.val : EReal)
  tq : ∀ (b : Fin 3) q e, tBlk s.2.2 h b (ix4 0 0 e q) = (gq b.val q.val e.val : EReal)

theorem HS.congr {h : Fin 2} {s : St Ideal} {fk fv fk' fv' : ℕ → ℕ → ℝ} {fc fc' : ℕ → ℝ} {gc gc' : ℕ → ℕ → ℝ} {gq gq' : ℕ → ℕ → ℕ → ℝ}
    (H : HS h s fk fv fc gc gq) (ek : ∀ k e, fk k e = fk' k e) (ev : ∀ k e, fv k e = fv' k e) (ec : ∀ k, fc k = fc' k)
    (eg : ∀ b q, b < 3 → q < 768 → gc b q = gc' b q) (eq : ∀ b q e, b < 3 → q < 768 → gq b q e = gq' b q e) : HS h s fk' fv' fc' gc' gq' where
  dk k e := by rw [H.dk, ek]
  dv k e := by rw [H.dv, ev]
  dc k := by rw [H.dc, ec]
  cq b q := by rw [H.cq, eg _ _ b.isLt q.isLt]
  tq b q e := by rw [H.tq, eq _ _ _ b.isLt q.isLt]

/-- A block of probabilities. -/
def IsP (A : Hd) (j b : ℕ) (p : FVec Ideal S768x768 .f32) : Prop :=
  ∀ k q : Fin 768, 768 * b + q.val < 2064 → p (ix2 k q) = (A.pr (768 * b + q.val) (768 * j + k.val) : EReal)

variable {A : Hd} {h : Fin 2} {j : ℕ} {kv : KV Ideal} {x2 x5 : Vec Ideal S2304x256 .bf16} {x7 x9 x16 : Vec Ideal S2x3x1x768 .f32}

theorem dp_at (hA : A.Padded) (H : In A h j kv x2 x5 x7 x9 x16) (b : Fin 3) (k q : Fin 768) :
    (∑ e : Fin 128, kvV h kv (ix2 k e) * qBlk x5 h b (ix2 q e)) = (A.dp (768 * b.val + q.val) (768 * j + k.val) : EReal) := by
  rw [coe_sum_fin (fun e => A.D (768 * b.val + q.val) e * A.V (768 * j + k.val) e) _ fun e => by rw [H.v, H.d, ← EReal.coe_mul, mul_comm]]
  rw [Hd.sum_lanes _ fun e he => by rw [hA.d _ e (.inr he), zero_mul]]
  rfl

theorem score_at (hA : A.Padded) (H : In A h j kv x2 x5 x7 x9 x16) (b : Fin 3) (k q : Fin 768) :
    score (kvK h kv) (qBlk x2 h b) (kvC h kv) (rBlk x9 h b) k q = (A.sc (768 * b.val + q.val) (768 * j + k.val) : EReal) := by
  unfold score
  rw [coe_sum_fin (fun e => A.Qs (768 * b.val + q.val) e * A.K (768 * j + k.val) e) _ fun e => by rw [H.k, H.q, ← EReal.coe_mul, mul_comm]]
  rw [Hd.sum_lanes _ fun e he => by rw [hA.k _ e (.inr he), mul_zero]]
  rw [H.g, H.c, ← EReal.coe_sub, ← EReal.coe_add]
  rfl

theorem dl_of_ge (hA : A.Padded) {q : ℕ} (hq : 2064 ≤ q) : A.dl q = 0 :=
  sum_eq_zero fun e _ => by rw [hA.d q e (.inl hq), zero_mul]
theorem dp_of_ge (hA : A.Padded) {q k : ℕ} (hq : 2064 ≤ q) : A.dp q k = 0 :=
  sum_eq_zero fun e _ => by rw [hA.d q e (.inl hq), zero_mul]

theorem dsH_at (hA : A.Padded) (H : In A h j kv x2 x5 x7 x9 x16) {p0 p1 : FVec Ideal S768x768 .f32} (b : Fin 3) (hp : IsP A j b.val (if h = 0 then p0 else p1)) (k q : Fin 768) :
    dsH p0 p1 kv x5 x16 b h (ix2 k q) = (A.ds (768 * b.val + q.val) (768 * j + k.val) : EReal) := by
  unfold dsH
  rw [dsOf_at, dp_at hA H, H.s, ← EReal.coe_sub]
  unfold Hd.ds
  by_cases hq : 768 * b.val + q.val < 2064
  · rw [hp k q hq, if_pos hq, EReal.coe_mul]
  · rw [if_neg hq, dp_of_ge hA (by omega), dl_of_ge hA (by omega), sub_zero, EReal.coe_zero, mul_zero]

theorem isP_masked (hA : A.Padded) (H : In A h j kv x2 x5 x7 x9 x16) (b : Fin 3) (hb : b.val = j) (w : BitVec 32) :
    IsP A j b.val (k0_pay34 w k0_pay119 w (k0_pay32 (kvK h kv) (qBlk x2 h b)) (k0_pay33 (kvC h kv) (rBlk x9 h b)) (rBlk x7 h b)) := by
  intro k q hq
  rw [pay34_at, score_at hA H, H.l, Hd.lseP, if_pos hq]
  by_cases hk : k.val ≤ q.val
  · rw [if_pos hk, ← EReal.coe_sub, Ideal.exp_coe, A.exp_sub_lse hq (by omega)]
  · rw [if_neg hk, A.pr_of_gt (by omega), EReal.bot_sub, Ideal.exp_bot, EReal.coe_zero]

theorem isP_plain (hA : A.Padded) (H : In A h j kv x2 x5 x7 x9 x16) (b : Fin 3) (hb : j < b.val) :
    IsP A j b.val (k0_pay62 (kvK h kv) (kvC h kv) (qBlk x2 h b) (rBlk x9 h b) (rBlk x7 h b)) := by
  intro k q hq
  rw [pay62_at, score_at hA H, H.l, Hd.lseP, if_pos hq, ← EReal.coe_sub, Ideal.exp_coe, A.exp_sub_lse hq (by have := k.isLt; omega)]

/-- What one trip adds. -/
theorem HS.trip (hA : A.Padded) (H : In A h j kv x2 x5 x7 x9 x16) {p0 p1 : FVec Ideal S768x768 .f32} (b : Fin 3) (hp : IsP A j b.val (if h = 0 then p0 else p1))
    {s : St Ideal} {fk fv : ℕ → ℕ → ℝ} {fc : ℕ → ℝ} {gc : ℕ → ℕ → ℝ} {gq : ℕ → ℕ → ℕ → ℝ} (S : HS h s fk fv fc gc gq) :
    HS h (PI.trip p0 p1 kv x2 x5 x16 b s)
      (fun k e => fk k e + ∑ q ∈ range 768, A.ds (768 * b.val + q) (768 * j + k) * A.Qs (768 * b.val + q) e)
      (fun k e => fv k e + ∑ q ∈ range 768, A.pr (768 * b.val + q) (768 * j + k) * A.D (768 * b.val + q) e)
      (fun k => fc k - ∑ q ∈ range 768, A.ds (768 * b.val + q) (768 * j + k))
      (fun b' q => if b' = b.val then gc b' q + ∑ k ∈ range 768, A.ds (768 * b' + q) (768 * j + k) else gc b' q)
      (fun b' q e => if b' = b.val then gq b' q e + ∑ k ∈ range 768, A.K (768 * j + k) e * A.ds (768 * b' + q) (768 * j + k) else gq b' q e) where
  dk k e := by
    rw [trip_dk, accOf_at, S.dk, coe_sum_fin (fun q => A.ds (768 * b.val + q) (768 * j + k) * A.Qs (768 * b.val + q) e) _ fun q => by
      rw [dsH_at hA H b hp, H.q, ← EReal.coe_mul], ← EReal.coe_add]
  dv k e := by
    rw [trip_dv, accOf_at, S.dv, coe_sum_fin (fun q => A.pr (768 * b.val + q) (768 * j + k) * A.D (768 * b.val + q) e) _ fun q => by
      rw [H.d]
      by_cases hq : 768 * b.val + q.val < 2064
      · rw [hp k q hq, ← EReal.coe_mul]
      · rw [hA.d _ _ (.inl (by omega)), mul_zero, EReal.coe_zero, mul_zero], ← EReal.coe_add]
  dc k := by
    rw [trip_dc, pay29_at, S.dc, coe_sum_fin (fun q => A.ds (768 * b.val + q) (768 * j + k)) _ fun q => dsH_at hA H b hp k q, ← EReal.coe_sub]
  cq b' q := by
    rw [trip_r]
    by_cases e : b' = b
    · subst e
      rw [if_pos rfl, if_pos rfl, pay28_at, S.cq, coe_sum_fin (fun k => A.ds (768 * b'.val + q) (768 * j + k)) _ fun k => dsH_at hA H b' hp k q, ← EReal.coe_add]
    · rw [if_neg e, if_neg fun h => e (Fin.ext h), S.cq]
  tq b' q e := by
    rw [trip_t]
    by_cases eb : b' = b
    · subst eb
      rw [if_pos rfl, if_pos rfl, pay27_at, S.tq, coe_sum_fin (fun k => A.K (768 * j + k) e * A.ds (768 * b'.val + q) (768 * j + k)) _ fun k => by
        rw [truncf_at, H.t, dsH_at hA H b' hp k q, ← EReal.coe_mul], ← EReal.coe_add]
    · rw [if_neg eb, if_neg fun h => eb (Fin.ext h), S.tq]

theorem isPM (hA : A.Padded) (H : In A h j kv x2 x5 x7 x9 x16) (b : Fin 3) (hb : b.val = j) (w : BitVec 32) :
    IsP A j b.val (if h = 0 then k0_pay34 w k0_pay119 w (k0_pay32 kv.k0 (qBlk x2 0 b)) (k0_pay33 kv.c0 (rBlk x9 0 b)) (rBlk x7 0 b)
      else k0_pay34 w k0_pay119 w (k0_pay32 kv.k1 (qBlk x2 1 b)) (k0_pay33 kv.c1 (rBlk x9 1 b)) (rBlk x7 1 b)) := by
  have := isP_masked hA H b hb w
  obtain rfl | rfl : h = 0 ∨ h = 1 := by omega
  · exact this
  · exact this

theorem isPU (hA : A.Padded) (H : In A h j kv x2 x5 x7 x9 x16) (b : Fin 3) (hb : j < b.val) :
    IsP A j b.val (if h = 0 then k0_pay62 kv.k0 kv.c0 (qBlk x2 0 b) (rBlk x9 0 b) (rBlk x7 0 b) else k0_pay62 kv.k1 kv.c1 (qBlk x2 1 b) (rBlk x9 1 b) (rBlk x7 1 b)) := by
  have := isP_plain hA H b hb
  obtain rfl | rfl : h = 0 ∨ h = 1 := by omega
  · exact this
  · exact this

theorem HS.carry0 {x13 : Vec Ideal S2x3x1x768 .f32} {x15 : Vec Ideal S2x3x128x768 .f32} {gc : ℕ → ℕ → ℝ} {gq : ℕ → ℕ → ℕ → ℝ}
    (hc : ∀ (b : Fin 3) q, rBlk x13 h b (ix4 0 0 0 q) = (gc b.val q.val : EReal))
    (hq : ∀ (b : Fin 3) q e, tBlk x15 h b (ix4 0 0 e q) = (gq b.val q.val e.val : EReal)) :
    HS h (PI.carry0, x13, x15) (fun _ _ => 0) (fun _ _ => 0) (fun _ => 0) gc gq where
  dk k e := by
    rw [EReal.coe_zero]
    obtain rfl | rfl : h = 0 ∨ h = 1 := by omega
    · exact pay120_at (ix2 k e)
    · exact pay123_at (ix2 k e)
  dv k e := by
    rw [EReal.coe_zero]
    obtain rfl | rfl : h = 0 ∨ h = 1 := by omega
    · exact pay121_at (ix2 k e)
    · exact pay124_at (ix2 k e)
  dc k := by
    rw [EReal.coe_zero]
    obtain rfl | rfl : h = 0 ∨ h = 1 := by omega
    · exact pay122_at (ix2 k 0)
    · exact pay125_at (ix2 k 0)
  cq := hc
  tq := hq

theorem lb_word : ∀ i : grid0.Coords, Scf.iv (k0_t1_loop i).lb 1#32 0 = BitVec.ofNat 32 (i 1).val := by decide +kernel

theorem sum3_lt (f : ℕ → ℝ) (j : ℕ) (h : ∀ q, q < 768 * j → f q = 0) (hj : j < 3) :
    ∑ q ∈ range 2304, f q = (if j ≤ 0 then ∑ q ∈ range 768, f (768 * 0 + q) else 0) + (if j ≤ 1 then ∑ q ∈ range 768, f (768 * 1 + q) else 0) + ∑ q ∈ range 768, f (768 * 2 + q) := by
  rw [Hd.sum_range3]
  simp only [Nat.mul_zero, Nat.zero_add, Nat.mul_one]
  have e0 : ¬j ≤ 0 → ∑ q ∈ range 768, f q = 0 := fun hh => sum_eq_zero fun q hq => h q (by have := mem_range.mp hq; omega)
  have e1 : ¬j ≤ 1 → ∑ q ∈ range 768, f (768 + q) = 0 := fun hh => sum_eq_zero fun q hq => h _ (by have := mem_range.mp hq; omega)
  split <;> split <;> simp_all

/-- What a point leaves of one head. -/
theorem HS.point (hA : A.Padded) (i : grid0.Coords) (H : In A h (i 1).val kv x2 x5 x7 x9 x16)
    {x13 : Vec Ideal S2x3x1x768 .f32} {x15 : Vec Ideal S2x3x128x768 .f32} {gc : ℕ → ℕ → ℝ} {gq : ℕ → ℕ → ℕ → ℝ}
    (hc : ∀ (b : Fin 3) q, rBlk x13 h b (ix4 0 0 0 q) = (gc b.val q.val : EReal))
    (hq : ∀ (b : Fin 3) q e, tBlk x15 h b (ix4 0 0 e q) = (gq b.val q.val e.val : EReal)) :
    HS h (pointSt i kv x2 x5 x7 x9 x16 x13 x15)
      (fun k e => A.dk (768 * (i 1).val + k) e) (fun k e => A.dv (768 * (i 1).val + k) e) (fun k => A.dck (768 * (i 1).val + k))
      (fun b q => gc b q + ∑ k ∈ range 768, A.ds (768 * b + q) (768 * (i 1).val + k))
      (fun b q e => gq b q e + ∑ k ∈ range 768, A.K (768 * (i 1).val + k) e * A.ds (768 * b + q) (768 * (i 1).val + k)) := by
  unfold pointSt
  rw [trips1, trips3]
  simp only [iterM]
  rw [lb_word]
  have hj : (i 1).val < 3 := (i 1).isLt
  generalize (i 1).val = j at *
  have S0 := HS.carry0 (h := h) hc hq
  have z1 : ∀ b q k, b < j → q < 768 → A.ds (768 * b + q) (768 * j + k) = 0 := fun b q k hb hq => A.ds_of_gt (by omega)
  have z2 : ∀ b q, b < j → q < 768 → ∑ k ∈ range 768, A.ds (768 * b + q) (768 * j + k) = 0 := fun b q hb hq => sum_eq_zero fun k _ => z1 b q k hb hq
  have z3 : ∀ b q e, b < j → q < 768 → ∑ k ∈ range 768, A.K (768 * j + k) e * A.ds (768 * b + q) (768 * j + k) = 0 := fun b q e hb hq => sum_eq_zero fun k _ => by rw [z1 b q k hb hq, mul_zero]
  have ek : ∀ k e, A.dk (768 * j + k) e = _ := fun k e => sum3_lt (fun q => A.ds q (768 * j + k) * A.Qs q e) j (fun q hq => by rw [A.ds_of_gt (by omega), zero_mul]) hj
  have ev : ∀ k e, A.dv (768 * j + k) e = _ := fun k e => sum3_lt (fun q => A.pr q (768 * j + k) * A.D q e) j (fun q hq => by rw [A.pr_of_gt (by omega), zero_mul]) hj
  have ec : ∀ k, A.dck (768 * j + k) = -_ := fun k => congrArg Neg.neg (sum3_lt (fun q => A.ds q (768 * j + k)) j (fun q hq => A.ds_of_gt (by omega)) hj)
  simp only [ek, ev, ec]
  rcases (by omega : j = 0 ∨ j = 1 ∨ j = 2) with rfl | rfl | rfl
  · have S1 := S0.trip hA H (blk 0 0) (isPM hA H _ rfl (BitVec.ofNat 32 0))
    have S2 := S1.trip hA H (blk 0 1) (isPU hA H _ (by decide))
    have S3 := S2.trip hA H (blk 0 2) (isPU hA H _ (by decide))
    refine HS.congr S3 ?_ ?_ ?_ ?_ ?_
    · intro k e; simp [blk]
    · intro k e; simp [blk]
    · intro k; simp [blk]; ring
    · intro b q hb hq; rcases (by omega : b = 0 ∨ b = 1 ∨ b = 2) with rfl | rfl | rfl <;> simp [blk]
    · intro b q e hb hq; rcases (by omega : b = 0 ∨ b = 1 ∨ b = 2) with rfl | rfl | rfl <;> simp [blk]
  · have S1 := S0.trip hA H (blk 1 0) (isPM hA H _ rfl (BitVec.ofNat 32 1))
    have S2 := S1.trip hA H (blk 1 1) (isPU hA H _ (by decide))
    refine HS.congr S2 ?_ ?_ ?_ ?_ ?_
    · intro k e; simp [blk]
    · intro k e; simp [blk]
    · intro k; simp [blk]; ring
    · intro b q hb hq
      rcases (by omega : b = 0 ∨ b = 1 ∨ b = 2) with rfl | rfl | rfl
      · rw [z2 0 q (by omega) hq]; simp [blk]
      · simp [blk]
      · simp [blk]
    · intro b q e hb hq
      rcases (by omega : b = 0 ∨ b = 1 ∨ b = 2) with rfl | rfl | rfl
      · rw [z3 0 q e (by omega) hq]; simp [blk]
      · simp [blk]
      · simp [blk]
  · have S1 := S0.trip hA H (blk 2 0) (isPM hA H _ rfl (BitVec.ofNat 32 2))
    refine HS.congr S1 ?_ ?_ ?_ ?_ ?_
    · intro k e; simp [blk]
    · intro k e; simp [blk]
    · intro k; simp [blk]
    · intro b q hb hq
      rcases (by omega : b = 0 ∨ b = 1 ∨ b = 2) with rfl | rfl | rfl
      · rw [z2 0 q (by omega) hq]; simp [blk]
      · rw [z2 1 q (by omega) hq]; simp [blk]
      · simp [blk]
    · intro b q e hb hq
      rcases (by omega : b = 0 ∨ b = 1 ∨ b = 2) with rfl | rfl | rfl
      · rw [z3 0 q e (by omega) hq]; simp [blk]
      · rw [z3 1 q e (by omega) hq]; simp [blk]
      · simp [blk]

end Cert.Proof.Alg

end
-- ==== Proof.Alg.HostVal.lean ====
/-
  The host's arrays, entry by entry, of real arguments: the forward pass in real numbers, and the padded layouts.
-/
module

public import proofs.«01_k».proof.Proof.Alg.Host
public import proofs.«01_k».proof.Proof.Alg.State
public import Idealize.ShloMosaic.Lib.IdealHost
public import Idealize.ShloMosaic.Lib.KernelVsHost

@[expose] public section

set_option maxRecDepth 16384

noncomputable section

namespace Cert.Proof.Alg

open Cert.KernelIdeal Cert.KernelIdeal.Gen
open Idealize.ShloMosaic Idealize.ShloMosaic.TcCoe
open Finset

theorem ofBits_eighth : Ideal.ofBits .f32 1040187392#32 = ((1 / 8 : ℝ) : EReal) := by
  simp [Ideal.ofBits, Ideal.ieee, -EReal.coe_mul]; norm_num
theorem ofBits_bot : Ideal.ofBits .f32 4286578688#32 = ⊥ := by
  simp [Ideal.ofBits, Ideal.ieee]

section terms

variable (Q K W D : FVec Ideal S8x2064x64 .f32) (C : FVec Ideal S8x2064 .f32)

theorem qsT_at (h : Fin 8) (r : Fin 2064) (d : Fin 64) : qsT Q (ix3 h r d) = Q (ix3 h r d) * ((1 / 8 : ℝ) : EReal) := by
  pointwise [qsT]
  rw [← ofBits_eighth]

theorem le_bit (k q : Fin 2064) : IntOp.cmpi .sle (BitVec.ofNat 32 k.val) (BitVec.ofNat 32 q.val) = if k.val ≤ q.val then 1#1 else 0#1 := by
  have hk := k.isLt
  have hq := q.isLt
  show BitVec.ofBool (BitVec.sle (BitVec.ofNat 32 k.val) (BitVec.ofNat 32 q.val)) = _
  rw [BitVec.sle_eq_decide, WordCmp.toInt_ofNat_of_lt (by omega), WordCmp.toInt_ofNat_of_lt (by omega)]
  by_cases h : k.val ≤ q.val
  · rw [if_pos h, decide_eq_true (by omega)]; rfl
  · rw [if_neg h, decide_eq_false (by omega)]; rfl

theorem scT_at (h : Fin 8) (q k : Fin 2064) : scT Q K C (ix3 h q k) = if k.val ≤ q.val then (∑ d : Fin 64, qsT Q (ix3 h q d) * K (ix3 h k d)) + (C (ix2 h q) - C (ix2 h k)) else ⊥ := by
  pointwise [scT, maskT]
  rw [le_bit, ofBits_bot]
  by_cases h : k.val ≤ q.val
  · rw [if_pos h, if_pos h]; rfl
  · rw [if_neg h, if_neg h]; rfl

theorem mxT_at (h : Fin 8) (q : Fin 2064) : mxT Q K C (ix2 h q) = Finset.fold max ⊥ (fun k : Fin 2064 => scT Q K C (ix3 h q k)) univ := by
  pointwise [mxT]
  rw [ofBits_bot]

theorem exT_at (h : Fin 8) (q k : Fin 2064) : exT Q K C (ix3 h q k) = Ideal.exp (scT Q K C (ix3 h q k) - mxT Q K C (ix2 h q)) := by
  pointwise [exT]

theorem lT_at (h : Fin 8) (q : Fin 2064) : lT Q K C (ix2 h q) = ∑ k : Fin 2064, exT Q K C (ix3 h q k) := by
  pointwise [lT]

theorem pT_at (h : Fin 8) (q k : Fin 2064) : pT Q K C (ix3 h q k) = Ideal.div (exT Q K C (ix3 h q k)) (lT Q K C (ix2 h q)) := by
  pointwise [pT]

theorem oT_at (h : Fin 8) (q : Fin 2064) (d : Fin 64) : oT Q K W C (ix3 h q d) = ∑ k : Fin 2064, pT Q K C (ix3 h q k) * W (ix3 h k d) := by
  pointwise [oT]

theorem squeeze_at (X : FVec Ideal S8x2064x1 .f32) (h : Fin 8) (q : Fin 2064) : shapeCast S8x2064 X shapeCasts_S8x2064x1_S8x2064 (ix2 h q) = X (ix3 h q 0) :=
  shapeCast_apply _ _ _ _ (by rw [Shape.rowMajor_val_three, Shape.rowMajor_val_two]; show (h.val * 2064 + q.val) * 1 + 0 = h.val * 2064 + q.val; omega)

theorem logsum_at (X L : FVec Ideal S8x2064 .f32) (h : Fin 8) (q : Fin 2064) :
    shapeCast S8x2064 (addf (broadcastInDim S8x2064x1 ![0, 1] bcast_S8x2064_S8x2064x1_0_1 X) (Host.log (broadcastInDim S8x2064x1 ![0, 1] bcast_S8x2064_S8x2064x1_0_1 L))) shapeCasts_S8x2064x1_S8x2064 (ix2 h q)
      = X (ix2 h q) + Ideal.log (L (ix2 h q)) := by
  rw [squeeze_at]
  pointwise

theorem lseT_at (h : Fin 8) (q : Fin 2064) : lseT Q K C (ix2 h q) = mxT Q K C (ix2 h q) + Ideal.log (lT Q K C (ix2 h q)) := by
  rw [lseT, logsum_at]

end terms

/-- An entry of an array of rows, zero outside it. -/
def rd3 (X : FVec Ideal S8x2064x64 .f32) (h r d : ℕ) : EReal := if H : h < 8 ∧ r < 2064 ∧ d < 64 then X (ix3 ⟨h, H.1⟩ ⟨r, H.2.1⟩ ⟨d, H.2.2⟩) else 0
def rd2 (X : FVec Ideal S8x2064 .f32) (h r : ℕ) : EReal := if H : h < 8 ∧ r < 2064 then X (ix2 ⟨h, H.1⟩ ⟨r, H.2⟩) else 0

theorem zero_at : (FloatOps.sitofp (F := Ideal) .f32 (0#32) : Ideal .f32) = 0 := sitofp_zero

theorem dite_congr' {α : Type} {p q : Prop} [Decidable p] [Decidable q] (h : p ↔ q) {f : p → α} {g : q → α} {z z' : α} (hf : ∀ a b, f a = g b) (hz : z = z') :
    (if a : p then f a else z) = if b : q then g b else z' := by
  by_cases a : p
  · rw [dif_pos a, dif_pos (h.1 a)]; exact hf _ _
  · rw [dif_neg a, dif_neg (fun b => a (h.2 b))]; exact hz

theorem rowsT_at (X : FVec Ideal S8x2064x64 .f32) (r : Fin 2304) (y : Fin 1024) : rowsT X (ix2 r y) = rd3 X (y.val / 128) r.val (y.val % 128) := by
  pointwise [rowsT]
  unfold rd3
  exact dite_congr' (by tauto) (fun _ _ => rfl) zero_at

theorem vecT_at (X : FVec Ideal S8x2064 .f32) (h : Fin 8) (b : Fin 3) (r : Fin 768) : vecT X (ix4 h b 0 r) = rd2 X h.val (768 * b.val + r.val) := by
  pointwise [vecT]
  unfold rd2
  have := h.isLt
  exact dite_congr' (by omega) (fun _ _ => congrArg X (congrArg (fun i => ix2 h i) (Fin.ext (by show b.val * 768 + r.val = 768 * b.val + r.val; omega)))) zero_at

theorem lanesT_at (X : FVec Ideal S8x2064 .f32) (r : Fin 2304) (y : Fin 1024) : lanesT X (ix2 r y) = rd2 X (y.val / 128) r.val := by
  pointwise [lanesT]
  unfold rd2
  exact dite_congr' (by tauto) (fun _ _ => rfl) zero_at

theorem qkvT_at (Q K W : FVec Ideal S8x2064x64 .f32) (r : Fin 2304) (y : Fin 3072) :
    qkvT Q K W (ix2 r y) = if h : y.val < 1024 then rowsT (qsT Q) (ix2 r ⟨y.val, h⟩) else if h' : y.val < 2048 then rowsT K (ix2 r ⟨y.val - 1024, by omega⟩) else rowsT W (ix2 r ⟨y.val - 2048, by omega⟩) := by
  pointwise [qkvT]
  by_cases h : y.val < 1024
  · rw [dif_pos h, dif_pos h]
  · rw [dif_neg h, dif_neg h]
    by_cases h' : y.val < 2048
    · rw [dif_pos (show y.val - 1024 < 1024 by omega), dif_pos h']
    · rw [dif_neg (show ¬ y.val - 1024 < 1024 by omega), dif_neg h']
      exact congrArg (rowsT W) (congrArg (fun i => ix2 r i) (Fin.ext (by show y.val - (1024 + 1024) = y.val - 2048; omega)))

end Cert.Proof.Alg

end
-- ==== Proof.Alg.Head.lean ====
/-
  The host's arrays of real arguments: every entry is the forward pass of its head in real numbers.
-/
module

public import proofs.«01_k».proof.Proof.Alg.HostVal

@[expose] public section

set_option maxRecDepth 16384

noncomputable section

namespace Cert.Proof.Alg

open Cert.KernelIdeal Cert.KernelIdeal.Gen
open Idealize.ShloMosaic Idealize.ShloMosaic.TcCoe
open Finset

/-- Every entry is a real number. -/
def Real3 (X : FVec Ideal S8x2064x64 .f32) : Prop := ∀ i, ∃ r : ℝ, X i = (r : EReal)
def Real2 (X : FVec Ideal S8x2064 .f32) : Prop := ∀ i, ∃ r : ℝ, X i = (r : EReal)

/-- An entry as a real number. -/
def re3 (X : FVec Ideal S8x2064x64 .f32) (h r d : ℕ) : ℝ := (rd3 X h r d).toReal
def re2 (X : FVec Ideal S8x2064 .f32) (h r : ℕ) : ℝ := (rd2 X h r).toReal

theorem rd3_fin (X : FVec Ideal S8x2064x64 .f32) (h : Fin 8) (r : Fin 2064) (d : Fin 64) : rd3 X h.val r.val d.val = X (ix3 h r d) :=
  dif_pos ⟨h.isLt, r.isLt, d.isLt⟩
theorem rd2_fin (X : FVec Ideal S8x2064 .f32) (h : Fin 8) (r : Fin 2064) : rd2 X h.val r.val = X (ix2 h r) :=
  dif_pos ⟨h.isLt, r.isLt⟩
theorem rd3_out (X : FVec Ideal S8x2064x64 .f32) {h r d : ℕ} (H : 2064 ≤ r ∨ 64 ≤ d) : rd3 X h r d = 0 := dif_neg (by omega)
theorem rd2_out (X : FVec Ideal S8x2064 .f32) {h r : ℕ} (H : 2064 ≤ r) : rd2 X h r = 0 := dif_neg (by omega)

theorem rd3_re {X : FVec Ideal S8x2064x64 .f32} (hX : Real3 X) (h r d : ℕ) : rd3 X h r d = (re3 X h r d : EReal) := by
  unfold re3
  by_cases H : h < 8 ∧ r < 2064 ∧ d < 64
  · obtain ⟨x, hx⟩ := hX (ix3 ⟨h, H.1⟩ ⟨r, H.2.1⟩ ⟨d, H.2.2⟩)
    have e : rd3 X h r d = (x : EReal) := (dif_pos H).trans hx
    rw [e, EReal.toReal_coe]
  · have e : rd3 X h r d = 0 := dif_neg H
    rw [e]; rfl
theorem rd2_re {X : FVec Ideal S8x2064 .f32} (hX : Real2 X) (h r : ℕ) : rd2 X h r = (re2 X h r : EReal) := by
  unfold re2
  by_cases H : h < 8 ∧ r < 2064
  · obtain ⟨x, hx⟩ := hX (ix2 ⟨h, H.1⟩ ⟨r, H.2⟩)
    have e : rd2 X h r = (x : EReal) := (dif_pos H).trans hx
    rw [e, EReal.toReal_coe]
  · have e : rd2 X h r = 0 := dif_neg H
    rw [e]; rfl
theorem at_re3 {X : FVec Ideal S8x2064x64 .f32} (hX : Real3 X) (h : Fin 8) (r : Fin 2064) (d : Fin 64) : X (ix3 h r d) = (re3 X h.val r.val d.val : EReal) :=
  (rd3_fin X h r d).symm.trans (rd3_re hX _ _ _)
theorem at_re2 {X : FVec Ideal S8x2064 .f32} (hX : Real2 X) (h : Fin 8) (r : Fin 2064) : X (ix2 h r) = (re2 X h.val r.val : EReal) :=
  (rd2_fin X h r).symm.trans (rd2_re hX _ _)

/-- The arguments as they must be: every entry a real number. -/
structure Reals (Q K W D : FVec Ideal S8x2064x64 .f32) (C : FVec Ideal S8x2064 .f32) : Prop where
  q : Real3 Q
  k : Real3 K
  w : Real3 W
  d : Real3 D
  c : Real2 C

section

variable (Q K W D : FVec Ideal S8x2064x64 .f32) (C : FVec Ideal S8x2064 .f32)

/-- Head `h` of the arguments. -/
def hdOf (h : ℕ) : Hd := ⟨re3 Q h, re3 K h, re3 W h, re3 D h, re2 C h, re2 (mxT Q K C) h⟩

theorem re3_out (X : FVec Ideal S8x2064x64 .f32) {h r d : ℕ} (H : 2064 ≤ r ∨ 64 ≤ d) : re3 X h r d = 0 := by
  unfold re3; rw [rd3_out X H]; rfl

theorem hdOf_padded (h : ℕ) : (hdOf Q K W D C h).Padded where
  q r e H := re3_out Q H
  k r e H := re3_out K H
  v r e H := re3_out W H
  d r e H := re3_out D H

end

variable {Q K W D : FVec Ideal S8x2064x64 .f32} {C : FVec Ideal S8x2064 .f32}

theorem qsT_re (H : Reals Q K W D C) (h : Fin 8) (r : Fin 2064) (d : Fin 64) : qsT Q (ix3 h r d) = ((hdOf Q K W D C h.val).Qs r.val d.val : EReal) := by
  rw [qsT_at, at_re3 H.q, ← EReal.coe_mul]; rfl

theorem scT_re (H : Reals Q K W D C) (h : Fin 8) (q k : Fin 2064) :
    scT Q K C (ix3 h q k) = if k.val ≤ q.val then ((hdOf Q K W D C h.val).sc q.val k.val : EReal) else ⊥ := by
  rw [scT_at]
  rw [coe_sum_fin (fun d => (hdOf Q K W D C h.val).Qs q.val d * (hdOf Q K W D C h.val).K k.val d) _ fun d => by rw [qsT_re H, at_re3 H.k, ← EReal.coe_mul]; rfl]
  rw [at_re2 H.c, at_re2 H.c, ← EReal.coe_sub, ← EReal.coe_add]
  rfl

theorem mxT_real (H : Reals Q K W D C) : Real2 (mxT Q K C) := by
  intro i
  obtain ⟨h, q, rfl⟩ : ∃ (h : Fin 8) (q : Fin 2064), i = ix2 h q := ⟨i 0, i 1, by funext a; match a with | ⟨0, _⟩ => rfl | ⟨1, _⟩ => rfl⟩
  have ht : mxT Q K C (ix2 h q) < ⊤ := by
    rw [mxT_at, Finset.fold_max_lt]
    refine ⟨bot_lt_top, fun k _ => ?_⟩
    rw [scT_re H]
    split
    · exact EReal.coe_lt_top _
    · exact bot_lt_top
  have hb : ⊥ < mxT Q K C (ix2 h q) := by
    rw [mxT_at, Finset.lt_fold_max]
    refine .inr ⟨q, mem_univ _, ?_⟩
    rw [scT_re H, if_pos (le_refl _)]
    exact EReal.bot_lt_coe _
  exact ⟨_, (EReal.coe_toReal ht.ne hb.ne').symm⟩

theorem mxT_re (H : Reals Q K W D C) (h : Fin 8) (q : Fin 2064) : mxT Q K C (ix2 h q) = ((hdOf Q K W D C h.val).M q.val : EReal) :=
  at_re2 (mxT_real H) h q

theorem exT_re (H : Reals Q K W D C) (h : Fin 8) (q k : Fin 2064) : exT Q K C (ix3 h q k) = ((hdOf Q K W D C h.val).ex q.val k.val : EReal) := by
  rw [exT_at, scT_re H, mxT_re H]
  unfold Hd.ex
  split
  · rw [← EReal.coe_sub, Ideal.exp_coe]
  · rw [EReal.bot_sub, Ideal.exp_bot]; rfl

theorem lT_re (H : Reals Q K W D C) (h : Fin 8) (q : Fin 2064) : lT Q K C (ix2 h q) = ((hdOf Q K W D C h.val).l q.val : EReal) := by
  rw [lT_at, coe_sum_fin (fun k => (hdOf Q K W D C h.val).ex q.val k) _ fun k => exT_re H h q k]
  rfl

theorem pT_re (H : Reals Q K W D C) (h : Fin 8) (q k : Fin 2064) : pT Q K C (ix3 h q k) = ((hdOf Q K W D C h.val).pr q.val k.val : EReal) := by
  rw [pT_at, exT_re H, lT_re H, Ideal.div_coe ((hdOf Q K W D C h.val).l_pos q.isLt).ne', ← EReal.coe_mul, mul_one_div]
  rfl

theorem oT_re (H : Reals Q K W D C) (h : Fin 8) (q : Fin 2064) (d : Fin 64) : oT Q K W C (ix3 h q d) = ((hdOf Q K W D C h.val).o q.val d.val : EReal) := by
  rw [oT_at, coe_sum_fin (fun k => (hdOf Q K W D C h.val).pr q.val k * (hdOf Q K W D C h.val).V k d.val) _ fun k => by rw [pT_re H, at_re3 H.w, ← EReal.coe_mul]; rfl]
  rfl

theorem lseT_re (H : Reals Q K W D C) (h : Fin 8) (q : Fin 2064) : lseT Q K C (ix2 h q) = ((hdOf Q K W D C h.val).lse q.val : EReal) := by
  rw [lseT_at, mxT_re H, lT_re H, Ideal.log_coe, if_neg (not_le.2 ((hdOf Q K W D C h.val).l_pos q.isLt)), ← EReal.coe_add]
  rfl

/-! ## The same, padded -/

theorem rd3_qs (H : Reals Q K W D C) {h : ℕ} (hh : h < 8) (r e : ℕ) : rd3 (qsT Q) h r e = ((hdOf Q K W D C h).Qs r e : EReal) := by
  by_cases he : r < 2064 ∧ e < 64
  · exact (rd3_fin (qsT Q) ⟨h, hh⟩ ⟨r, he.1⟩ ⟨e, he.2⟩).trans (qsT_re H _ _ _)
  · rw [rd3_out _ (by omega)]
    unfold Hd.Qs
    rw [(hdOf_padded Q K W D C h).q r e (by omega), zero_mul]; rfl

theorem rd3_o (H : Reals Q K W D C) {h : ℕ} (hh : h < 8) (r e : ℕ) : rd3 (oT Q K W C) h r e = ((if r < 2064 ∧ e < 64 then (hdOf Q K W D C h).o r e else 0 : ℝ) : EReal) := by
  by_cases he : r < 2064 ∧ e < 64
  · rw [if_pos he]
    exact (rd3_fin (oT Q K W C) ⟨h, hh⟩ ⟨r, he.1⟩ ⟨e, he.2⟩).trans (oT_re H _ _ _)
  · rw [rd3_out _ (by omega), if_neg he]; rfl

theorem rd2_lse (H : Reals Q K W D C) {h : ℕ} (hh : h < 8) (r : ℕ) : rd2 (lseT Q K C) h r = ((hdOf Q K W D C h).lseP r : EReal) := by
  unfold Hd.lseP
  by_cases he : r < 2064
  · rw [if_pos he]
    exact (rd2_fin (lseT Q K C) ⟨h, hh⟩ ⟨r, he⟩).trans (lseT_re H _ _)
  · rw [rd2_out _ (by omega), if_neg he]; rfl

end Cert.Proof.Alg

end
-- ==== Proof.Alg.Blocks.lean ====
/-
  What a point reads: its blocks of the host's arrays, entry by entry, as one head's real numbers.
-/
module

public import proofs.«01_k».proof.Proof.Alg.Head
public import proofs.«01_k».proof.Proof.PI.Frame
public import Idealize.ShloMosaic.Lib.Pipeline.ValueKit

@[expose] public section

set_option maxRecDepth 16384

noncomputable section

namespace Cert.Proof.Alg

open Cert.KernelIdeal Cert.KernelIdeal.Gen
open Idealize.ShloMosaic Idealize.ShloMosaic.TcCoe
open Cert.Proof.PI
open Finset

theorem qBlk_at {e : EltTy} (x : Vec Ideal S2304x256 e) (h : Fin 2) (b : Fin 3) (r : Fin 768) (y : Fin 128) :
    qBlk x h b (ix2 r y) = x (ix2 ⟨768 * b.val + r.val, by omega⟩ ⟨128 * h.val + y.val, by omega⟩) :=
  congrArg x (funext fun a => match a with
    | ⟨0, _⟩ => Fin.ext (show 768 * b.val + 1 * r.val = 768 * b.val + r.val by rw [Nat.one_mul])
    | ⟨1, _⟩ => Fin.ext (show 128 * h.val + 1 * y.val = 128 * h.val + y.val by rw [Nat.one_mul]))
theorem kBlk_at {e : EltTy} (x : Vec Ideal S768x256 e) (h : Fin 2) (r : Fin 768) (y : Fin 128) :
    kBlk x h (ix2 r y) = x (ix2 r ⟨128 * h.val + y.val, by omega⟩) :=
  congrArg x (funext fun a => match a with
    | ⟨0, _⟩ => Fin.ext (show 0 + 1 * r.val = r.val by omega)
    | ⟨1, _⟩ => Fin.ext (show 128 * h.val + 1 * y.val = 128 * h.val + y.val by rw [Nat.one_mul]))
theorem cBlk_at {e : EltTy} (x : Vec Ideal S768x256 e) (h : Fin 2) (r : Fin 768) :
    cBlk x h (ix2 r 0) = x (ix2 r ⟨128 * h.val, by omega⟩) :=
  congrArg x (funext fun a => match a with
    | ⟨0, _⟩ => Fin.ext (show 0 + 1 * r.val = r.val by omega)
    | ⟨1, _⟩ => Fin.ext (show 128 * h.val + 1 * 0 = 128 * h.val by omega))
theorem rBlk_at (x : Vec Ideal S2x3x1x768 .f32) (h : Fin 2) (b : Fin 3) (r : Fin 768) : rBlk x h b (ix4 0 0 0 r) = x (ix4 h b 0 r) :=
  congrArg x (funext fun a => match a with
    | ⟨0, _⟩ => Fin.ext (show h.val + 1 * 0 = h.val by omega)
    | ⟨1, _⟩ => Fin.ext (show b.val + 1 * 0 = b.val by omega)
    | ⟨2, _⟩ => Fin.ext (show 0 + 1 * 0 = 0 by omega)
    | ⟨3, _⟩ => Fin.ext (show 0 + 1 * r.val = r.val by omega))

/-- The blocks' places, at every point. -/
theorem idx : ∀ t : Fin cfg0.N, (win0_0.index t = ![0, t.val / 3] ∧ win0_1.index t = ![t.val % 3, 4 + t.val / 3] ∧ win0_2.index t = ![t.val % 3, 8 + t.val / 3]
    ∧ win0_3.index t = ![0, t.val / 3] ∧ win0_4.index t = ![0, t.val / 3] ∧ win0_5.index t = ![t.val / 3, 0, 0, 0] ∧ win0_6.index t = ![t.val % 3, t.val / 3] ∧ win0_7.index t = ![t.val / 3, 0, 0, 0])
    ∧ (grid0.coords t 1).val = t.val % 3 ∧ t.val / 3 < 4 :=
  (by decide +kernel : ∀ t : Fin grid0.N, _)

theorem idxOut : ∀ t : Fin cfg0.N, win0_8.index t = ![0, t.val / 3] ∧ win0_9.index t = ![t.val % 3, t.val / 3] ∧ win0_10.index t = ![t.val % 3, t.val / 3]
    ∧ win0_11.index t = ![t.val / 3, 0, 0, 0] ∧ win0_12.index t = ![t.val % 3, t.val / 3] :=
  (by decide +kernel : ∀ t : Fin grid0.N, _)

section

variable (m : (ℓ : Loc nD τ sig) → Buf (Elt Ideal) ℓ) (c : Dev nD) (t : Fin cfg0.N)

theorem read0 (r : Fin 2304) (y : Fin 256) : (iblk m c 0 t : Vec Ideal S2304x256 .bf16) (ix2 r y) = rd3 (qsT (aQ m c)) (2 * (t.val / 3) + y.val / 128) r.val (y.val % 128) := by
  have ht := (idx t).2.2
  have e : (iblk m c 0 t : Vec Ideal S2304x256 .bf16) (ix2 r y) = (V m c main_v40 : FVec Ideal S2304x3072 .bf16) (ix2 r ⟨256 * (t.val / 3) + y.val, by omega⟩) := by
    blk_ext [iblk, idx t]
  rw [e, V40, qkvT_at, dif_pos (show 256 * (t.val / 3) + y.val < 1024 by omega), rowsT_at]
  congr 1
  · show (256 * (t.val / 3) + y.val) / 128 = _; omega
  · show (256 * (t.val / 3) + y.val) % 128 = _; omega

theorem read1 (r : Fin 768) (y : Fin 256) : (iblk m c 1 t : Vec Ideal S768x256 .bf16) (ix2 r y) = rd3 (aK m c) (2 * (t.val / 3) + y.val / 128) (768 * (t.val % 3) + r.val) (y.val % 128) := by
  have ht := (idx t).2.2
  have e : (iblk m c 1 t : Vec Ideal S768x256 .bf16) (ix2 r y) = (V m c main_v40 : FVec Ideal S2304x3072 .bf16) (ix2 ⟨768 * (t.val % 3) + r.val, by omega⟩ ⟨1024 + 256 * (t.val / 3) + y.val, by omega⟩) := by
    blk_ext [iblk, idx t]
  rw [e, V40, qkvT_at, dif_neg (show ¬ 1024 + 256 * (t.val / 3) + y.val < 1024 by omega), dif_pos (show 1024 + 256 * (t.val / 3) + y.val < 2048 by omega), rowsT_at]
  congr 1
  · show (1024 + 256 * (t.val / 3) + y.val - 1024) / 128 = _; omega
  · show (1024 + 256 * (t.val / 3) + y.val - 1024) % 128 = _; omega

theorem read2 (r : Fin 768) (y : Fin 256) : (iblk m c 2 t : Vec Ideal S768x256 .bf16) (ix2 r y) = rd3 (aW m c) (2 * (t.val / 3) + y.val / 128) (768 * (t.val % 3) + r.val) (y.val % 128) := by
  have ht := (idx t).2.2
  have e : (iblk m c 2 t : Vec Ideal S768x256 .bf16) (ix2 r y) = (V m c main_v40 : FVec Ideal S2304x3072 .bf16) (ix2 ⟨768 * (t.val % 3) + r.val, by omega⟩ ⟨2048 + 256 * (t.val / 3) + y.val, by omega⟩) := by
    blk_ext [iblk, idx t]
  rw [e, V40, qkvT_at, dif_neg (show ¬ 2048 + 256 * (t.val / 3) + y.val < 1024 by omega), dif_neg (show ¬ 2048 + 256 * (t.val / 3) + y.val < 2048 by omega), rowsT_at]
  congr 1
  · show (2048 + 256 * (t.val / 3) + y.val - 2048) / 128 = _; omega
  · show (2048 + 256 * (t.val / 3) + y.val - 2048) % 128 = _; omega

theorem truncf_rows (x : FVec Ideal S2304x1024 .f32) (i : S2304x1024.Idx) : (truncf .bf16 x bitsLt_bf16_f32 : FVec Ideal S2304x1024 .bf16) i = x i := by
  pointwise

theorem read3 (r : Fin 2304) (y : Fin 256) : (iblk m c 3 t : Vec Ideal S2304x256 .bf16) (ix2 r y) = rd3 (aD m c) (2 * (t.val / 3) + y.val / 128) r.val (y.val % 128) := by
  have ht := (idx t).2.2
  have e : (iblk m c 3 t : Vec Ideal S2304x256 .bf16) (ix2 r y) = (V m c main_v44 : FVec Ideal S2304x1024 .bf16) (ix2 r ⟨256 * (t.val / 3) + y.val, by omega⟩) := by
    blk_ext [iblk, idx t]
  rw [e, V44, truncf_rows, rowsT_at]
  congr 1
  · show (256 * (t.val / 3) + y.val) / 128 = _; omega
  · show (256 * (t.val / 3) + y.val) % 128 = _; omega

theorem read4 (r : Fin 2304) (y : Fin 256) : (iblk m c 4 t : Vec Ideal S2304x256 .f32) (ix2 r y) = rd3 (oT (aQ m c) (aK m c) (aW m c) (aC m c)) (2 * (t.val / 3) + y.val / 128) r.val (y.val % 128) := by
  have ht := (idx t).2.2
  have e : (iblk m c 4 t : Vec Ideal S2304x256 .f32) (ix2 r y) = (V m c main_v47 : FVec Ideal S2304x1024 .f32) (ix2 r ⟨256 * (t.val / 3) + y.val, by omega⟩) := by
    blk_ext [iblk, idx t]
  rw [e, V47, rowsT_at]
  congr 1
  · show (256 * (t.val / 3) + y.val) / 128 = _; omega
  · show (256 * (t.val / 3) + y.val) % 128 = _; omega

theorem read5 (h : Fin 2) (b : Fin 3) (r : Fin 768) : (iblk m c 5 t : Vec Ideal S2x3x1x768 .f32) (ix4 h b 0 r) = rd2 (lseT (aQ m c) (aK m c) (aC m c)) (2 * (t.val / 3) + h.val) (768 * b.val + r.val) := by
  have ht := (idx t).2.2
  have e : (iblk m c 5 t : Vec Ideal S2x3x1x768 .f32) (ix4 h b 0 r) = (V m c main_v54 : FVec Ideal S8x3x1x768 .f32) (ix4 ⟨2 * (t.val / 3) + h.val, by omega⟩ b 0 r) := by
    blk_ext [iblk, idx t]
  rw [e, V54, vecT_at]

theorem read6 (r : Fin 768) (y : Fin 256) : (iblk m c 6 t : Vec Ideal S768x256 .f32) (ix2 r y) = rd2 (aC m c) (2 * (t.val / 3) + y.val / 128) (768 * (t.val % 3) + r.val) := by
  have ht := (idx t).2.2
  have e : (iblk m c 6 t : Vec Ideal S768x256 .f32) (ix2 r y) = (V m c main_v53 : FVec Ideal S2304x1024 .f32) (ix2 ⟨768 * (t.val % 3) + r.val, by omega⟩ ⟨256 * (t.val / 3) + y.val, by omega⟩) := by
    blk_ext [iblk, idx t]
  rw [e, V53, lanesT_at]
  congr 1
  show (256 * (t.val / 3) + y.val) / 128 = _; omega

theorem read7 (h : Fin 2) (b : Fin 3) (r : Fin 768) : (iblk m c 7 t : Vec Ideal S2x3x1x768 .f32) (ix4 h b 0 r) = rd2 (aC m c) (2 * (t.val / 3) + h.val) (768 * b.val + r.val) := by
  have ht := (idx t).2.2
  have e : (iblk m c 7 t : Vec Ideal S2x3x1x768 .f32) (ix4 h b 0 r) = (V m c main_v55 : FVec Ideal S8x3x1x768 .f32) (ix4 ⟨2 * (t.val / 3) + h.val, by omega⟩ b 0 r) := by
    blk_ext [iblk, idx t]
  rw [e, V55, vecT_at]

end

end Cert.Proof.Alg

end
-- ==== Proof.Alg.Steps.lean ====
/-
  The points of a head pair, one after another: what each leaves of one head, in real numbers.
-/
module

public import proofs.«01_k».proof.Proof.Alg.Blocks

@[expose] public section

set_option maxRecDepth 16384

noncomputable section

namespace Cert.Proof.Alg

open Cert.KernelIdeal Cert.KernelIdeal.Gen
open Idealize.ShloMosaic Idealize.ShloMosaic.TcCoe
open Cert.Proof.PI
open Finset

theorem kvK_of (x3 x4 : Vec Ideal S768x256 .bf16) (x8 : Vec Ideal S768x256 .f32) (h : Fin 2) : kvK h (kvOf x3 x4 x8) = kBlk x3 h := by
  obtain rfl | rfl : h = 0 ∨ h = 1 := by omega
  · rw [kvK, if_pos rfl]; exact pay111_eq (kBlk x3 0)
  · rw [kvK, if_neg (by decide)]; exact pay112_eq (kBlk x3 1)
theorem kvV_of (x3 x4 : Vec Ideal S768x256 .bf16) (x8 : Vec Ideal S768x256 .f32) (h : Fin 2) : kvV h (kvOf x3 x4 x8) = kBlk x4 h := by
  obtain rfl | rfl : h = 0 ∨ h = 1 := by omega
  · rw [kvV, if_pos rfl]; exact pay113_eq (kBlk x4 0)
  · rw [kvV, if_neg (by decide)]; exact pay114_eq (kBlk x4 1)
theorem kvT_of (x3 x4 : Vec Ideal S768x256 .bf16) (x8 : Vec Ideal S768x256 .f32) (h : Fin 2) (e : Fin 128) (r : Fin 768) : kvT h (kvOf x3 x4 x8) (ix2 e r) = kBlk x3 h (ix2 r e) := by
  obtain rfl | rfl : h = 0 ∨ h = 1 := by omega
  · exact pay115_at _ _ _
  · exact pay116_at _ _ _
theorem kvC_of (x3 x4 : Vec Ideal S768x256 .bf16) (x8 : Vec Ideal S768x256 .f32) (h : Fin 2) : kvC h (kvOf x3 x4 x8) = cBlk x8 h := by
  obtain rfl | rfl : h = 0 ∨ h = 1 := by omega
  · rw [kvC, if_pos rfl]; exact pay117_eq (cBlk x8 0)
  · rw [kvC, if_neg (by decide)]; exact pay118_eq (cBlk x8 1)

section

variable (m : (ℓ : Loc nD τ sig) → Buf (Elt Ideal) ℓ) (c : Dev nD)

/-- Head `h` of head pair `g`. -/
abbrev HD (g : ℕ) (h : Fin 2) : Hd := hdOf (aQ m c) (aK m c) (aW m c) (aD m c) (aC m c) (2 * g + h.val)
/-- The arguments are real numbers. -/
abbrev Ok : Prop := Reals (aQ m c) (aK m c) (aW m c) (aD m c) (aC m c)

variable {m c}

theorem kRead (H : Ok m c) (t : Fin cfg0.N) (h : Fin 2) (r : Fin 768) (e : Fin 128) :
    kBlk (iblk m c 1 t : Vec Ideal S768x256 .bf16) h (ix2 r e) = ((HD m c (t.val / 3) h).K (768 * (t.val % 3) + r.val) e.val : EReal) := by
  rw [kBlk_at, read1]
  show rd3 _ (2 * (t.val / 3) + (128 * h.val + e.val) / 128) _ ((128 * h.val + e.val) % 128) = _
  rw [show (128 * h.val + e.val) / 128 = h.val by omega, show (128 * h.val + e.val) % 128 = e.val by omega, rd3_re H.k]
  rfl
theorem vRead (H : Ok m c) (t : Fin cfg0.N) (h : Fin 2) (r : Fin 768) (e : Fin 128) :
    kBlk (iblk m c 2 t : Vec Ideal S768x256 .bf16) h (ix2 r e) = ((HD m c (t.val / 3) h).V (768 * (t.val % 3) + r.val) e.val : EReal) := by
  rw [kBlk_at, read2]
  show rd3 _ (2 * (t.val / 3) + (128 * h.val + e.val) / 128) _ ((128 * h.val + e.val) % 128) = _
  rw [show (128 * h.val + e.val) / 128 = h.val by omega, show (128 * h.val + e.val) % 128 = e.val by omega, rd3_re H.w]
  rfl
theorem cRead (H : Ok m c) (t : Fin cfg0.N) (h : Fin 2) (r : Fin 768) :
    cBlk (iblk m c 6 t : Vec Ideal S768x256 .f32) h (ix2 r 0) = ((HD m c (t.val / 3) h).C (768 * (t.val % 3) + r.val) : EReal) := by
  rw [cBlk_at, read6]
  show rd2 _ (2 * (t.val / 3) + (128 * h.val) / 128) _ = _
  rw [show (128 * h.val) / 128 = h.val by omega, rd2_re H.c]
  rfl
theorem qRead (H : Ok m c) (t : Fin cfg0.N) (h : Fin 2) (b : Fin 3) (r : Fin 768) (e : Fin 128) :
    qBlk (iblk m c 0 t : Vec Ideal S2304x256 .bf16) h b (ix2 r e) = ((HD m c (t.val / 3) h).Qs (768 * b.val + r.val) e.val : EReal) := by
  have ht := (idx t).2.2
  rw [qBlk_at, read0]
  show rd3 _ (2 * (t.val / 3) + (128 * h.val + e.val) / 128) _ ((128 * h.val + e.val) % 128) = _
  rw [show (128 * h.val + e.val) / 128 = h.val by omega, show (128 * h.val + e.val) % 128 = e.val by omega, rd3_qs H (by omega)]
theorem dRead (H : Ok m c) (t : Fin cfg0.N) (h : Fin 2) (b : Fin 3) (r : Fin 768) (e : Fin 128) :
    qBlk (iblk m c 3 t : Vec Ideal S2304x256 .bf16) h b (ix2 r e) = ((HD m c (t.val / 3) h).D (768 * b.val + r.val) e.val : EReal) := by
  rw [qBlk_at, read3]
  show rd3 _ (2 * (t.val / 3) + (128 * h.val + e.val) / 128) _ ((128 * h.val + e.val) % 128) = _
  rw [show (128 * h.val + e.val) / 128 = h.val by omega, show (128 * h.val + e.val) % 128 = e.val by omega, rd3_re H.d]
  rfl
theorem oRead (H : Ok m c) (t : Fin cfg0.N) (h : Fin 2) (b : Fin 3) (r : Fin 768) (e : Fin 128) :
    qBlk (iblk m c 4 t : Vec Ideal S2304x256 .f32) h b (ix2 r e)
      = ((if 768 * b.val + r.val < 2064 ∧ e.val < 64 then (HD m c (t.val / 3) h).o (768 * b.val + r.val) e.val else 0 : ℝ) : EReal) := by
  have ht := (idx t).2.2
  rw [qBlk_at, read4]
  show rd3 _ (2 * (t.val / 3) + (128 * h.val + e.val) / 128) _ ((128 * h.val + e.val) % 128) = _
  rw [show (128 * h.val + e.val) / 128 = h.val by omega, show (128 * h.val + e.val) % 128 = e.val by omega, rd3_o H (by omega)]
theorem lRead (H : Ok m c) (t : Fin cfg0.N) (h : Fin 2) (b : Fin 3) (r : Fin 768) :
    rBlk (iblk m c 5 t : Vec Ideal S2x3x1x768 .f32) h b (ix4 0 0 0 r) = ((HD m c (t.val / 3) h).lseP (768 * b.val + r.val) : EReal) := by
  have ht := (idx t).2.2
  rw [rBlk_at, read5, rd2_lse H (by omega)]
theorem gRead (H : Ok m c) (t : Fin cfg0.N) (h : Fin 2) (b : Fin 3) (r : Fin 768) :
    rBlk (iblk m c 7 t : Vec Ideal S2x3x1x768 .f32) h b (ix4 0 0 0 r) = ((HD m c (t.val / 3) h).C (768 * b.val + r.val) : EReal) := by
  rw [rBlk_at, read7, rd2_re H.c]
  rfl

/-- The row sums a head pair's first point computes. -/
theorem dlAt_re (H : Ok m c) (t : Fin cfg0.N) (h : Fin 2) (b : Fin 3) (r : Fin 768) :
    rBlk (dlAt m c t) h b (ix4 0 0 0 r) = ((HD m c (t.val / 3) h).dl (768 * b.val + r.val) : EReal) := by
  have P := hdOf_padded (aQ m c) (aK m c) (aW m c) (aD m c) (aC m c) (2 * (t.val / 3) + h.val)
  unfold dlAt dlAll
  rw [rBlk_grid, pay14_at, coe_sum_fin (fun e => (HD m c (t.val / 3) h).D (768 * b.val + r.val) e * (HD m c (t.val / 3) h).o (768 * b.val + r.val) e) _ fun e => ?_]
  · rw [Hd.sum_lanes _ fun e he => by rw [P.d _ e (.inr he), zero_mul]]
    rfl
  · rw [dRead H, oRead H, ← EReal.coe_mul]
    by_cases he : 768 * b.val + r.val < 2064 ∧ e.val < 64
    · rw [if_pos he]
    · rw [if_neg he, P.d _ _ (by omega), zero_mul, zero_mul]

theorem in_of (H : Ok m c) (t : Fin cfg0.N) (h : Fin 2) {dl : Vec Ideal S2x3x1x768 .f32}
    (hdl : ∀ (b : Fin 3) r, rBlk dl h b (ix4 0 0 0 r) = ((HD m c (t.val / 3) h).dl (768 * b.val + r.val) : EReal)) :
    In (HD m c (t.val / 3) h) h (t.val % 3) (kvOf (iblk m c 1 t) (iblk m c 2 t) (iblk m c 6 t)) (iblk m c 0 t) (iblk m c 3 t) (iblk m c 5 t) (iblk m c 7 t) dl where
  k r e := by rw [kvK_of]; exact kRead H t h r e
  v r e := by rw [kvV_of]; exact vRead H t h r e
  t r e := by rw [kvT_of]; exact kRead H t h r e
  c r := by rw [kvC_of]; exact cRead H t h r
  q b r e := qRead H t h b r e
  d b r e := dRead H t h b r e
  l b r := lRead H t h b r
  g b r := gRead H t h b r
  s b r := hdl b r

/-- One point, from accumulators of which the reads are known. -/
theorem step (H : Ok m c) (t : Fin cfg0.N) (h : Fin 2) {dl y13 : Vec Ideal S2x3x1x768 .f32} {y15 : Vec Ideal S2x3x128x768 .f32} {gc : ℕ → ℕ → ℝ} {gq : ℕ → ℕ → ℕ → ℝ}
    (hdl : ∀ (b : Fin 3) r, rBlk dl h b (ix4 0 0 0 r) = ((HD m c (t.val / 3) h).dl (768 * b.val + r.val) : EReal))
    (hc : ∀ (b : Fin 3) q, rBlk y13 h b (ix4 0 0 0 q) = (gc b.val q.val : EReal))
    (hq : ∀ (b : Fin 3) q e, tBlk y15 h b (ix4 0 0 e q) = (gq b.val q.val e.val : EReal)) :
    HS h (stepSt m c t dl y13 y15)
      (fun k e => (HD m c (t.val / 3) h).dk (768 * (t.val % 3) + k) e) (fun k e => (HD m c (t.val / 3) h).dv (768 * (t.val % 3) + k) e) (fun k => (HD m c (t.val / 3) h).dck (768 * (t.val % 3) + k))
      (fun b q => gc b q + ∑ k ∈ range 768, (HD m c (t.val / 3) h).ds (768 * b + q) (768 * (t.val % 3) + k))
      (fun b q e => gq b q e + ∑ k ∈ range 768, (HD m c (t.val / 3) h).K (768 * (t.val % 3) + k) e * (HD m c (t.val / 3) h).ds (768 * b + q) (768 * (t.val % 3) + k)) := by
  have hi := (idx t).2.1
  have I := in_of H t h hdl
  rw [← hi] at I
  have R := HS.point (hdOf_padded (aQ m c) (aK m c) (aW m c) (aD m c) (aC m c) (2 * (t.val / 3) + h.val)) (grid0.coords t) I hc hq
  rw [hi] at R
  exact R

end

end Cert.Proof.Alg

end
-- ==== Proof.Alg.Points.lean ====
/-
  What every point of the grid leaves of a head, by recursion along the run.
-/
module

public import proofs.«01_k».proof.Proof.Alg.Steps

@[expose] public section

set_option maxRecDepth 16384

noncomputable section

namespace Cert.Proof.Alg

open Cert.KernelIdeal Cert.KernelIdeal.Gen
open Idealize.ShloMosaic Idealize.ShloMosaic.TcCoe
open Cert.Proof.PI
open Finset

section

variable {m : (ℓ : Loc nD τ sig) → Buf (Elt Ideal) ℓ} {c : Dev nD}

/-- The sums over the first `n` key blocks. -/
def cqN (A : Hd) (n b q : ℕ) : ℝ := ∑ j ∈ range n, ∑ k ∈ range 768, A.ds (768 * b + q) (768 * j + k)
def tqN (A : Hd) (n b q e : ℕ) : ℝ := ∑ j ∈ range n, ∑ k ∈ range 768, A.K (768 * j + k) e * A.ds (768 * b + q) (768 * j + k)

/-- What point `j` of head pair `g` leaves of a head. -/
def Holds (m : (ℓ : Loc nD τ sig) → Buf (Elt Ideal) ℓ) (c : Dev nD) (h : Fin 2) (g j : ℕ) (p : St Ideal × Vec Ideal S2x3x1x768 .f32) : Prop :=
  HS h p.1 (fun k e => (HD m c g h).dk (768 * j + k) e) (fun k e => (HD m c g h).dv (768 * j + k) e) (fun k => (HD m c g h).dck (768 * j + k))
      (cqN (HD m c g h) (j + 1)) (tqN (HD m c g h) (j + 1))
    ∧ ∀ (b : Fin 3) (r : Fin 768), rBlk p.2 h b (ix4 0 0 0 r) = ((HD m c g h).dl (768 * b.val + r.val) : EReal)

theorem zero13 (h : Fin 2) (b : Fin 3) (q : Fin 768) : rBlk (F := Ideal) (k0_pay13 (F := Ideal)) h b (ix4 0 0 0 q) = ((0 : ℝ) : EReal) := by
  rw [rBlk_at, pay13_at]; rfl
theorem zero12 (h : Fin 2) (b : Fin 3) (q : Fin 768) (e : Fin 128) : tBlk (F := Ideal) (k0_pay12 (F := Ideal)) h b (ix4 0 0 e q) = ((0 : ℝ) : EReal) := by
  unfold tBlk VecWindow.window
  exact (pay12_at _).trans EReal.coe_zero.symm

/-- What a point leaves of a head, put together. -/
theorem holds_of {h : Fin 2} {t : Fin cfg0.N} {s : St Ideal} {dl : Vec Ideal S2x3x1x768 .f32} {gc : ℕ → ℕ → ℝ} {gq : ℕ → ℕ → ℕ → ℝ}
    (S : HS h s (fun k e => (HD m c (t.val / 3) h).dk (768 * (t.val % 3) + k) e) (fun k e => (HD m c (t.val / 3) h).dv (768 * (t.val % 3) + k) e) (fun k => (HD m c (t.val / 3) h).dck (768 * (t.val % 3) + k)) gc gq)
    (ec : ∀ b q, gc b q = cqN (HD m c (t.val / 3) h) (t.val % 3 + 1) b q) (eq : ∀ b q e, gq b q e = tqN (HD m c (t.val / 3) h) (t.val % 3 + 1) b q e)
    (hdl : ∀ (b : Fin 3) (r : Fin 768), rBlk dl h b (ix4 0 0 0 r) = ((HD m c (t.val / 3) h).dl (768 * b.val + r.val) : EReal)) :
    Holds m c h (t.val / 3) (t.val % 3) (s, dl) :=
  And.intro ⟨S.dk, S.dv, S.dc, fun b q => (S.cq b q).trans (congrArg _ (ec _ _)), fun b q e => (S.tq b q e).trans (congrArg _ (eq _ _ _))⟩ hdl

theorem holds_first (H : Ok m c) (h : Fin 2) (t : Fin cfg0.N) (h0 : t.val % 3 = 0) :
    Holds m c h (t.val / 3) (t.val % 3) (stepSt m c t (dlAt m c t) (k0_pay13 (F := Ideal)) (k0_pay12 (F := Ideal)), dlAt m c t) := by
  have S := step H t h (dl := dlAt m c t) (y13 := k0_pay13 (F := Ideal)) (y15 := k0_pay12 (F := Ideal)) (gc := fun _ _ => 0) (gq := fun _ _ _ => 0) (fun b r => dlAt_re H t h b r)
    (fun b q => zero13 h b q) (fun b q e => zero12 h b q e)
  refine holds_of S ?_ ?_ (fun b r => dlAt_re H t h b r)
  · intro b q; unfold cqN; rw [h0, sum_range_one, zero_add]
  · intro b q e; unfold tqN; rw [h0, sum_range_one, zero_add]

theorem holds_next (H : Ok m c) (h : Fin 2) (t : Fin cfg0.N) (j : ℕ) (hj : t.val % 3 = j + 1) (p : St Ideal × Vec Ideal S2x3x1x768 .f32) (ih : Holds m c h (t.val / 3) j p) :
    Holds m c h (t.val / 3) (t.val % 3) (stepSt m c t p.2 p.1.2.1 p.1.2.2, p.2) := by
  obtain ⟨⟨s, y13, y15⟩, dl⟩ := p
  have hd : ∀ (b : Fin 3) (r : Fin 768), rBlk dl h b (ix4 0 0 0 r) = ((HD m c (t.val / 3) h).dl (768 * b.val + r.val) : EReal) := fun b r => ih.2 b r
  have hc : ∀ (b : Fin 3) (q : Fin 768), rBlk y13 h b (ix4 0 0 0 q) = (cqN (HD m c (t.val / 3) h) (j + 1) b.val q.val : EReal) := fun b q => ih.1.cq b q
  have hq : ∀ (b : Fin 3) (q : Fin 768) (e : Fin 128), tBlk y15 h b (ix4 0 0 e q) = (tqN (HD m c (t.val / 3) h) (j + 1) b.val q.val e.val : EReal) := fun b q e => ih.1.tq b q e
  have S := step H t h hd hc hq
  refine holds_of S ?_ ?_ hd
  · intro b q; unfold cqN; rw [hj, sum_range_succ _ (j + 1)]
  · intro b q e; unfold tqN; rw [hj, sum_range_succ _ (j + 1)]

theorem at_first (H : Ok m c) (h : Fin 2) (t : Fin cfg0.N) (h0 : t.val % 3 = 0) : Holds m c h (t.val / 3) (t.val % 3) (stAt m c t.val t.isLt) := by
  rw [stAt_first m c t h0]
  exact holds_first H h t h0

theorem at_next (H : Ok m c) (h : Fin 2) (t : Fin cfg0.N) (h0 : ¬t.val % 3 = 0)
    (ih : Holds m c h ((t.val - 1) / 3) ((t.val - 1) % 3) (stAt m c (t.val - 1) (Nat.lt_of_le_of_lt (Nat.sub_le _ _) t.isLt))) :
    Holds m c h (t.val / 3) (t.val % 3) (stAt m c t.val t.isLt) := by
  rw [stAt_next m c t h0]
  have e1 : (t.val - 1) / 3 = t.val / 3 := by clear ih; omega
  have e2 : t.val % 3 = (t.val - 1) % 3 + 1 := by clear ih; omega
  rw [e1] at ih
  exact holds_next H h t _ e2 _ ih

/-- What every point leaves of a head. -/
theorem at_point (H : Ok m c) (h : Fin 2) (t : Fin cfg0.N) : Holds m c h (t.val / 3) (t.val % 3) (stAt m c t.val t.isLt) := by
  obtain ⟨n, hn⟩ := t
  induction n with
  | zero => exact at_first H h ⟨0, hn⟩ rfl
  | succ n ih =>
    by_cases h0 : (n + 1) % 3 = 0
    · exact at_first H h ⟨n + 1, hn⟩ h0
    · exact at_next H h ⟨n + 1, hn⟩ h0 (ih (Nat.lt_of_succ_lt hn))

theorem cqN_three (A : Hd) (b q : ℕ) : cqN A 3 b q = A.dcq (768 * b + q) := by
  unfold cqN Hd.dcq
  rw [Hd.sum_range3]
  simp [sum_range_succ]
theorem tqN_three (A : Hd) (b q e : ℕ) : tqN A 3 b q e = A.dq (768 * b + q) e := by
  unfold tqN Hd.dq
  rw [Hd.sum_range3]
  simp [sum_range_succ]

end

end Cert.Proof.Alg

end
-- ==== Proof.Alg.Ref.lean ====
/-
  The reference's gradients as terms over the arguments, and every step of them entry by entry.
-/
module

public import proofs.«01_k».proof.Proof.Gen.ReferenceIdeal
public import proofs.«01_k».proof.Proof.Alg.Head

@[expose] public section

set_option maxRecDepth 16384

noncomputable section

namespace Cert.Proof.Alg

open Cert.KernelIdeal Cert.KernelIdeal.Gen
open Idealize.ShloMosaic Idealize.ShloMosaic.TcCoe
open Finset

section terms

variable (X L : FVec Ideal S8x2064 .f32) (S E P : FVec Ideal S8x2064x2064 .f32) (A B : FVec Ideal S8x2064x64 .f32)

/-- A number per row, as a column, and the column repeated. -/
def colR : FVec Ideal S8x2064x1 .f32 := broadcastInDim S8x2064x1 ![0, 1] Cert.ReferenceIdeal.Gen.bcast_S8x2064_S8x2064x1_0_1 X
def repR (Y : FVec Ideal S8x2064x1 .f32) : FVec Ideal S8x2064x2064 .f32 := broadcastInDim S8x2064x2064 ![0, 1, 2] Cert.ReferenceIdeal.Gen.bcast_S8x2064x1_S8x2064x2064_0_1_2 Y
/-- The greatest score, once more bounded below by minus infinity. -/
def mxR : FVec Ideal S8x2064 .f32 := maximumf (broadcastInDim S8x2064 ![] Cert.ReferenceIdeal.Gen.bcast_S_S8x2064 (constant S_ .f32 4286578688#32)) X
/-- The exponentials, their sums, the probabilities. -/
def exR : FVec Ideal S8x2064x2064 .f32 := Host.exp (subf S (repR (colR X)))
def lR : FVec Ideal S8x2064 .f32 := Host.reduceAdd E (constant S_ .f32 0#32) Cert.ReferenceIdeal.Gen.reducesTo_S8x2064x2064_S8x2064_d2 Cert.ReferenceIdeal.Gen.h_S_
def pR : FVec Ideal S8x2064x2064 .f32 := Host.divf E (repR (colR L))
/-- One over the square of the sums. -/
def invR : FVec Ideal S8x2064x1 .f32 :=
  Host.divf (broadcastInDim S8x2064x1 ![] Cert.ReferenceIdeal.Gen.bcast_S_S8x2064x1 (constant S_ .f32 1065353216#32)) (mulf (colR L) (colR L))
/-- The products of the output's gradient with the values. -/
def dpR : FVec Ideal S8x2064x2064 .f32 := Host.dotGeneral Cert.ReferenceIdeal.dot_S8x2064x64_S8x2064x64_S8x2064x2064_2_2_1_1_0_0 none A B
/-- The sum through which the quotient's denominator receives its gradient. -/
def rowR : FVec Ideal S8x2064x1 .f32 :=
  shapeCast S8x2064x1 (Host.reduceAdd (mulf (mulf P (repR (invR L))) E) (constant S_ .f32 0#32) Cert.ReferenceIdeal.Gen.reducesTo_S8x2064x2064_S8x2064_d2 Cert.ReferenceIdeal.Gen.h_S_)
    Cert.ReferenceIdeal.Gen.shapeCasts_S8x2064_S8x2064x1
def denR : FVec Ideal S8x2064 .f32 :=
  Host.reduceAdd (Host.negf (rowR L E P)) (constant S_ .f32 0#32) Cert.ReferenceIdeal.Gen.reducesTo_S8x2064x1_S8x2064_d2 Cert.ReferenceIdeal.Gen.h_S_
/-- The scores' gradient. -/
def dsR : FVec Ideal S8x2064x2064 .f32 :=
  select (broadcastInDim S8x2064x2064 ![0, 1, 2] Cert.ReferenceIdeal.Gen.bcast_S1x2064x2064_S8x2064x2064_0_1_2 maskT)
    (mulf (addf (Host.divf P (repR (colR L))) (broadcastInDim S8x2064x2064 ![0, 1] Cert.ReferenceIdeal.Gen.bcast_S8x2064_S8x2064x2064_0_1 (denR L E P))) E)
    (broadcastInDim S8x2064x2064 ![] Cert.ReferenceIdeal.Gen.bcast_S_S8x2064x2064 (constant S_ .f32 0#32))
/-- The gates' gradients. -/
def dcqR : FVec Ideal S8x2064 .f32 :=
  Host.reduceAdd (shapeCast S8x2064x1 (Host.reduceAdd S (constant S_ .f32 0#32) Cert.ReferenceIdeal.Gen.reducesTo_S8x2064x2064_S8x2064_d2 Cert.ReferenceIdeal.Gen.h_S_)
    Cert.ReferenceIdeal.Gen.shapeCasts_S8x2064_S8x2064x1) (constant S_ .f32 0#32) Cert.ReferenceIdeal.Gen.reducesTo_S8x2064x1_S8x2064_d2 Cert.ReferenceIdeal.Gen.h_S_
def dckR : FVec Ideal S8x2064 .f32 :=
  Host.reduceAdd (shapeCast S8x1x2064 (Host.reduceAdd (Host.negf S) (constant S_ .f32 0#32) Cert.ReferenceIdeal.Gen.reducesTo_S8x2064x2064_S8x2064_d1 Cert.ReferenceIdeal.Gen.h_S_)
    Cert.ReferenceIdeal.Gen.shapeCasts_S8x2064_S8x1x2064) (constant S_ .f32 0#32) Cert.ReferenceIdeal.Gen.reducesTo_S8x1x2064_S8x2064_d1 Cert.ReferenceIdeal.Gen.h_S_
/-- The gradients of keys, queries and values. -/
def dkR : FVec Ideal S8x2064x64 .f32 := Host.dotGeneral Cert.ReferenceIdeal.dot_S8x2064x2064_S8x2064x64_S8x2064x64_1_1_2_2_0_0 none S A
def dqR : FVec Ideal S8x2064x64 .f32 := Host.dotGeneral Cert.ReferenceIdeal.dot_S8x2064x2064_S8x2064x64_S8x2064x64_2_1_1_2_0_0 none S A
def dvR : FVec Ideal S8x2064x64 .f32 :=
  transpose S8x2064x64 [0, 2, 1] (Host.dotGeneral Cert.ReferenceIdeal.dot_S8x2064x64_S8x2064x2064_S8x64x2064_1_1_2_2_0_0 none A P) Cert.ReferenceIdeal.Gen.transposes_S8x64x2064_S8x2064x64_0_2_1
/-- A number per row, repeated over its head's lanes at once. -/
def lanesR : FVec Ideal S2304x1024 .f32 :=
  shapeCast S2304x1024 (broadcastInDim S2304x8x128 ![0, 1] Cert.ReferenceIdeal.Gen.bcast_S2304x8_S2304x8x128_0_1
    (transpose S2304x8 [1, 0] (pad S8x2304 ![0, 0] ![0, 240] ![0, 0] X (sitofp .f32 (constantI S_ 32 0#32)) Cert.ReferenceIdeal.Gen.pads_S8x2064_S8x2304_000_02400 Cert.ReferenceIdeal.Gen.h_S_)
      Cert.ReferenceIdeal.Gen.transposes_S8x2304_S2304x8_1_0)) Cert.ReferenceIdeal.Gen.shapeCasts_S2304x8x128_S2304x1024
def rowsR : FVec Ideal S2304x1024 .bf16 := truncf .bf16 (rowsT A) Cert.ReferenceIdeal.Gen.bitsLt_bf16_f32

/-! ## Entry by entry -/

theorem ext2 {a b : ℕ} {α : Type} {X Y : Shape.Idx ⟨2, ![a, b]⟩ → α} (h : ∀ (i : Fin a) (j : Fin b), X (ix2 i j) = Y (ix2 i j)) : X = Y := by
  funext i
  have e : i = ix2 (i 0) (i 1) := by funext x; match x with | ⟨0, _⟩ => rfl | ⟨1, _⟩ => rfl
  rw [e]; exact h _ _

theorem mxR_eq : mxR X = X := by
  refine ext2 fun h q => ?_
  pointwise [mxR]
  rw [ofBits_bot]
  exact max_eq_right bot_le

theorem colR_at (h : Fin 8) (q : Fin 2064) (z : Fin 1) : colR X (ix3 h q z) = X (ix2 h q) := by pointwise [colR]
theorem repR_at (Y : FVec Ideal S8x2064x1 .f32) (h : Fin 8) (q k : Fin 2064) : repR Y (ix3 h q k) = Y (ix3 h q 0) := by pointwise [repR]
theorem invR_at (h : Fin 8) (q : Fin 2064) (z : Fin 1) : invR L (ix3 h q z) = Ideal.div 1 (L (ix2 h q) * L (ix2 h q)) := by
  pointwise [invR, colR]
theorem dpR_at (h : Fin 8) (q k : Fin 2064) : dpR A B (ix3 h q k) = ∑ d : Fin 64, A (ix3 h q d) * B (ix3 h k d) := by pointwise [dpR]
theorem unsq_at (h : Fin 8) (q : Fin 2064) (z : Fin 1) : shapeCast S8x2064x1 X Cert.ReferenceIdeal.Gen.shapeCasts_S8x2064_S8x2064x1 (ix3 h q z) = X (ix2 h q) :=
  shapeCast_apply _ _ _ _ (by rw [Shape.rowMajor_val_three, Shape.rowMajor_val_two]; show h.val * 2064 + q.val = (h.val * 2064 + q.val) * 1 + z.val; omega)
theorem unsq1_at (h : Fin 8) (q : Fin 2064) (z : Fin 1) : shapeCast S8x1x2064 X Cert.ReferenceIdeal.Gen.shapeCasts_S8x2064_S8x1x2064 (ix3 h z q) = X (ix2 h q) :=
  shapeCast_apply _ _ _ _ (by rw [Shape.rowMajor_val_three, Shape.rowMajor_val_two]; show h.val * 2064 + q.val = (h.val * 1 + z.val) * 2064 + q.val; omega)
theorem sum_d2 (h : Fin 8) (q : Fin 2064) :
    (Host.reduceAdd S (constant S_ .f32 0#32) Cert.ReferenceIdeal.Gen.reducesTo_S8x2064x2064_S8x2064_d2 Cert.ReferenceIdeal.Gen.h_S_ : FVec Ideal S8x2064 .f32) (ix2 h q) = ∑ k : Fin 2064, S (ix3 h q k) := by
  pointwise
theorem sum_d1 (h : Fin 8) (k : Fin 2064) :
    (Host.reduceAdd S (constant S_ .f32 0#32) Cert.ReferenceIdeal.Gen.reducesTo_S8x2064x2064_S8x2064_d1 Cert.ReferenceIdeal.Gen.h_S_ : FVec Ideal S8x2064 .f32) (ix2 h k) = ∑ q : Fin 2064, S (ix3 h q k) := by
  pointwise
theorem sum_one2 (Y : FVec Ideal S8x2064x1 .f32) (h : Fin 8) (q : Fin 2064) :
    (Host.reduceAdd Y (constant S_ .f32 0#32) Cert.ReferenceIdeal.Gen.reducesTo_S8x2064x1_S8x2064_d2 Cert.ReferenceIdeal.Gen.h_S_ : FVec Ideal S8x2064 .f32) (ix2 h q) = Y (ix3 h q 0) := by
  have e : (Host.reduceAdd Y (constant S_ .f32 0#32) Cert.ReferenceIdeal.Gen.reducesTo_S8x2064x1_S8x2064_d2 Cert.ReferenceIdeal.Gen.h_S_ : FVec Ideal S8x2064 .f32) (ix2 h q) = ∑ k : Fin 1, Y (ix3 h q k) := by
    pointwise
  rw [e]
  exact Fin.sum_univ_one _
theorem sum_one1 (Y : FVec Ideal S8x1x2064 .f32) (h : Fin 8) (q : Fin 2064) :
    (Host.reduceAdd Y (constant S_ .f32 0#32) Cert.ReferenceIdeal.Gen.reducesTo_S8x1x2064_S8x2064_d1 Cert.ReferenceIdeal.Gen.h_S_ : FVec Ideal S8x2064 .f32) (ix2 h q) = Y (ix3 h 0 q) := by
  have e : (Host.reduceAdd Y (constant S_ .f32 0#32) Cert.ReferenceIdeal.Gen.reducesTo_S8x1x2064_S8x2064_d1 Cert.ReferenceIdeal.Gen.h_S_ : FVec Ideal S8x2064 .f32) (ix2 h q) = ∑ k : Fin 1, Y (ix3 h k q) := by
    pointwise
  rw [e]
  exact Fin.sum_univ_one _
theorem prod_at (h : Fin 8) (q k : Fin 2064) : mulf (mulf P (repR (invR L))) E (ix3 h q k) = P (ix3 h q k) * Ideal.div 1 (L (ix2 h q) * L (ix2 h q)) * E (ix3 h q k) := by
  have e : mulf (mulf P (repR (invR L))) E (ix3 h q k) = P (ix3 h q k) * repR (invR L) (ix3 h q k) * E (ix3 h q k) := by pointwise
  rw [e, repR_at, invR_at]
theorem neg1_at (Y : FVec Ideal S8x2064x1 .f32) (h : Fin 8) (q : Fin 2064) (z : Fin 1) : Host.negf Y (ix3 h q z) = -Y (ix3 h q z) := by pointwise
theorem neg_at (h : Fin 8) (q k : Fin 2064) : Host.negf S (ix3 h q k) = -S (ix3 h q k) := by pointwise
theorem denR_at (h : Fin 8) (q : Fin 2064) : denR L E P (ix2 h q) = -∑ k : Fin 2064, P (ix3 h q k) * Ideal.div 1 (L (ix2 h q) * L (ix2 h q)) * E (ix3 h q k) := by
  unfold denR rowR
  rw [sum_one2, neg1_at, unsq_at, sum_d2]
  simp only [prod_at]
theorem dsR_at (h : Fin 8) (q k : Fin 2064) :
    dsR L E P (ix3 h q k) = if k.val ≤ q.val then (Ideal.div (P (ix3 h q k)) (L (ix2 h q)) + denR L E P (ix2 h q)) * E (ix3 h q k) else 0 := by
  pointwise [dsR, repR, colR, maskT]
  rw [le_bit]
  by_cases h : k.val ≤ q.val
  · rw [if_pos h, if_pos h]; rfl
  · rw [if_neg h, if_neg h]; rfl
theorem dcqR_at (h : Fin 8) (q : Fin 2064) : dcqR S (ix2 h q) = ∑ k : Fin 2064, S (ix3 h q k) := by
  unfold dcqR
  rw [sum_one2, unsq_at, sum_d2]
theorem dckR_at (h : Fin 8) (k : Fin 2064) : dckR S (ix2 h k) = ∑ q : Fin 2064, -S (ix3 h q k) := by
  unfold dckR
  rw [sum_one1, unsq1_at, sum_d1]
  simp only [neg_at]
theorem dkR_at (h : Fin 8) (k : Fin 2064) (e : Fin 64) : dkR S A (ix3 h k e) = ∑ q : Fin 2064, S (ix3 h q k) * A (ix3 h q e) := by pointwise [dkR]
theorem dqR_at (h : Fin 8) (q : Fin 2064) (e : Fin 64) : dqR S A (ix3 h q e) = ∑ k : Fin 2064, S (ix3 h q k) * A (ix3 h k e) := by pointwise [dqR]
theorem dvR_at (h : Fin 8) (k : Fin 2064) (e : Fin 64) : dvR P A (ix3 h k e) = ∑ q : Fin 2064, A (ix3 h q e) * P (ix3 h q k) := by pointwise [dvR]
theorem lanesR_at (r : Fin 2304) (y : Fin 1024) : lanesR X (ix2 r y) = rd2 X (y.val / 128) r.val := by
  pointwise [lanesR]
  unfold rd2
  exact dite_congr' (by tauto) (fun _ _ => rfl) zero_at
theorem rowsR_at (r : Fin 2304) (y : Fin 1024) : rowsR A (ix2 r y) = rd3 A (y.val / 128) r.val (y.val % 128) := by
  have e : rowsR A (ix2 r y) = rowsT A (ix2 r y) := by pointwise [rowsR]
  rw [e, rowsT_at]

end terms

end Cert.Proof.Alg

end
-- ==== Proof.Alg.RefVal.lean ====
/-
  The reference's results of real arguments: the gradients of every head, in real numbers.
-/
module

public import proofs.«01_k».proof.Proof.Alg.Ref

@[expose] public section

set_option maxRecDepth 16384

noncomputable section

namespace Cert.Proof.Alg

open Cert.KernelIdeal Cert.KernelIdeal.Gen
open Idealize.ShloMosaic Idealize.ShloMosaic.TcCoe
open Finset

/-- The kernel's results, entry by entry, of the heads in real numbers. -/
def dqArr (A : ℕ → Hd) : FVec Ideal S2304x1024 .bf16 := fun i => ((A ((i 1).val / 128)).dq (i 0).val ((i 1).val % 128) : EReal)
def dkArr (A : ℕ → Hd) : FVec Ideal S2304x1024 .bf16 := fun i => ((A ((i 1).val / 128)).dk (i 0).val ((i 1).val % 128) : EReal)
def dvArr (A : ℕ → Hd) : FVec Ideal S2304x1024 .bf16 := fun i => ((A ((i 1).val / 128)).dv (i 0).val ((i 1).val % 128) : EReal)
def dckArr (A : ℕ → Hd) : FVec Ideal S2304x1024 .f32 := fun i => ((A ((i 1).val / 128)).dck (i 0).val : EReal)
def dcqArr (A : ℕ → Hd) : FVec Ideal S8x3x1x768 .f32 := fun i => ((A (i 0).val).dcq (768 * (i 1).val + (i 3).val) : EReal)

section

variable (Q K W D : FVec Ideal S8x2064x64 .f32) (C : FVec Ideal S8x2064 .f32)

/-- The reference's intermediate arrays. -/
def exF : FVec Ideal S8x2064x2064 .f32 := exR (mxR (mxT Q K C)) (scT Q K C)
def lF : FVec Ideal S8x2064 .f32 := lR (exF Q K C)
def dsF : FVec Ideal S8x2064x2064 .f32 := dsR (lF Q K C) (exF Q K C) (dpR D W)
/-- The reference's results. -/
def dqF : FVec Ideal S2304x1024 .bf16 := rowsR (dqR (dsF Q K W D C) K)
def dkF : FVec Ideal S2304x1024 .bf16 := rowsR (dkR (dsF Q K W D C) (qsT Q))
def dvF : FVec Ideal S2304x1024 .bf16 := rowsR (dvR (pR (lF Q K C) (exF Q K C)) D)
def dcqF : FVec Ideal S8x3x1x768 .f32 := vecT (dcqR (dsF Q K W D C))
def dckF : FVec Ideal S2304x1024 .f32 := lanesR (dckR (dsF Q K W D C))

theorem exF_eq : exF Q K C = exT Q K C := by unfold exF; rw [mxR_eq]; rfl
theorem lF_eq : lF Q K C = lT Q K C := by unfold lF; rw [exF_eq]; rfl
theorem pF_eq : pR (lF Q K C) (exF Q K C) = pT Q K C := by rw [exF_eq, lF_eq]; rfl

variable {Q K W D C}

theorem dp_re (H : Reals Q K W D C) (h : Fin 8) (q k : Fin 2064) : dpR D W (ix3 h q k) = ((hdOf Q K W D C h.val).dp q.val k.val : EReal) := by
  rw [dpR_at, coe_sum_fin (fun e => (hdOf Q K W D C h.val).D q.val e * (hdOf Q K W D C h.val).V k.val e) _ fun e => by rw [at_re3 H.d, at_re3 H.w, ← EReal.coe_mul]; rfl]
  rfl

theorem den_re (H : Reals Q K W D C) (h : Fin 8) (q : Fin 2064) :
    denR (lT Q K C) (exT Q K C) (dpR D W) (ix2 h q)
      = ((-(∑ k ∈ range 2064, (hdOf Q K W D C h.val).dp q.val k * (1 / ((hdOf Q K W D C h.val).l q.val * (hdOf Q K W D C h.val).l q.val)) * (hdOf Q K W D C h.val).ex q.val k) : ℝ) : EReal) := by
  have hl := ((hdOf Q K W D C h.val).l_pos q.isLt).ne'
  rw [denR_at, coe_sum_fin (fun k => (hdOf Q K W D C h.val).dp q.val k * (1 / ((hdOf Q K W D C h.val).l q.val * (hdOf Q K W D C h.val).l q.val)) * (hdOf Q K W D C h.val).ex q.val k) _ fun k => by
    rw [dp_re H, lT_re H, exT_re H, ← EReal.coe_mul, Ideal.div_coe (mul_ne_zero hl hl), one_mul, ← EReal.coe_mul, ← EReal.coe_mul]]
  rw [EReal.coe_neg]

theorem ds_re (H : Reals Q K W D C) (h : Fin 8) (q k : Fin 2064) : dsF Q K W D C (ix3 h q k) = ((hdOf Q K W D C h.val).ds q.val k.val : EReal) := by
  have hl := ((hdOf Q K W D C h.val).l_pos q.isLt).ne'
  unfold dsF
  rw [lF_eq, exF_eq, dsR_at]
  by_cases hk : k.val ≤ q.val
  · rw [if_pos hk, den_re H, dp_re H, lT_re H, exT_re H, Ideal.div_coe hl, ← EReal.coe_mul, ← EReal.coe_add, ← EReal.coe_mul, mul_one_div, Hd.ref_ds _ q.isLt]
  · rw [if_neg hk, Hd.ds_of_gt _ (by omega)]; rfl

theorem dq_val (H : Reals Q K W D C) : dqF Q K W D C = dqArr (hdOf Q K W D C) := by
  refine ext2 fun r y => ?_
  unfold dqF
  rw [rowsR_at]
  show _ = ((hdOf Q K W D C (y.val / 128)).dq r.val (y.val % 128) : EReal)
  rw [Hd.dq_eq (hdOf_padded Q K W D C _)]
  by_cases hr : r.val < 2064 ∧ y.val % 128 < 64
  · rw [if_pos hr]
    refine (rd3_fin _ (⟨y.val / 128, by omega⟩ : Fin 8) (⟨r.val, hr.1⟩ : Fin 2064) (⟨y.val % 128, hr.2⟩ : Fin 64)).trans ?_
    rw [dqR_at]
    exact coe_sum_fin (fun k => (hdOf Q K W D C (y.val / 128)).ds r.val k * (hdOf Q K W D C (y.val / 128)).K k (y.val % 128)) _ fun k => by
      rw [ds_re H, at_re3 H.k, ← EReal.coe_mul]; rfl
  · rw [if_neg hr, rd3_out _ (by omega)]; rfl

theorem dk_val (H : Reals Q K W D C) : dkF Q K W D C = dkArr (hdOf Q K W D C) := by
  refine ext2 fun r y => ?_
  unfold dkF
  rw [rowsR_at]
  show _ = ((hdOf Q K W D C (y.val / 128)).dk r.val (y.val % 128) : EReal)
  rw [Hd.dk_eq (hdOf_padded Q K W D C _)]
  by_cases hr : r.val < 2064 ∧ y.val % 128 < 64
  · rw [if_pos hr]
    refine (rd3_fin _ (⟨y.val / 128, by omega⟩ : Fin 8) (⟨r.val, hr.1⟩ : Fin 2064) (⟨y.val % 128, hr.2⟩ : Fin 64)).trans ?_
    rw [dkR_at]
    exact coe_sum_fin (fun q => (hdOf Q K W D C (y.val / 128)).ds q r.val * (hdOf Q K W D C (y.val / 128)).Qs q (y.val % 128)) _ fun q => by
      rw [ds_re H, qsT_re H, ← EReal.coe_mul]
  · rw [if_neg hr, rd3_out _ (by omega)]; rfl

theorem dv_val (H : Reals Q K W D C) : dvF Q K D C = dvArr (hdOf Q K W D C) := by
  refine ext2 fun r y => ?_
  unfold dvF
  rw [pF_eq, rowsR_at]
  show _ = ((hdOf Q K W D C (y.val / 128)).dv r.val (y.val % 128) : EReal)
  rw [Hd.dv_eq (hdOf_padded Q K W D C _)]
  by_cases hr : r.val < 2064 ∧ y.val % 128 < 64
  · rw [if_pos hr]
    refine (rd3_fin _ (⟨y.val / 128, by omega⟩ : Fin 8) (⟨r.val, hr.1⟩ : Fin 2064) (⟨y.val % 128, hr.2⟩ : Fin 64)).trans ?_
    rw [dvR_at]
    exact coe_sum_fin (fun q => (hdOf Q K W D C (y.val / 128)).D q (y.val % 128) * (hdOf Q K W D C (y.val / 128)).pr q r.val) _ fun q => by
      rw [pT_re H, at_re3 H.d, ← EReal.coe_mul]; rfl
  · rw [if_neg hr, rd3_out _ (by omega)]; rfl

theorem dck_val (H : Reals Q K W D C) : dckF Q K W D C = dckArr (hdOf Q K W D C) := by
  refine ext2 fun r y => ?_
  unfold dckF
  rw [lanesR_at]
  show _ = ((hdOf Q K W D C (y.val / 128)).dck r.val : EReal)
  rw [Hd.dck_eq]
  by_cases hr : r.val < 2064
  · rw [if_pos hr]
    refine (rd2_fin _ (⟨y.val / 128, by omega⟩ : Fin 8) (⟨r.val, hr⟩ : Fin 2064)).trans ?_
    rw [dckR_at]
    exact coe_sum_fin (fun q => -(hdOf Q K W D C (y.val / 128)).ds q r.val) _ fun q => by
      rw [ds_re H, ← EReal.coe_neg]
  · rw [if_neg hr, rd2_out _ (by omega)]; rfl

theorem dcq_val (H : Reals Q K W D C) : dcqF Q K W D C = dcqArr (hdOf Q K W D C) := by
  funext i
  obtain ⟨h, b, q, rfl⟩ : ∃ (h : Fin 8) (b : Fin 3) (q : Fin 768), i = ix4 h b 0 q :=
    ⟨i 0, i 1, i 3, by funext a; match a with | ⟨0, _⟩ => rfl | ⟨1, _⟩ => rfl | ⟨2, _⟩ => exact Fin.ext (by have : (i 2).val < 1 := (i 2).isLt; show (i 2).val = 0; omega) | ⟨3, _⟩ => rfl⟩
  unfold dcqF
  rw [vecT_at]
  show _ = ((hdOf Q K W D C h.val).dcq (768 * b.val + q.val) : EReal)
  rw [Hd.dcq_eq]
  by_cases hr : 768 * b.val + q.val < 2064
  · rw [if_pos hr]
    refine (rd2_fin _ h (⟨768 * b.val + q.val, hr⟩ : Fin 2064)).trans ?_
    rw [dcqR_at]
    exact coe_sum_fin (fun k => (hdOf Q K W D C h.val).ds (768 * b.val + q.val) k) _ fun k => by rw [ds_re H]
  · rw [if_neg hr, rd2_out _ (by omega)]; rfl

end

end Cert.Proof.Alg

end
-- ==== Proof.Alg.Final.lean ====
/-
  What the kernel leaves in its five results: the gradients of every head, in real numbers.
-/
module

public import proofs.«01_k».proof.Proof.Alg.Points
public import proofs.«01_k».proof.Proof.Alg.RefVal

@[expose] public section

set_option maxRecDepth 16384

noncomputable section

namespace Cert.Proof.Alg

open Cert.KernelIdeal Cert.KernelIdeal.Gen
open Idealize.ShloMosaic Idealize.ShloMosaic.TcCoe
open Cert.Proof.PI
open Finset

section outs

theorem kPair_at {e : EltTy} (Y : Fin 2 → Vec Ideal S768x128 e) (k : Fin 768) (y : Fin 256) :
    kPair Y (ix2 k y) = Y ⟨y.val / 128, by omega⟩ (ix2 k ⟨y.val % 128, by omega⟩) := by
  unfold kPair
  exact congrArg (Y _) (funext fun a => match a with | ⟨0, _⟩ => rfl | ⟨1, _⟩ => rfl)
theorem dkOut_at (s : St Ideal) (k : Fin 768) (y : Fin 256) :
    dkOut s (ix2 k y) = sDk ⟨y.val / 128, by omega⟩ s (ix2 k ⟨y.val % 128, by omega⟩) := by
  unfold dkOut sDk
  rw [kPair_at]
  by_cases h : (⟨y.val / 128, by omega⟩ : Fin 2) = 0
  · rw [if_pos h, if_pos h]; exact pay5_at _ _
  · rw [if_neg h, if_neg h]; exact pay8_at _ _
theorem dvOut_at (s : St Ideal) (k : Fin 768) (y : Fin 256) :
    dvOut s (ix2 k y) = sDv ⟨y.val / 128, by omega⟩ s (ix2 k ⟨y.val % 128, by omega⟩) := by
  unfold dvOut sDv
  rw [kPair_at]
  by_cases h : (⟨y.val / 128, by omega⟩ : Fin 2) = 0
  · rw [if_pos h, if_pos h]; exact pay6_at _ _
  · rw [if_neg h, if_neg h]; exact pay9_at _ _
theorem dckOut_at (s : St Ideal) (k : Fin 768) (y : Fin 256) :
    dckOut s (ix2 k y) = sDc ⟨y.val / 128, by omega⟩ s (ix2 k 0) := by
  unfold dckOut sDc
  rw [kPair_at]
  by_cases h : (⟨y.val / 128, by omega⟩ : Fin 2) = 0
  · rw [if_pos h, if_pos h]; exact pay7_at _ _ _
  · rw [if_neg h, if_neg h]; exact pay10_at _ _ _
theorem dqOut_at (x : Vec Ideal S2x3x128x768 .f32) (q : Fin 2304) (y : Fin 256) :
    dqOut x (ix2 q y) = tBlk x ⟨y.val / 128, by omega⟩ ⟨q.val / 768, by omega⟩ (ix4 0 0 ⟨y.val % 128, by omega⟩ ⟨q.val % 768, by omega⟩) := by
  show k0_pay11 (tBlk x ⟨y.val / 128, by omega⟩ ⟨q.val / 768, by omega⟩) (ix2 ⟨q.val % 768, by omega⟩ ⟨y.val % 128, by omega⟩) = _
  exact pay11_at _ _ _
theorem rBlk_at' (x : Vec Ideal S2x3x1x768 .f32) (h : Fin 2) (b : Fin 3) (q : Fin 768) : x (ix4 h b 0 q) = rBlk x h b (ix4 0 0 0 q) :=
  (rBlk_at x h b q).symm

end outs

section

variable {m : (ℓ : Loc nD τ sig) → Buf (Elt Ideal) ℓ} {c : Dev nD}

/-- The heads of the arguments. -/
def heads (m : (ℓ : Loc nD τ sig) → Buf (Elt Ideal) ℓ) (c : Dev nD) (h : ℕ) : Hd := hdOf (aQ m c) (aK m c) (aW m c) (aD m c) (aC m c) h

theorem out9 (H : Ok m c) (t : Fin cfg0.N) (y : S768x256.Idx) :
    dkOut (stAt m c t.val t.isLt).1 y = ((heads m c ((256 * (t.val / 3) + (y 1).val) / 128)).dk (768 * (t.val % 3) + (y 0).val) ((256 * (t.val / 3) + (y 1).val) % 128) : EReal) := by
  have hy : (y 1).val < 256 := (y 1).isLt
  obtain ⟨k, l, rfl⟩ : ∃ (k : Fin 768) (l : Fin 256), y = ix2 k l := ⟨y 0, y 1, by funext a; match a with | ⟨0, _⟩ => rfl | ⟨1, _⟩ => rfl⟩
  refine (dkOut_at _ k l).trans (((at_point H _ t).1.dk _ _).trans ?_)
  show ((hdOf (aQ m c) (aK m c) (aW m c) (aD m c) (aC m c) (2 * (t.val / 3) + l.val / 128)).dk (768 * (t.val % 3) + k.val) (l.val % 128) : EReal)
    = ((hdOf (aQ m c) (aK m c) (aW m c) (aD m c) (aC m c) ((256 * (t.val / 3) + l.val) / 128)).dk (768 * (t.val % 3) + k.val) ((256 * (t.val / 3) + l.val) % 128) : EReal)
  rw [show (256 * (t.val / 3) + l.val) / 128 = 2 * (t.val / 3) + l.val / 128 by omega, show (256 * (t.val / 3) + l.val) % 128 = l.val % 128 by omega]
theorem out10 (H : Ok m c) (t : Fin cfg0.N) (y : S768x256.Idx) :
    dvOut (stAt m c t.val t.isLt).1 y = ((heads m c ((256 * (t.val / 3) + (y 1).val) / 128)).dv (768 * (t.val % 3) + (y 0).val) ((256 * (t.val / 3) + (y 1).val) % 128) : EReal) := by
  obtain ⟨k, l, rfl⟩ : ∃ (k : Fin 768) (l : Fin 256), y = ix2 k l := ⟨y 0, y 1, by funext a; match a with | ⟨0, _⟩ => rfl | ⟨1, _⟩ => rfl⟩
  refine (dvOut_at _ k l).trans (((at_point H _ t).1.dv _ _).trans ?_)
  show ((hdOf (aQ m c) (aK m c) (aW m c) (aD m c) (aC m c) (2 * (t.val / 3) + l.val / 128)).dv (768 * (t.val % 3) + k.val) (l.val % 128) : EReal)
    = ((hdOf (aQ m c) (aK m c) (aW m c) (aD m c) (aC m c) ((256 * (t.val / 3) + l.val) / 128)).dv (768 * (t.val % 3) + k.val) ((256 * (t.val / 3) + l.val) % 128) : EReal)
  rw [show (256 * (t.val / 3) + l.val) / 128 = 2 * (t.val / 3) + l.val / 128 by omega, show (256 * (t.val / 3) + l.val) % 128 = l.val % 128 by omega]
theorem out12 (H : Ok m c) (t : Fin cfg0.N) (y : S768x256.Idx) :
    dckOut (stAt m c t.val t.isLt).1 y = ((heads m c ((256 * (t.val / 3) + (y 1).val) / 128)).dck (768 * (t.val % 3) + (y 0).val) : EReal) := by
  obtain ⟨k, l, rfl⟩ : ∃ (k : Fin 768) (l : Fin 256), y = ix2 k l := ⟨y 0, y 1, by funext a; match a with | ⟨0, _⟩ => rfl | ⟨1, _⟩ => rfl⟩
  refine (dckOut_at _ k l).trans (((at_point H _ t).1.dc _).trans ?_)
  show ((hdOf (aQ m c) (aK m c) (aW m c) (aD m c) (aC m c) (2 * (t.val / 3) + l.val / 128)).dck (768 * (t.val % 3) + k.val) : EReal)
    = ((hdOf (aQ m c) (aK m c) (aW m c) (aD m c) (aC m c) ((256 * (t.val / 3) + l.val) / 128)).dck (768 * (t.val % 3) + k.val) : EReal)
  rw [show (256 * (t.val / 3) + l.val) / 128 = 2 * (t.val / 3) + l.val / 128 by omega]
theorem out8 (H : Ok m c) (t : Fin cfg0.N) (hl : t.val % 3 = 2) (y : S2304x256.Idx) :
    dqOut (stAt m c t.val t.isLt).1.2.2 y = ((heads m c ((256 * (t.val / 3) + (y 1).val) / 128)).dq (y 0).val ((256 * (t.val / 3) + (y 1).val) % 128) : EReal) := by
  obtain ⟨q, l, rfl⟩ : ∃ (q : Fin 2304) (l : Fin 256), y = ix2 q l := ⟨y 0, y 1, by funext a; match a with | ⟨0, _⟩ => rfl | ⟨1, _⟩ => rfl⟩
  refine (dqOut_at _ q l).trans (((at_point H _ t).1.tq _ _ _).trans ?_)
  rw [hl, tqN_three]
  show ((hdOf (aQ m c) (aK m c) (aW m c) (aD m c) (aC m c) (2 * (t.val / 3) + l.val / 128)).dq (768 * (q.val / 768) + q.val % 768) (l.val % 128) : EReal)
    = ((hdOf (aQ m c) (aK m c) (aW m c) (aD m c) (aC m c) ((256 * (t.val / 3) + l.val) / 128)).dq q.val ((256 * (t.val / 3) + l.val) % 128) : EReal)
  rw [show (256 * (t.val / 3) + l.val) / 128 = 2 * (t.val / 3) + l.val / 128 by omega, show (256 * (t.val / 3) + l.val) % 128 = l.val % 128 by omega, Nat.div_add_mod]
theorem out11 (H : Ok m c) (t : Fin cfg0.N) (hl : t.val % 3 = 2) (y : S2x3x1x768.Idx) :
    (stAt m c t.val t.isLt).1.2.1 y = ((heads m c (2 * (t.val / 3) + (y 0).val)).dcq (768 * (y 1).val + (y 3).val) : EReal) := by
  obtain ⟨h, b, q, rfl⟩ : ∃ (h : Fin 2) (b : Fin 3) (q : Fin 768), y = ix4 h b 0 q :=
    ⟨y 0, y 1, y 3, by funext a; match a with | ⟨0, _⟩ => rfl | ⟨1, _⟩ => rfl | ⟨2, _⟩ => exact Fin.ext (by have : (y 2).val < 1 := (y 2).isLt; show (y 2).val = 0; omega) | ⟨3, _⟩ => rfl⟩
  refine (rBlk_at' _ h b q).trans (((at_point H h t).1.cq b q).trans ?_)
  rw [hl, cqN_three]
  rfl

end

end Cert.Proof.Alg

end
-- ==== Proof.Alg.Arr.lean ====
/-
  The kernel's five results after its run.
-/
module

public import proofs.«01_k».proof.Proof.Alg.Final

@[expose] public section

set_option maxRecDepth 16384

noncomputable section

namespace Cert.Proof.Alg

open Cert.KernelIdeal Cert.KernelIdeal.Gen
open Idealize.ShloMosaic Idealize.ShloMosaic.TcCoe
open Cert.Proof.PI
open Finset

section

variable {m : (ℓ : Loc nD τ sig) → Buf (Elt Ideal) ℓ} {c : Dev nD}

theorem final9 (H : Ok m c) : (dats m 0 c).arrAt 9 (cfgs 0).N = dkArr (heads m c) := by
  refine (dats m 0 c).arrAt_eq_of_covers 9 _ (by decide +kernel) fun t hf y => ?_
  blk_simp
  rw [after_9]
  refine (out9 H t y).trans ?_
  blk_simp [dkArr, idxOut t]
  rw [Nat.mul_comm 256, Nat.mul_comm 768]

theorem final10 (H : Ok m c) : (dats m 0 c).arrAt 10 (cfgs 0).N = dvArr (heads m c) := by
  refine (dats m 0 c).arrAt_eq_of_covers 10 _ (by decide +kernel) fun t hf y => ?_
  blk_simp
  rw [after_10]
  refine (out10 H t y).trans ?_
  blk_simp [dvArr, idxOut t]
  rw [Nat.mul_comm 256, Nat.mul_comm 768]

theorem final12 (H : Ok m c) : (dats m 0 c).arrAt 12 (cfgs 0).N = dckArr (heads m c) := by
  refine (dats m 0 c).arrAt_eq_of_covers 12 _ (by decide +kernel) fun t hf y => ?_
  blk_simp
  rw [after_12]
  refine (out12 H t y).trans ?_
  blk_simp [dckArr, idxOut t]
  rw [Nat.mul_comm 256, Nat.mul_comm 768]

theorem final8 (H : Ok m c) : (dats m 0 c).arrAt 8 (cfgs 0).N = dqArr (heads m c) := by
  refine (dats m 0 c).arrAt_eq_of_covers 8 _ (by decide +kernel) fun t hf y => ?_
  blk_simp
  rw [after_8]
  refine (out8 H t ((flush0_8 t).mp hf) y).trans ?_
  blk_simp [dqArr, idxOut t]
  rw [Nat.mul_comm 256]

theorem final11 (H : Ok m c) : (dats m 0 c).arrAt 11 (cfgs 0).N = dcqArr (heads m c) := by
  refine (dats m 0 c).arrAt_eq_of_covers 11 _ (by decide +kernel) fun t hf y => ?_
  blk_simp
  rw [after_11]
  refine (out11 H t ((flush0_11 t).mp hf) y).trans ?_
  blk_simp [dcqArr, idxOut t]
  rw [Nat.mul_comm 2]

end

end Cert.Proof.Alg

end
-- ==== Proof.Alg.Run.lean ====
/-
  The kernel's run on real arguments: its results are the gradients in real numbers.
-/
module

public import proofs.«01_k».proof.Proof.Alg.Arr

@[expose] public section

set_option maxRecDepth 16384

noncomputable section

namespace Cert.Proof.Alg

open Cert.KernelIdeal Cert.KernelIdeal.Gen
open Idealize.ShloMosaic Idealize.ShloMosaic.TcCoe Idealize.SL.Sem
open Cert.Proof.PI

section

variable {m : (ℓ : Loc nD τ sig) → Buf (Elt Ideal) ℓ} {c : Dev nD} {r : PUnit × MemSt nD τ sig (Elt Ideal)}

/-- Each result after a run. -/
theorem mem8 (hr : Pipeline.FramePost cfgs (dats m) 0 (V m) r) (h : Ok m c) : r.2.mem ((c.tc : Thread nD τ).loc main_v56_0) = dqArr (heads m c) :=
  ((hr c).1 8).trans (final8 h)
theorem mem9 (hr : Pipeline.FramePost cfgs (dats m) 0 (V m) r) (h : Ok m c) : r.2.mem ((c.tc : Thread nD τ).loc main_v56_1) = dkArr (heads m c) :=
  ((hr c).1 9).trans (final9 h)
theorem mem10 (hr : Pipeline.FramePost cfgs (dats m) 0 (V m) r) (h : Ok m c) : r.2.mem ((c.tc : Thread nD τ).loc main_v56_2) = dvArr (heads m c) :=
  ((hr c).1 10).trans (final10 h)
theorem mem11 (hr : Pipeline.FramePost cfgs (dats m) 0 (V m) r) (h : Ok m c) : r.2.mem ((c.tc : Thread nD τ).loc main_v56_3) = dcqArr (heads m c) :=
  ((hr c).1 11).trans (final11 h)
theorem mem12 (hr : Pipeline.FramePost cfgs (dats m) 0 (V m) r) (h : Ok m c) : r.2.mem ((c.tc : Thread nD τ).loc main_v56_4) = dckArr (heads m c) :=
  ((hr c).1 12).trans (final12 h)

end

/-- What the kernel leaves in its results. -/
theorem kernel_run {m : (ℓ : Loc nD τ sig) → Buf (Elt Ideal) ℓ} (g : Dev nD → PrngReg) (h : ∀ c, Ok m c) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v56_0) = dqArr (heads m c)
      ∧ r.2.mem ((c.tc : Thread nD τ).loc main_v56_1) = dkArr (heads m c)
      ∧ r.2.mem ((c.tc : Thread nD τ).loc main_v56_2) = dvArr (heads m c)
      ∧ r.2.mem ((c.tc : Thread nD τ).loc main_v56_3) = dcqArr (heads m c)
      ∧ r.2.mem ((c.tc : Thread nD τ).loc main_v56_4) = dckArr (heads m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hF := frame_of m g (dats m) (A_eq m) (PI.run_main m g)
  have hR := PI.run_main m g
  exact (θ_run _ _ _).mono (fun r hr c => ⟨mem8 hr.1 (h c), mem9 hr.1 (h c), mem10 hr.1 (h c), mem11 hr.1 (h c), mem12 hr.1 (h c), hr.2 c⟩) (θ_run_and hR hF)

end Cert.Proof.Alg

end
-- ==== Proof.Alg.Pre.lean ====
/-
  What the precondition says: every entry of every argument is a real number.
-/
module

public import proofs.«01_k».proof.Pre_reals
public import proofs.«01_k».proof.Defs
public import Idealize.ShloMosaic.Lib.ReduceAll
public import Idealize.ShloMosaic.Lib.Pointwise

@[expose] public section

set_option maxRecDepth 16384

noncomputable section

namespace Cert.Proof.Alg

open Idealize.ShloMosaic Idealize.ShloMosaic.TcCoe
open Cert.Pre_reals

/-- The shape relations the precondition's operations state. -/
instance preFacts : Cert.Pre_reals.Facts where
  bcast_S_S8x2064x64 := by decide
  reducesTo_S8x2064x64_S_d0_1_2 := by decide
  h_S_ := by decide
  bcast_S_S8x2064 := by decide
  reducesTo_S8x2064_S_d0_1 := by decide

instance : Subsingleton S_.Idx := ⟨fun a b => funext fun i => i.elim0⟩

theorem ofBits_top : Ideal.ofBits .f32 0x7F800000#32 = ⊤ := by
  simp [Ideal.ofBits, Ideal.ieee]

theorem real_of_lt (x : EReal) (h : (FloatOps.cmpf (F := Ideal) (φ := .f32) .olt (FloatOps.hostAbsf (F := Ideal) (φ := .f32) x) (Ideal.ofBits .f32 0x7F800000#32) : BitVec 1) = 1#1) : ∃ r : ℝ, x = (r : EReal) := by
  rw [ofBits_top] at h
  induction x using EReal.rec with
  | coe r => exact ⟨r, rfl⟩
  | bot => exact absurd h (by show ¬ Ideal.cmp .olt (max ⊥ (-⊥)) ⊤ = 1#1; simp [Ideal.cmp])
  | top => exact absurd h (by show ¬ Ideal.cmp .olt (max ⊤ (-⊤)) ⊤ = 1#1; simp [Ideal.cmp])

theorem and_one {a b : IVec S_ 1} {j : S_.Idx} (h : andi a b j = 1#1) : a j = 1#1 ∧ b j = 1#1 := IntOp.andi_eq_one.1 h

theorem reals_of_fn (Q K W D : FVec Ideal S8x2064x64 .f32) (C : FVec Ideal S8x2064 .f32) (h : fn (F := Ideal) Q K W C D = fun _ => 1#1) :
    (∀ i, ∃ r : ℝ, Q i = (r : EReal)) ∧ (∀ i, ∃ r : ℝ, K i = (r : EReal)) ∧ (∀ i, ∃ r : ℝ, W i = (r : EReal)) ∧ (∀ i, ∃ r : ℝ, C i = (r : EReal)) ∧ (∀ i, ∃ r : ℝ, D i = (r : EReal)) := by
  have h0 := congrFun h (fun i => i.elim0)
  obtain ⟨h1, hd⟩ := and_one h0
  obtain ⟨h2, hc⟩ := and_one h1
  obtain ⟨h3, hw⟩ := and_one h2
  obtain ⟨hq, hk⟩ := and_one h3
  exact ⟨fun i => real_of_lt _ (Host.reduce_andi_all _ _ _ _ _ hq i), fun i => real_of_lt _ (Host.reduce_andi_all _ _ _ _ _ hk i),
    fun i => real_of_lt _ (Host.reduce_andi_all _ _ _ _ _ hw i), fun i => real_of_lt _ (Host.reduce_andi_all _ _ _ _ _ hc i),
    fun i => real_of_lt _ (Host.reduce_andi_all _ _ _ _ _ hd i)⟩

end Cert.Proof.Alg

end
-- ==== Proof.Alg.RefRun.lean ====
/-
  The reference's run: its results are the terms named in `Alg.RefVal`.
-/
module

public import proofs.«01_k».proof.Defs
public import proofs.«01_k».proof.Proof.Alg.RefVal
public import Idealize.ShloMosaic.Lib.Claim

@[expose] public section

set_option maxRecDepth 16384

noncomputable section

namespace Cert.Proof.Alg

open Idealize.ShloMosaic Idealize.ShloMosaic.TcCoe Idealize.SL.Sem
open Cert.ReferenceIdeal

variable (m : (ℓ : Loc nD τ sig) → Buf (Elt Ideal) ℓ) (c : Dev nD)

/-- The reference's arguments. -/
def rQ : FVec Ideal Cert.KernelIdeal.S8x2064x64 .f32 := m ((c.tc : Thread nD τ).loc main_arg0)
def rK : FVec Ideal Cert.KernelIdeal.S8x2064x64 .f32 := m ((c.tc : Thread nD τ).loc main_arg1)
def rW : FVec Ideal Cert.KernelIdeal.S8x2064x64 .f32 := m ((c.tc : Thread nD τ).loc main_arg2)
def rC : FVec Ideal Cert.KernelIdeal.S8x2064 .f32 := m ((c.tc : Thread nD τ).loc main_arg3)
def rD : FVec Ideal Cert.KernelIdeal.S8x2064x64 .f32 := m ((c.tc : Thread nD τ).loc main_arg4)

set_option maxHeartbeats 16000000 in
/-- What the reference leaves in its results. -/
theorem ref_run (g : Dev nD → PrngReg) :
    θ_run (Cert.ReferenceIdeal.defs (F := Ideal)) (onTc (τ := τ) (Cert.ReferenceIdeal.main (F := Ideal))) ⟨m, fun _ => 0, g⟩ (fun r => ∀ c : Dev nD,
      r.2.mem ((c.tc : Thread nD τ).loc main_v80) = dqF (rQ m c) (rK m c) (rW m c) (rD m c) (rC m c)
      ∧ r.2.mem ((c.tc : Thread nD τ).loc main_v84) = dkF (rQ m c) (rK m c) (rW m c) (rD m c) (rC m c)
      ∧ r.2.mem ((c.tc : Thread nD τ).loc main_v88) = dvF (rQ m c) (rK m c) (rD m c) (rC m c)
      ∧ r.2.mem ((c.tc : Thread nD τ).loc main_v72) = dcqF (rQ m c) (rK m c) (rW m c) (rD m c) (rC m c)
      ∧ r.2.mem ((c.tc : Thread nD τ).loc main_v76) = dckF (rQ m c) (rK m c) (rW m c) (rD m c) (rC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  all_goals simp -implicitDefEqProofs only [StableHlo.TRef.ofBuf_toBuf, StableHlo.TRef.ofBuf, StableHlo.TRef.toBuf, cast_eq]
  all_goals rfl

end Cert.Proof.Alg

end
-- ==== Proof.Alg.Main.lean ====
/-
  The kernel's results are the reference's: of real arguments both are the gradients in real numbers.
-/
module

public import proofs.«01_k».proof.Proof.Alg.Run
public import proofs.«01_k».proof.Proof.Alg.Pre
public import proofs.«01_k».proof.Proof.Alg.RefRun

@[expose] public section

set_option maxRecDepth 16384

noncomputable section

namespace Cert.Proof.Alg

open Cert.KernelIdeal Cert.KernelIdeal.Gen
open Idealize.ShloMosaic Idealize.ShloMosaic.TcCoe Idealize.SL.Sem
open Cert.Proof.PI

/-- The precondition says that every entry of every argument is a real number. -/
theorem ok_of_pre {m : (ℓ : Loc nD τ sig) → Buf (Elt Ideal) ℓ} (h : Cert.Pre_KernelIdeal_reals m) (c : Dev nD) : Ok m c :=
  let r := reals_of_fn _ _ _ _ _ (h c)
  ⟨r.1, r.2.1, r.2.2.1, r.2.2.2.2, r.2.2.2.1⟩

/-- The claim: of real arguments the kernel's results are the reference's. -/
theorem algebraic : Cert.algebraic_KernelIdeal_ReferenceIdeal_pre_reals := by
  intro m g m' g' hpre hagree
  have h : ∀ c, Ok m c := fun c => ok_of_pre hpre c
  refine ⟨fun c => dqArr (heads m c), fun c => dkArr (heads m c), fun c => dvArr (heads m c), fun c => dcqArr (heads m c), fun c => dckArr (heads m c), kernel_run g h, ?_⟩
  refine (θ_run _ _ _).mono (fun r hr c => ?_) (ref_run m' g')
  obtain ⟨e0, e1, e2, e3, e4⟩ := hagree c
  have q : rQ m' c = aQ m c := e0
  have k : rK m' c = aK m c := e1
  have w : rW m' c = aW m c := e2
  have x : rC m' c = aC m c := e3
  have d : rD m' c = aD m c := e4
  obtain ⟨r0, r1, r2, r3, r4, rest⟩ := hr c
  rw [q, k, w, d, x] at r0 r1 r3 r4
  rw [q, k, d, x] at r2
  exact ⟨r0.trans (dq_val (h c)), r1.trans (dk_val (h c)), r2.trans (dv_val (h c)), r3.trans (dcq_val (h c)), r4.trans (dck_val (h c)), rest⟩

end Cert.Proof.Alg

end
-- ==== Proof.Ffn.Tiles.lean ====
/-
  A sum taken tile by tile, in the order of the grid's points; and the product of two matrices, taken block by block.
-/
module

public import Idealize.ShloMosaic.Lib.Pointwise

@[expose] public section

noncomputable section

namespace Cert.Proof.Ffn

open Idealize.ShloMosaic

/-- The offset of an access to a whole block. -/
theorem off_zero : (![0, 0] : Fin 2 → Nat) = fun _ => 0 := by funext a; fin_cases a <;> rfl

/-- Two tiles. -/
theorem sum_two {T N : ℕ} (h : 2 * T = N) (f : Fin N → EReal) :
    (∑ k : Fin T, f ⟨T * 0 + k.val, by omega⟩) + (∑ k : Fin T, f ⟨T * 1 + k.val, by omega⟩) = ∑ k, f k := by
  rw [Fin.sum_univ_tiles 2 T h, Fin.sum_univ_two]
  simp only [Fin.val_zero, Fin.val_one, Nat.mul_comm T]

/-- Four tiles. -/
theorem sum_four {T N : ℕ} (h : 4 * T = N) (f : Fin N → EReal) :
    (((∑ k : Fin T, f ⟨T * 0 + k.val, by omega⟩) + (∑ k : Fin T, f ⟨T * 1 + k.val, by omega⟩)) + (∑ k : Fin T, f ⟨T * 2 + k.val, by omega⟩))
      + (∑ k : Fin T, f ⟨T * 3 + k.val, by omega⟩) = ∑ k, f k := by
  rw [Fin.sum_univ_tiles 4 T h, Fin.sum_univ_four]
  simp only [Fin.val_zero, Fin.val_one, Fin.val_two, Nat.mul_comm T]
  rfl

/-- The product of two matrices. -/
def mm {M K N : ℕ} (a : (⟨2, ![M, K]⟩ : Shape).Idx → EReal) (b : (⟨2, ![K, N]⟩ : Shape).Idx → EReal) : (⟨2, ![M, N]⟩ : Shape).Idx → EReal :=
  fun i => ∑ k : Fin K, a (ix2 (i 0) k) * b (ix2 k (i 1))

/-- Some rows of one times some columns of the other are those rows and columns of the product. -/
theorem mm_block {M K N R S : ℕ} {a : (⟨2, ![M, K]⟩ : Shape).Idx → EReal} {b : (⟨2, ![K, N]⟩ : Shape).Idx → EReal}
    {x : (⟨2, ![R, K]⟩ : Shape).Idx → EReal} {y : (⟨2, ![K, S]⟩ : Shape).Idx → EReal} {row : Fin R → Fin M} {col : Fin S → Fin N}
    (hx : ∀ r k, x (ix2 r k) = a (ix2 (row r) k)) (hy : ∀ k s, y (ix2 k s) = b (ix2 k (col s))) (r : Fin R) (s : Fin S) :
    mm x y (ix2 r s) = mm a b (ix2 (row r) (col s)) :=
  Finset.sum_congr rfl fun k _ => congrArg₂ (· * ·) (hx r k) (hy k s)

end Cert.Proof.Ffn

end
-- ==== Proof.Ffn.UpDw.lean ====
/-
  The gradient of the feed-forward block's first matrix: each block of it is the sum of two products, of the upper and of
  the lower half of the tokens, one per grid point.
-/
module

public import proofs.«01_k».proof.Defs
public import proofs.«01_k».proof.Proof.Gen.Kernel2Ideal.Value
public import proofs.«01_k».proof.Proof.Gen.Reference2Ideal.Run
public import proofs.«01_k».proof.Proof.Ffn.Tiles
public import Idealize.ShloMosaic.Lib.Pipeline.ValueKit

@[expose] public section

set_option maxRecDepth 16384

noncomputable section

namespace Cert.Proof.Ffn.UpDw

open Cert.Kernel2Ideal Cert.Kernel2Ideal.Gen
open Idealize.ShloMosaic Idealize.ShloMosaic.TcCoe Idealize.SL.Sem

/-- The product of the transpose of `a` with `b`. -/
def prod (a : FVec Ideal S2304x1024 .bf16) (b : FVec Ideal S2304x5632 .bf16) : FVec Ideal S1024x5632 .bf16 :=
  fun i => ∑ k : Fin 2304, a (ix2 k (i 0)) * b (ix2 k (i 1))

/-! ## What a point's operations compute -/

theorem pay1_at (x : Vec Ideal S1152x1024 .bf16) (y : Vec Ideal S1152x1408 .bf16) (r : Fin 1024) (s : Fin 1408) :
    k0_pay1 x y (ix2 r s) = ∑ k : Fin 1152, x (ix2 k r) * y (ix2 k s) := by
  pointwise [k0_pay1]

theorem pay4_at (x : Vec Ideal S1152x1024 .bf16) (y : Vec Ideal S1152x1408 .bf16) (a : Vec Ideal S1024x1408 .f32) (r : Fin 1024) (s : Fin 1408) :
    k0_pay4 (k0_pay3 x y a) (ix2 r s) = a (ix2 r s) + ∑ k : Fin 1152, x (ix2 k r) * y (ix2 k s) := by
  refine Eq.trans ?_ (congrArg (a (ix2 r s) + ·) (pay1_at x y r s))
  unfold k0_pay4 k0_pay3
  dsimp only
  rw [shapeCast_self]
  rfl

section

variable (c : Dev nD) (i : grid0.Coords) (a3 : Memref sig .tc .vmem S1152x1024 .bf16) (h3 : a3.IsWhole) (a4 : Memref sig .tc .vmem S1152x1408 .bf16) (h4 : a4.IsWhole)
  (a5 : Memref sig .tc .vmem S1024x1408 .bf16) (h5 : a5.IsWhole) (a6 : Memref sig .tc .vmem S1024x1408 .f32) (h6 : a6.IsWhole)

/-- At a block's first point the accumulator becomes the product of the point's blocks. -/
theorem first (hc0 : cond0_0 i) (hc1 : ¬cond0_1 i) (hc2 : ¬cond0_2 i) (x : Vec Ideal S1152x1024 .bf16) (y : Vec Ideal S1152x1408 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero off_zero]
  unfold k0_pay2
  simp only [View.readAt_eq_ld, h3.read_unread, h4.read_unread, View.ld_unit_zero (S := S1152x1024) off_zero, View.ld_unit_zero (S := S1152x1408) off_zero, shapeCast_self]

/-- At its last point the block written is the accumulator plus the product of the point's blocks. -/
theorem last (hc0 : ¬cond0_0 i) (hc1 : cond0_1 i) (hc2 : cond0_2 i) (x : Vec Ideal S1152x1024 .bf16) (y : Vec Ideal S1152x1408 .bf16) (a : Vec Ideal S1024x1408 .f32) :
    out0_B_2 c i a3 h3 a4 h4 a5 h5 a6 h6 hc0 hc1 hc2 x y a = k0_pay4 (k0_pay3 x y a) := by
  unfold out0_B_2
  rw [View.read_writes_eq_canon _ _ _ (cover0_B_2 c i a3 h3 a4 h4 a5 h5 a6 h6 hc0 hc1 hc2 x y a)]
  unfold kernelRun0_B
  dsimp only
  sl_unfold_words
  rw [View.canon_unit_zero off_zero]
  simp only [View.readCov_unit_zero (S := S1024x1408) _ off_zero, View.readAt_eq_ld, h3.read_unread, h4.read_unread, h6.read_unread, View.ld_unit_zero (S := S1152x1024) off_zero, View.ld_unit_zero (S := S1152x1408) off_zero, View.ld_unit_zero (S := S1024x1408) off_zero]

end

/-! ## The run of the grid -/

/-- The blocks' places, at every point; only a block's last point writes it back. -/
theorem idx : ∀ t : Fin cfg0.N, (win0_0.index t = ![t.val % 2, 0] ∧ win0_1.index t = ![t.val % 2, t.val / 2] ∧ win0_2.index t = ![0, t.val / 2]) ∧ t.val / 2 < 4 :=
  (by decide +kernel : ∀ t : Fin grid0.N, _)
theorem flush_odd : ∀ t : Fin cfg0.N, (cfg0.win 2).flush t = true → t.val % 2 = 1 :=
  (by decide +kernel : ∀ t : Fin grid0.N, (cfg0.win 2).flush t = true → t.val % 2 = 1)

variable (m : (ℓ : Loc nD τ sig) → Buf (Elt Ideal) ℓ) (c : Dev nD)

/-- The arguments, and a point's blocks of them. -/
def argA : FVec Ideal S2304x1024 .bf16 := V m c main_arg0
def argB : FVec Ideal S2304x5632 .bf16 := V m c main_arg1
def blkA (t : Fin cfg0.N) : Vec Ideal S1152x1024 .bf16 := iblk m c 0 t
def blkB (t : Fin cfg0.N) : Vec Ideal S1152x1408 .bf16 := iblk m c 1 t

theorem blkA_at (t : Fin cfg0.N) (k : Fin 1152) (r : Fin 1024) :
    blkA m c t (ix2 k r) = argA m c (ix2 ⟨1152 * (t.val % 2) + k.val, by omega⟩ r) := by
  blk_ext [blkA, argA, iblk, idx t]
theorem blkB_at (t : Fin cfg0.N) (k : Fin 1152) (s : Fin 1408) :
    blkB m c t (ix2 k s) = argB m c (ix2 ⟨1152 * (t.val % 2) + k.val, by omega⟩ ⟨1408 * (t.val / 2) + s.val, by have := (idx t).2; omega⟩) := by
  blk_ext [blkB, argB, iblk, idx t]

/-- The part of an entry that the point's product adds. -/
def part (t : Fin cfg0.N) (r : Fin 1024) (s : Fin 1408) : EReal := ∑ k : Fin 1152, blkA m c t (ix2 k r) * blkB m c t (ix2 k s)

/-- It is the sum over half of the tokens, the half and the columns being the point's. -/
theorem part_at (t : Fin cfg0.N) (r : Fin 1024) (s : Fin 1408) (l j : ℕ) (hl : t.val % 2 = l) (hj : t.val / 2 = j) (hb : l < 2) (hc : j < 4) :
    part m c t r s = ∑ k : Fin 1152, argA m c (ix2 ⟨1152 * l + k.val, by omega⟩ r) * argB m c (ix2 ⟨1152 * l + k.val, by omega⟩ ⟨1408 * j + s.val, by omega⟩) := by
  subst hl hj
  exact Finset.sum_congr rfl fun k _ => congrArg₂ (· * ·) (blkA_at m c t k r) (blkB_at m c t k s)

theorem acc_at (t : Fin cfg0.N) (h : t.val % 2 = 0) (r : Fin 1024) (s : Fin 1408) :
    (outsAt0 m c t.val t.isLt).2 (ix2 r s) = part m c t r s := by
  rw [outsAt0_A m c t h (by omega) (by omega)]
  dsimp only
  rw [first]
  exact pay1_at (blkA m c t) (blkB m c t) r s

theorem out_step (t : Fin cfg0.N) (h : t.val % 2 = 1) (r : Fin 1024) (s : Fin 1408) :
    (outsAt0 m c t.val t.isLt).1 (ix2 r s) = (outsAt0 m c (t.val - 1) (Nat.lt_of_le_of_lt (Nat.sub_le _ _) t.isLt)).2 (ix2 r s) + part m c t r s := by
  rw [outsAt0_B m c t (by omega) h h]
  dsimp only
  rw [last]
  exact pay4_at (blkA m c t) (blkB m c t) _ r s

/-- What a block's last point writes: the block's entries of the product of the arguments. -/
theorem out_at (t : Fin cfg0.N) (h : t.val % 2 = 1) (r : Fin 1024) (s : Fin 1408) :
    (outsAt0 m c t.val t.isLt).1 (ix2 r s) = prod (argA m c) (argB m c) (ix2 r ⟨1408 * (t.val / 2) + s.val, by have := (idx t).2; omega⟩) := by
  have hp : t.val - 1 < cfg0.N := Nat.lt_of_le_of_lt (Nat.sub_le _ _) t.isLt
  have ht := (idx t).2
  refine (out_step m c t h r s).trans ?_
  refine (congrArg₂ (· + ·) ((acc_at m c ⟨t.val - 1, hp⟩ (show (t.val - 1) % 2 = 0 by omega) r s).trans (part_at m c ⟨t.val - 1, hp⟩ r s 0 (t.val / 2) (show (t.val - 1) % 2 = 0 by omega) (show (t.val - 1) / 2 = t.val / 2 by omega) (by omega) ht)) (part_at m c t r s 1 (t.val / 2) h rfl (by omega) ht)).trans ?_
  exact sum_two (T := 1152) (N := 2304) rfl fun k => argA m c (ix2 k r) * argB m c (ix2 k ⟨1408 * (t.val / 2) + s.val, by omega⟩)

/-- The array after the run: the product of the arguments. -/
theorem final : (dats m 0 c).arrAt 2 cfg0.N = prod (argA m c) (argB m c) := by
  refine (dats m 0 c).arrAt_eq_of_covers 2 _ (by decide +kernel) fun t hf y => ?_
  obtain ⟨r, s, rfl⟩ : ∃ (r : Fin 1024) (s : Fin 1408), y = ix2 r s := ⟨y 0, y 1, eq_ix2 (n0 := 1024) (n1 := 1408) y⟩
  blk_simp
  rw [after0_2]
  refine (out_at m c t (flush_odd t hf) r s).trans ?_
  blk_ext [idx t]

/-! ## The reference -/

theorem ref_eq (a : FVec Ideal S2304x1024 .bf16) (b : FVec Ideal S2304x5632 .bf16) :
    (truncf .bf16 (transpose S1024x5632 [1, 0] (Host.dotGeneral Cert.Reference2Ideal.dot_S2304x5632_S2304x1024_S5632x1024_0_0_1_1_n_n none (extf .f32 b Cert.Reference2Ideal.Gen.bitsLt_bf16_f32) (extf .f32 a Cert.Reference2Ideal.Gen.bitsLt_bf16_f32)) Cert.Reference2Ideal.Gen.transposes_S5632x1024_S1024x5632_1_0) Cert.Reference2Ideal.Gen.bitsLt_bf16_f32 : FVec Ideal S1024x5632 .bf16) = prod a b := by
  funext i
  obtain ⟨r, s, rfl⟩ : ∃ (r : Fin 1024) (s : Fin 5632), i = ix2 r s := ⟨i 0, i 1, eq_ix2 i⟩
  pointwise [prod]
  exact Finset.sum_congr rfl fun k _ => mul_comm _ _

/-- The claim: of any arguments the kernel's result is the reference's. -/
theorem algebraic : Cert.algebraic_Kernel2Ideal_Reference2Ideal := by
  intro m g m' g' _ hagree
  refine ⟨fun c => prod (argA m c) (argB m c),
    (θ_run _ _ _).mono (fun r h c => ⟨(h c).1.trans (final m c), (h c).2⟩) (Cert.Kernel2Ideal.Value.run_blocks (F := Ideal) m g), ?_⟩
  refine (θ_run _ _ _).mono (fun r h c => ⟨(h c).1.trans ?_, (h c).2⟩) (Cert.Reference2Ideal.Value.run (F := Ideal) m' g')
  obtain ⟨e0, e1⟩ := hagree c
  rw [e0, e1]
  exact ref_eq _ _

end Cert.Proof.Ffn.UpDw

end
-- ==== Proof.Ffn.UpDx.lean ====
/-
  The gradient through the feed-forward block's first matrix, to its input, added to the residual path's: each block of it
  is the sum of four products, one per grid point, and of the scaled addend.
-/
module

public import proofs.«01_k».proof.Defs
public import proofs.«01_k».proof.Proof.Gen.Kernel3Ideal.Value
public import proofs.«01_k».proof.Proof.Gen.Reference3Ideal.Run
public import proofs.«01_k».proof.Proof.Ffn.Tiles
public import Idealize.ShloMosaic.Lib.Pipeline.ValueKit

@[expose] public section

set_option maxRecDepth 16384

noncomputable section

namespace Cert.Proof.Ffn.UpDx

open Cert.Kernel3Ideal Cert.Kernel3Ideal.Gen
open Idealize.ShloMosaic Idealize.ShloMosaic.TcCoe Idealize.SL.Sem

/-- The residual path's factor. -/
def alpha : EReal := (Scalar.ofBits .f32 0x3F9837F0#32 : Ideal .f32)

/-- The product of `a` with the transpose of `b`, plus the scaled `z`. -/
def prod (a : FVec Ideal S2304x5632 .bf16) (b : FVec Ideal S1024x5632 .bf16) (z : FVec Ideal S2304x1024 .f32) : FVec Ideal S2304x1024 .f32 :=
  fun i => (∑ k : Fin 5632, a (ix2 (i 0) k) * b (ix2 (i 1) k)) + alpha * z i

/-! ## What a point's operations compute -/

theorem pay1_at (x : Vec Ideal S1152x1408 .bf16) (y : Vec Ideal S1024x1408 .bf16) (r : Fin 1152) (s : Fin 1024) :
    k0_pay1 x y (ix2 r s) = ∑ k : Fin 1408, x (ix2 r k) * y (ix2 s k) := by
  pointwise [k0_pay1]

theorem pay3_at (x : Vec Ideal S1152x1408 .bf16) (y : Vec Ideal S1024x1408 .bf16) (a : Vec Ideal S1152x1024 .f32) (r : Fin 1152) (s : Fin 1024) :
    k0_pay3 x y a (ix2 r s) = a (ix2 r s) + ∑ k : Fin 1408, x (ix2 r k) * y (ix2 s k) := by
  refine Eq.trans ?_ (congrArg (a (ix2 r s) + ·) (pay1_at x y r s))
  unfold k0_pay3
  rw [shapeCast_self]
  rfl

section

variable (c : Dev nD) (i : grid0.Coords) (a3 : Memref sig .tc .vmem S1152x1408 .bf16) (h3 : a3.IsWhole) (a4 : Memref sig .tc .vmem S1024x1408 .bf16) (h4 : a4.IsWhole)
  (a5 : Memref sig .tc .vmem S1152x1024 .f32) (h5 : a5.IsWhole) (a6 : Memref sig .tc .vmem S1152x1024 .f32) (h6 : a6.IsWhole) (a7 : Memref sig .tc .vmem S1152x1024 .f32) (h7 : a7.IsWhole)
  (x : Vec Ideal S1152x1408 .bf16) (y : Vec Ideal S1024x1408 .bf16) (z a : Vec Ideal S1152x1024 .f32)

/-- A block's first point sets the accumulator. -/
theorem first (hc0 : cond0_0 i) (hc1 : ¬cond0_1 i) (hc2 : ¬cond0_2 i) :
    sout0_A_0 c i a3 h3 a4 h4 a5 h5 a6 h6 a7 h7 hc0 hc1 hc2 x y z = k0_pay1 x y := by
  unfold sout0_A_0
  rw [View.read_writes_eq_canon _ _ _ (scover0_A_0 c i a3 h3 a4 h4 a5 h5 a6 h6 a7 h7 hc0 hc1 hc2 x y z)]
  unfold kernelRun0_A
  dsimp only
  sl_unfold_words
  rw [View.canon_unit_zero off_zero]
  unfold k0_pay2
  simp only [View.readAt_eq_ld, h3.read_unread, h4.read_unread, View.ld_unit_zero (S := S1152x1408) off_zero, View.ld_unit_zero (S := S1024x1408) off_zero, shapeCast_self]

/-- The points between add to it. -/
theorem mid (hc0 : ¬cond0_0 i) (hc1 : cond0_1 i) (hc2 : ¬cond0_2 i) :
    sout0_B_0 c i a3 h3 a4 h4 a5 h5 a6 h6 a7 h7 hc0 hc1 hc2 x y z a = k0_pay3 x y a := by
  unfold sout0_B_0
  rw [View.read_writes_eq_canon _ _ _ (scover0_B_0 c i a3 h3 a4 h4 a5 h5 a6 h6 a7 h7 hc0 hc1 hc2 x y z a)]
  unfold kernelRun0_B
  dsimp only
  sl_unfold_words
  rw [View.canon_unit_zero off_zero]
  simp only [View.readAt_eq_ld, h3.read_unread, h4.read_unread, h7.read_unread, View.ld_unit_zero (S := S1152x1408) off_zero, View.ld_unit_zero (S := S1024x1408) off_zero, View.ld_unit_zero (S := S1152x1024) off_zero]

/-- The last point adds to it, and writes it with the scaled addend. -/
theorem last (hc0 : ¬cond0_0 i) (hc1 : cond0_1 i) (hc2 : cond0_2 i) :
    out0_C_3 c i a3 h3 a4 h4 a5 h5 a6 h6 a7 h7 hc0 hc1 hc2 x y z a = k0_pay4 (k0_pay3 x y a) z := by
  unfold out0_C_3
  rw [View.read_writes_eq_canon _ _ _ (cover0_C_3 c i a3 h3 a4 h4 a5 h5 a6 h6 a7 h7 hc0 hc1 hc2 x y z a)]
  unfold kernelRun0_C
  dsimp only
  sl_unfold_words
  rw [View.canon_unit_zero off_zero]
  simp only [View.readCov_unit_zero (S := S1152x1024) _ off_zero, View.readAt_eq_ld, h3.read_unread, h4.read_unread, h5.read_unread, h7.read_unread,
    View.ld_unit_zero (S := S1152x1408) off_zero, View.ld_unit_zero (S := S1024x1408) off_zero, View.ld_unit_zero (S := S1152x1024) off_zero]

theorem pay4_at (r : Fin 1152) (s : Fin 1024) : k0_pay4 a z (ix2 r s) = a (ix2 r s) + alpha * z (ix2 r s) := rfl

end

/-! ## The run of the grid -/

/-- The blocks' places, at every point; only a block's last point writes it back. -/
theorem idx : ∀ t : Fin cfg0.N, (win0_0.index t = ![t.val / 4, t.val % 4] ∧ win0_1.index t = ![0, t.val % 4] ∧ win0_2.index t = ![t.val / 4, 0] ∧ win0_3.index t = ![t.val / 4, 0]) ∧ t.val / 4 < 2 :=
  (by decide +kernel : ∀ t : Fin grid0.N, _)
theorem flush_last : ∀ t : Fin cfg0.N, (cfg0.win 3).flush t = true → t.val % 4 = 3 :=
  (by decide +kernel : ∀ t : Fin grid0.N, (cfg0.win 3).flush t = true → t.val % 4 = 3)

variable (m : (ℓ : Loc nD τ sig) → Buf (Elt Ideal) ℓ) (c : Dev nD)

/-- The arguments, and a point's blocks of them. -/
def argA : FVec Ideal S2304x5632 .bf16 := V m c main_arg0
def argB : FVec Ideal S1024x5632 .bf16 := V m c main_arg1
def argZ : FVec Ideal S2304x1024 .f32 := V m c main_arg2
def blkA (t : Fin cfg0.N) : Vec Ideal S1152x1408 .bf16 := iblk m c 0 t
def blkB (t : Fin cfg0.N) : Vec Ideal S1024x1408 .bf16 := iblk m c 1 t
def blkZ (t : Fin cfg0.N) : Vec Ideal S1152x1024 .f32 := iblk m c 2 t

theorem blkA_at (t : Fin cfg0.N) (r : Fin 1152) (k : Fin 1408) :
    blkA m c t (ix2 r k) = argA m c (ix2 ⟨1152 * (t.val / 4) + r.val, by have := (idx t).2; omega⟩ ⟨1408 * (t.val % 4) + k.val, by omega⟩) := by
  blk_ext [blkA, argA, iblk, idx t]
theorem blkB_at (t : Fin cfg0.N) (s : Fin 1024) (k : Fin 1408) :
    blkB m c t (ix2 s k) = argB m c (ix2 s ⟨1408 * (t.val % 4) + k.val, by omega⟩) := by
  blk_ext [blkB, argB, iblk, idx t]
theorem blkZ_at (t : Fin cfg0.N) (r : Fin 1152) (s : Fin 1024) :
    blkZ m c t (ix2 r s) = argZ m c (ix2 ⟨1152 * (t.val / 4) + r.val, by have := (idx t).2; omega⟩ s) := by
  blk_ext [blkZ, argZ, iblk, idx t]

/-- The part of an entry that the point's product adds: a quarter of the sum, the quarter and the rows being the point's. -/
def part (t : Fin cfg0.N) (r : Fin 1152) (s : Fin 1024) : EReal := ∑ k : Fin 1408, blkA m c t (ix2 r k) * blkB m c t (ix2 s k)

theorem part_at (n : ℕ) (hn : n < cfg0.N) (r : Fin 1152) (s : Fin 1024) (l i : ℕ) (hl : n % 4 = l) (hi : n / 4 = i) (hb : l < 4) (hc : i < 2) :
    part m c ⟨n, hn⟩ r s = ∑ k : Fin 1408, argA m c (ix2 ⟨1152 * i + r.val, by omega⟩ ⟨1408 * l + k.val, by omega⟩) * argB m c (ix2 s ⟨1408 * l + k.val, by omega⟩) := by
  subst hl hi
  exact Finset.sum_congr rfl fun k _ => congrArg₂ (· * ·) (blkA_at m c ⟨n, hn⟩ r k) (blkB_at m c ⟨n, hn⟩ s k)

theorem acc_first (n : ℕ) (hn : n < cfg0.N) (h : n % 4 = 0) (r : Fin 1152) (s : Fin 1024) : (outsAt0 m c n hn).2 (ix2 r s) = part m c ⟨n, hn⟩ r s := by
  rw [outsAt0_A m c ⟨n, hn⟩ h (by dsimp only; omega) (by dsimp only; omega)]
  dsimp only
  rw [first]
  exact pay1_at (blkA m c ⟨n, hn⟩) (blkB m c ⟨n, hn⟩) r s

theorem acc_step (n : ℕ) (hn : n + 1 < cfg0.N) (h : 1 ≤ (n + 1) % 4) (h' : (n + 1) % 4 < 3) (r : Fin 1152) (s : Fin 1024) :
    (outsAt0 m c (n + 1) hn).2 (ix2 r s) = (outsAt0 m c n (Nat.lt_of_succ_lt hn)).2 (ix2 r s) + part m c ⟨n + 1, hn⟩ r s := by
  rw [outsAt0_B m c ⟨n + 1, hn⟩ (by dsimp only; omega) h (by dsimp only; omega)]
  dsimp only
  rw [mid]
  exact pay3_at (blkA m c ⟨n + 1, hn⟩) (blkB m c ⟨n + 1, hn⟩) _ r s

theorem out_step (n : ℕ) (hn : n + 1 < cfg0.N) (h : (n + 1) % 4 = 3) (r : Fin 1152) (s : Fin 1024) :
    (outsAt0 m c (n + 1) hn).1 (ix2 r s) = ((outsAt0 m c n (Nat.lt_of_succ_lt hn)).2 (ix2 r s) + part m c ⟨n + 1, hn⟩ r s) + alpha * blkZ m c ⟨n + 1, hn⟩ (ix2 r s) := by
  rw [outsAt0_C m c ⟨n + 1, hn⟩ (by dsimp only; omega) (by dsimp only; omega) h]
  dsimp only
  rw [last, pay4_at]
  exact congrArg (· + _) (pay3_at (blkA m c ⟨n + 1, hn⟩) (blkB m c ⟨n + 1, hn⟩) _ r s)

/-- What a block's last point writes: the block's entries of the product plus the scaled addend. -/
theorem out_at (n : ℕ) (hn : n + 3 < cfg0.N) (h : n % 4 = 0) (i : ℕ) (hi : n / 4 = i) (hc : i < 2) (r : Fin 1152) (s : Fin 1024) :
    (outsAt0 m c (n + 3) hn).1 (ix2 r s) = prod (argA m c) (argB m c) (argZ m c) (ix2 ⟨1152 * i + r.val, by omega⟩ s) := by
  rw [out_step m c (n + 2) hn (by omega), acc_step m c (n + 1) (by omega) (by omega) (by omega), acc_step m c n (by omega) (by omega) (by omega), acc_first m c n (by omega) h,
    part_at m c n _ r s 0 i h hi (by omega) hc, part_at m c (n + 1) _ r s 1 i (by omega) (by omega) (by omega) hc,
    part_at m c (n + 2) _ r s 2 i (by omega) (by omega) (by omega) hc, part_at m c (n + 3) _ r s 3 i (by omega) (by omega) (by omega) hc]
  refine congrArg₂ (· + ·) (sum_four (T := 1408) (N := 5632) rfl fun k => argA m c (ix2 ⟨1152 * i + r.val, by omega⟩ k) * argB m c (ix2 s k)) ?_
  refine congrArg (alpha * ·) ((blkZ_at m c ⟨n + 3, hn⟩ r s).trans ?_)
  exact congrArg (fun q => argZ m c (ix2 q s)) (Fin.ext (show 1152 * ((n + 3) / 4) + r.val = 1152 * i + r.val by omega))

/-- The array after the run. -/
theorem final : (dats m 0 c).arrAt 3 cfg0.N = prod (argA m c) (argB m c) (argZ m c) := by
  refine (dats m 0 c).arrAt_eq_of_covers 3 _ (by decide +kernel) fun t hf y => ?_
  obtain ⟨r, s, rfl⟩ : ∃ (r : Fin 1152) (s : Fin 1024), y = ix2 r s := ⟨y 0, y 1, eq_ix2 (n0 := 1152) (n1 := 1024) y⟩
  have h3 := flush_last t hf
  obtain ⟨n, hn⟩ := t
  obtain ⟨k, rfl⟩ : ∃ k, n = k + 3 := ⟨n - 3, by dsimp only at h3; omega⟩
  blk_simp
  rw [after0_3]
  refine (out_at m c k hn (by dsimp only at h3; omega) ((k + 3) / 4) (by dsimp only at h3; omega) (idx ⟨k + 3, hn⟩).2 r s).trans ?_
  blk_ext [idx ⟨k + 3, hn⟩]

/-! ## The reference -/

theorem ref_eq (a : FVec Ideal S2304x5632 .bf16) (b : FVec Ideal S1024x5632 .bf16) (z : FVec Ideal S2304x1024 .f32) :
    (addf (mulf (broadcastInDim S2304x1024 ![] Cert.Reference3Ideal.Gen.bcast_S_S2304x1024 (constant Cert.Reference3Ideal.S_ .f32 0x3F9837F0#32)) z) (Host.dotGeneral Cert.Reference3Ideal.dot_S2304x5632_S1024x5632_S2304x1024_1_1_0_0_n_n none (extf .f32 a Cert.Reference3Ideal.Gen.bitsLt_bf16_f32) (extf .f32 b Cert.Reference3Ideal.Gen.bitsLt_bf16_f32)) : FVec Ideal S2304x1024 .f32) = prod a b z := by
  funext i
  obtain ⟨r, s, rfl⟩ : ∃ (r : Fin 2304) (s : Fin 1024), i = ix2 r s := ⟨i 0, i 1, eq_ix2 i⟩
  refine (add_comm (alpha * z (ix2 r s)) _).trans (congrArg (· + alpha * z (ix2 r s)) ?_)
  pointwise

/-- The claim: of any arguments the kernel's result is the reference's. -/
theorem algebraic : Cert.algebraic_Kernel3Ideal_Reference3Ideal := by
  intro m g m' g' _ hagree
  refine ⟨fun c => prod (argA m c) (argB m c) (argZ m c),
    (θ_run _ _ _).mono (fun r h c => ⟨(h c).1.trans (final m c), (h c).2⟩) (Cert.Kernel3Ideal.Value.run_blocks (F := Ideal) m g), ?_⟩
  refine (θ_run _ _ _).mono (fun r h c => ⟨(h c).1.trans ?_, (h c).2⟩) (Cert.Reference3Ideal.Value.run (F := Ideal) m' g')
  obtain ⟨e0, e1, e2⟩ := hagree c
  rw [e0, e1, e2]
  exact ref_eq _ _ _

end Cert.Proof.Ffn.UpDx

end
-- ==== Proof.Ffn.DownDw.lean ====
/-
  The gradient of the feed-forward block's second matrix: as for the first one, each block of it is the sum of two
  products, of the upper and of the lower half of the tokens; here the grid goes over the blocks of rows.
-/
module

public import proofs.«01_k».proof.Defs
public import proofs.«01_k».proof.Proof.Gen.Kernel4Ideal.Value
public import proofs.«01_k».proof.Proof.Gen.Reference4Ideal.Run
public import proofs.«01_k».proof.Proof.Ffn.Tiles
public import Idealize.ShloMosaic.Lib.Pipeline.ValueKit

@[expose] public section

set_option maxRecDepth 16384

noncomputable section

namespace Cert.Proof.Ffn.DownDw

open Cert.Kernel4Ideal Cert.Kernel4Ideal.Gen
open Idealize.ShloMosaic Idealize.ShloMosaic.TcCoe Idealize.SL.Sem

/-- The product of the transpose of `a` with `b`. -/
def prod (a : FVec Ideal S2304x2816 .bf16) (b : FVec Ideal S2304x1024 .bf16) : FVec Ideal S2816x1024 .bf16 :=
  fun i => ∑ k : Fin 2304, a (ix2 k (i 0)) * b (ix2 k (i 1))

/-! ## What a point's operations compute -/

theorem pay1_at (x : Vec Ideal S1152x1408 .bf16) (y : Vec Ideal S1152x1024 .bf16) (r : Fin 1408) (s : Fin 1024) :
    k0_pay1 x y (ix2 r s) = ∑ k : Fin 1152, x (ix2 k r) * y (ix2 k s) := by
  pointwise [k0_pay1]

theorem pay4_at (x : Vec Ideal S1152x1408 .bf16) (y : Vec Ideal S1152x1024 .bf16) (a : Vec Ideal S1408x1024 .f32) (r : Fin 1408) (s : Fin 1024) :
    k0_pay4 (k0_pay3 x y a) (ix2 r s) = a (ix2 r s) + ∑ k : Fin 1152, x (ix2 k r) * y (ix2 k s) := by
  refine Eq.trans ?_ (congrArg (a (ix2 r s) + ·) (pay1_at x y r s))
  unfold k0_pay4 k0_pay3
  dsimp only
  rw [shapeCast_self]
  rfl

section

variable (c : Dev nD) (i : grid0.Coords) (a3 : Memref sig .tc .vmem S1152x1408 .bf16) (h3 : a3.IsWhole) (a4 : Memref sig .tc .vmem S1152x1024 .bf16) (h4 : a4.IsWhole)
  (a5 : Memref sig .tc .vmem S1408x1024 .bf16) (h5 : a5.IsWhole) (a6 : Memref sig .tc .vmem S1408x1024 .f32) (h6 : a6.IsWhole)

/-- The upper half: the accumulator is set. -/
theorem first (hc0 : cond0_0 i) (hc1 : ¬cond0_1 i) (hc2 : ¬cond0_2 i) (x : Vec Ideal S1152x1408 .bf16) (y : Vec Ideal S1152x1024 .bf16) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero off_zero]
  unfold k0_pay2
  simp only [View.readAt_eq_ld, h3.read_unread, h4.read_unread, View.ld_unit_zero (S := S1152x1408) off_zero, View.ld_unit_zero (S := S1152x1024) off_zero, shapeCast_self]

/-- The lower half: it is added, and the block written. -/
theorem last (hc0 : ¬cond0_0 i) (hc1 : cond0_1 i) (hc2 : cond0_2 i) (x : Vec Ideal S1152x1408 .bf16) (y : Vec Ideal S1152x1024 .bf16) (a : Vec Ideal S1408x1024 .f32) :
    out0_B_2 c i a3 h3 a4 h4 a5 h5 a6 h6 hc0 hc1 hc2 x y a = k0_pay4 (k0_pay3 x y a) := by
  unfold out0_B_2
  rw [View.read_writes_eq_canon _ _ _ (cover0_B_2 c i a3 h3 a4 h4 a5 h5 a6 h6 hc0 hc1 hc2 x y a)]
  unfold kernelRun0_B
  dsimp only
  sl_unfold_words
  rw [View.canon_unit_zero off_zero]
  simp only [View.readCov_unit_zero (S := S1408x1024) _ off_zero, View.readAt_eq_ld, h3.read_unread, h4.read_unread, h6.read_unread,
    View.ld_unit_zero (S := S1152x1408) off_zero, View.ld_unit_zero (S := S1152x1024) off_zero, View.ld_unit_zero (S := S1408x1024) off_zero]

end

/-! ## The run of the grid -/

/-- The blocks' places, at every point; only the lower half's point writes its block back. -/
theorem idx : ∀ t : Fin cfg0.N, (win0_0.index t = ![t.val % 2, t.val / 2] ∧ win0_1.index t = ![t.val % 2, 0] ∧ win0_2.index t = ![t.val / 2, 0]) ∧ t.val / 2 < 2 :=
  (by decide +kernel : ∀ t : Fin grid0.N, _)
theorem flush_odd : ∀ t : Fin cfg0.N, (cfg0.win 2).flush t = true → t.val % 2 = 1 :=
  (by decide +kernel : ∀ t : Fin grid0.N, (cfg0.win 2).flush t = true → t.val % 2 = 1)

variable (m : (ℓ : Loc nD τ sig) → Buf (Elt Ideal) ℓ) (c : Dev nD)

/-- The arguments, and a point's blocks of them. -/
def argA : FVec Ideal S2304x2816 .bf16 := V m c main_arg0
def argB : FVec Ideal S2304x1024 .bf16 := V m c main_arg1
def blkA (t : Fin cfg0.N) : Vec Ideal S1152x1408 .bf16 := iblk m c 0 t
def blkB (t : Fin cfg0.N) : Vec Ideal S1152x1024 .bf16 := iblk m c 1 t

theorem blkA_at (t : Fin cfg0.N) (k : Fin 1152) (r : Fin 1408) :
    blkA m c t (ix2 k r) = argA m c (ix2 ⟨1152 * (t.val % 2) + k.val, by omega⟩ ⟨1408 * (t.val / 2) + r.val, by have := (idx t).2; omega⟩) := by
  blk_ext [blkA, argA, iblk, idx t]
theorem blkB_at (t : Fin cfg0.N) (k : Fin 1152) (s : Fin 1024) :
    blkB m c t (ix2 k s) = argB m c (ix2 ⟨1152 * (t.val % 2) + k.val, by omega⟩ s) := by
  blk_ext [blkB, argB, iblk, idx t]

/-- The half of an entry that the point's product is. -/
def part (t : Fin cfg0.N) (r : Fin 1408) (s : Fin 1024) : EReal := ∑ k : Fin 1152, blkA m c t (ix2 k r) * blkB m c t (ix2 k s)

theorem part_at (t : Fin cfg0.N) (r : Fin 1408) (s : Fin 1024) (l j : ℕ) (hl : t.val % 2 = l) (hj : t.val / 2 = j) (hb : l < 2) (hc : j < 2) :
    part m c t r s = ∑ k : Fin 1152, argA m c (ix2 ⟨1152 * l + k.val, by omega⟩ ⟨1408 * j + r.val, by omega⟩) * argB m c (ix2 ⟨1152 * l + k.val, by omega⟩ s) := by
  subst hl hj
  exact Finset.sum_congr rfl fun k _ => congrArg₂ (· * ·) (blkA_at m c t k r) (blkB_at m c t k s)

theorem acc_at (t : Fin cfg0.N) (h : t.val % 2 = 0) (r : Fin 1408) (s : Fin 1024) : (outsAt0 m c t.val t.isLt).2 (ix2 r s) = part m c t r s := by
  rw [outsAt0_A m c t h (by omega) (by omega)]
  dsimp only
  rw [first]
  exact pay1_at (blkA m c t) (blkB m c t) r s

theorem out_step (t : Fin cfg0.N) (h : t.val % 2 = 1) (r : Fin 1408) (s : Fin 1024) :
    (outsAt0 m c t.val t.isLt).1 (ix2 r s) = (outsAt0 m c (t.val - 1) (Nat.lt_of_le_of_lt (Nat.sub_le _ _) t.isLt)).2 (ix2 r s) + part m c t r s := by
  rw [outsAt0_B m c t (by omega) h h]
  dsimp only
  rw [last]
  exact pay4_at (blkA m c t) (blkB m c t) _ r s

/-- What is written of a block: its entries of the product of the arguments. -/
theorem out_at (t : Fin cfg0.N) (h : t.val % 2 = 1) (r : Fin 1408) (s : Fin 1024) :
    (outsAt0 m c t.val t.isLt).1 (ix2 r s) = prod (argA m c) (argB m c) (ix2 ⟨1408 * (t.val / 2) + r.val, by have := (idx t).2; omega⟩ s) := by
  have hp : t.val - 1 < cfg0.N := Nat.lt_of_le_of_lt (Nat.sub_le _ _) t.isLt
  have ht := (idx t).2
  have p0 : (t.val - 1) % 2 = 0 := by omega
  refine (out_step m c t h r s).trans ?_
  refine (congrArg₂ (· + ·) ((acc_at m c ⟨t.val - 1, hp⟩ p0 r s).trans (part_at m c ⟨t.val - 1, hp⟩ r s 0 (t.val / 2) p0 (show (t.val - 1) / 2 = t.val / 2 by omega) (by omega) ht)) (part_at m c t r s 1 (t.val / 2) h rfl (by omega) ht)).trans ?_
  exact sum_two (T := 1152) (N := 2304) rfl fun k => argA m c (ix2 k ⟨1408 * (t.val / 2) + r.val, by omega⟩) * argB m c (ix2 k s)

/-- The array after the run: the product of the arguments. -/
theorem final : (dats m 0 c).arrAt 2 cfg0.N = prod (argA m c) (argB m c) := by
  refine (dats m 0 c).arrAt_eq_of_covers 2 _ (by decide +kernel) fun t hf y => ?_
  obtain ⟨r, s, rfl⟩ : ∃ (r : Fin 1408) (s : Fin 1024), y = ix2 r s := ⟨y 0, y 1, eq_ix2 (n0 := 1408) (n1 := 1024) y⟩
  blk_simp
  rw [after0_2]
  refine (out_at m c t (flush_odd t hf) r s).trans ?_
  blk_ext [idx t]

/-! ## The reference -/

theorem ref_eq (a : FVec Ideal S2304x2816 .bf16) (b : FVec Ideal S2304x1024 .bf16) :
    (truncf .bf16 (transpose S2816x1024 [1, 0] (Host.dotGeneral Cert.Reference4Ideal.dot_S2304x1024_S2304x2816_S1024x2816_0_0_1_1_n_n none (extf .f32 b Cert.Reference4Ideal.Gen.bitsLt_bf16_f32) (extf .f32 a Cert.Reference4Ideal.Gen.bitsLt_bf16_f32)) Cert.Reference4Ideal.Gen.transposes_S1024x2816_S2816x1024_1_0) Cert.Reference4Ideal.Gen.bitsLt_bf16_f32 : FVec Ideal S2816x1024 .bf16) = prod a b := by
  funext i
  obtain ⟨r, s, rfl⟩ : ∃ (r : Fin 2816) (s : Fin 1024), i = ix2 r s := ⟨i 0, i 1, eq_ix2 i⟩
  pointwise [prod]
  exact Finset.sum_congr rfl fun k _ => mul_comm _ _

/-- The claim: of any arguments the kernel's result is the reference's. -/
theorem algebraic : Cert.algebraic_Kernel4Ideal_Reference4Ideal := by
  intro m g m' g' _ hagree
  refine ⟨fun c => prod (argA m c) (argB m c),
    (θ_run _ _ _).mono (fun r h c => ⟨(h c).1.trans (final m c), (h c).2⟩) (Cert.Kernel4Ideal.Value.run_blocks (F := Ideal) m g), ?_⟩
  refine (θ_run _ _ _).mono (fun r h c => ⟨(h c).1.trans ?_, (h c).2⟩) (Cert.Reference4Ideal.Value.run (F := Ideal) m' g')
  obtain ⟨e0, e1⟩ := hagree c
  rw [e0, e1]
  exact ref_eq _ _

end Cert.Proof.Ffn.DownDw

end
-- ==== Proof.Ffn.DownDx.lean ====
/-
  The gradient through the feed-forward block's second matrix, to its input: one product, each entry taken whole at one
  grid point.
-/
module

public import proofs.«01_k».proof.Defs
public import proofs.«01_k».proof.Proof.Gen.Kernel5Ideal.Value
public import proofs.«01_k».proof.Proof.Gen.Reference5Ideal.Run
public import proofs.«01_k».proof.Proof.Ffn.Tiles
public import Idealize.ShloMosaic.Lib.Pipeline.ValueKit

@[expose] public section

set_option maxRecDepth 16384

noncomputable section

namespace Cert.Proof.Ffn.DownDx

open Cert.Kernel5Ideal Cert.Kernel5Ideal.Gen
open Idealize.ShloMosaic Idealize.ShloMosaic.TcCoe Idealize.SL.Sem

/-- The product of `a` with the transpose of `b`. -/
def prod (a : FVec Ideal S2304x1024 .bf16) (b : FVec Ideal S2816x1024 .bf16) : FVec Ideal S2304x2816 .bf16 :=
  fun i => ∑ k : Fin 1024, a (ix2 (i 0) k) * b (ix2 (i 1) k)

theorem pay1_at (x : Vec Ideal S1152x1024 .bf16) (y : Vec Ideal S1408x1024 .bf16) (r : Fin 1152) (s : Fin 1408) :
    k0_pay1 x y (ix2 r s) = ∑ k : Fin 1024, x (ix2 r k) * y (ix2 s k) := by
  pointwise [k0_pay1]

theorem out_eq (x : Vec Ideal S1152x1024 .bf16) (y : Vec Ideal S1408x1024 .bf16) : out0_2 x y = k0_pay1 x y := by
  unfold out0_2
  rw [View.canon_unit_zero off_zero, View.ld_unit_zero off_zero, View.ld_unit_zero off_zero]

/-- The blocks' places, at every point. -/
theorem idx : ∀ t : Fin cfg0.N, (win0_0.index t = ![t.val / 2, 0] ∧ win0_1.index t = ![t.val % 2, 0] ∧ win0_2.index t = ![t.val / 2, t.val % 2]) ∧ t.val / 2 < 2 :=
  (by decide +kernel : ∀ t : Fin grid0.N, _)

variable (m : (ℓ : Loc nD τ sig) → Buf (Elt Ideal) ℓ) (c : Dev nD)

/-- The arguments, and a point's blocks of them. -/
def argA : FVec Ideal S2304x1024 .bf16 := V m c main_arg0
def argB : FVec Ideal S2816x1024 .bf16 := V m c main_arg1
def blkA (t : Fin cfg0.N) : Vec Ideal S1152x1024 .bf16 := iblk m c 0 t
def blkB (t : Fin cfg0.N) : Vec Ideal S1408x1024 .bf16 := iblk m c 1 t

theorem blkA_at (t : Fin cfg0.N) (r : Fin 1152) (k : Fin 1024) :
    blkA m c t (ix2 r k) = argA m c (ix2 ⟨1152 * (t.val / 2) + r.val, by have := (idx t).2; omega⟩ k) := by
  blk_ext [blkA, argA, iblk, idx t]
theorem blkB_at (t : Fin cfg0.N) (s : Fin 1408) (k : Fin 1024) :
    blkB m c t (ix2 s k) = argB m c (ix2 ⟨1408 * (t.val % 2) + s.val, by omega⟩ k) := by
  blk_ext [blkB, argB, iblk, idx t]

/-- A point's entry of the product is that of the whole arrays at the point's place. -/
theorem out_at (t : Fin cfg0.N) (r : Fin 1152) (s : Fin 1408) :
    out0_2 (blkA m c t) (blkB m c t) (ix2 r s) = prod (argA m c) (argB m c) (ix2 ⟨1152 * (t.val / 2) + r.val, by have := (idx t).2; omega⟩ ⟨1408 * (t.val % 2) + s.val, by omega⟩) := by
  rw [out_eq, pay1_at]
  exact Finset.sum_congr rfl fun k _ => congrArg₂ (· * ·) (blkA_at m c t r k) (blkB_at m c t s k)

/-- The array after the run: the product of the arguments. -/
theorem final : (dats m 0 c).arrAt 2 cfg0.N = prod (argA m c) (argB m c) := by
  refine (dats m 0 c).arrAt_eq_of_covers 2 _ (by decide +kernel) fun t hf y => ?_
  obtain ⟨r, s, rfl⟩ : ∃ (r : Fin 1152) (s : Fin 1408), y = ix2 r s := ⟨y 0, y 1, eq_ix2 (n0 := 1152) (n1 := 1408) y⟩
  blk_simp
  rw [after0_2]
  refine (out_at m c t r s).trans ?_
  blk_ext [idx t]

theorem ref_eq (a : FVec Ideal S2304x1024 .bf16) (b : FVec Ideal S2816x1024 .bf16) :
    (truncf .bf16 (Host.dotGeneral Cert.Reference5Ideal.dot_S2304x1024_S2816x1024_S2304x2816_1_1_0_0_n_n none (extf .f32 a Cert.Reference5Ideal.Gen.bitsLt_bf16_f32) (extf .f32 b Cert.Reference5Ideal.Gen.bitsLt_bf16_f32)) Cert.Reference5Ideal.Gen.bitsLt_bf16_f32 : FVec Ideal S2304x2816 .bf16) = prod a b := by
  funext i
  pointwise [prod]

theorem algebraic : Cert.algebraic_Kernel5Ideal_Reference5Ideal := by
  intro m g m' g' _ hagree
  refine ⟨fun c => prod (argA m c) (argB m c),
    (θ_run _ _ _).mono (fun r h c => ⟨(h c).1.trans (final m c), (h c).2⟩) (Cert.Kernel5Ideal.Value.run_blocks (F := Ideal) m g), ?_⟩
  refine (θ_run _ _ _).mono (fun r h c => ⟨(h c).1.trans ?_, (h c).2⟩) (Cert.Reference5Ideal.Value.run (F := Ideal) m' g')
  obtain ⟨e0, e1⟩ := hagree c
  rw [e0, e1]
  exact ref_eq _ _

end Cert.Proof.Ffn.DownDx

end
-- ==== Proof.Ffn.Up.lean ====
/-
  The feed-forward block's first product, forward: each entry is taken whole at one grid point.
-/
module

public import proofs.«01_k».proof.Defs
public import proofs.«01_k».proof.Proof.Gen.Kernel6Ideal.Value
public import proofs.«01_k».proof.Proof.Gen.Reference6Ideal.Run
public import proofs.«01_k».proof.Proof.Ffn.Tiles
public import Idealize.ShloMosaic.Lib.Pipeline.ValueKit

@[expose] public section

set_option maxRecDepth 16384

noncomputable section

namespace Cert.Proof.Ffn.Up

open Cert.Kernel6Ideal Cert.Kernel6Ideal.Gen
open Idealize.ShloMosaic Idealize.ShloMosaic.TcCoe Idealize.SL.Sem

/-- A point's block of the result is the product of its blocks of the arguments. -/
theorem out_eq (x : Vec Ideal S1152x1024 .bf16) (y : Vec Ideal S1024x1408 .bf16) : out0_2 x y = mm x y := by
  unfold out0_2
  rw [View.canon_unit_zero off_zero, View.ld_unit_zero off_zero, View.ld_unit_zero off_zero]
  funext i
  pointwise [k0_pay1, mm]

/-- The blocks' places, at every point. -/
theorem idx : ∀ t : Fin cfg0.N, (win0_0.index t = ![t.val / 4, 0] ∧ win0_1.index t = ![0, t.val % 4] ∧ win0_2.index t = ![t.val / 4, t.val % 4]) ∧ t.val / 4 < 2 :=
  (by decide +kernel : ∀ t : Fin grid0.N, _)

variable (m : (ℓ : Loc nD τ sig) → Buf (Elt Ideal) ℓ) (c : Dev nD)

/-- The arguments, and a point's blocks of them. -/
def argA : FVec Ideal S2304x1024 .bf16 := V m c main_arg0
def argB : FVec Ideal S1024x5632 .bf16 := V m c main_arg1
def blkA (t : Fin cfg0.N) : Vec Ideal S1152x1024 .bf16 := iblk m c 0 t
def blkB (t : Fin cfg0.N) : Vec Ideal S1024x1408 .bf16 := iblk m c 1 t

theorem blkA_at (t : Fin cfg0.N) (r : Fin 1152) (k : Fin 1024) :
    blkA m c t (ix2 r k) = argA m c (ix2 ⟨1152 * (t.val / 4) + r.val, by have := (idx t).2; omega⟩ k) := by
  blk_ext [blkA, argA, iblk, idx t]
theorem blkB_at (t : Fin cfg0.N) (k : Fin 1024) (s : Fin 1408) :
    blkB m c t (ix2 k s) = argB m c (ix2 k ⟨1408 * (t.val % 4) + s.val, by omega⟩) := by
  blk_ext [blkB, argB, iblk, idx t]

/-- A point's entry of the product is that of the whole arrays at the point's place. -/
theorem out_at (t : Fin cfg0.N) (r : Fin 1152) (s : Fin 1408) :
    out0_2 (blkA m c t) (blkB m c t) (ix2 r s) = mm (argA m c) (argB m c) (ix2 ⟨1152 * (t.val / 4) + r.val, by have := (idx t).2; omega⟩ ⟨1408 * (t.val % 4) + s.val, by omega⟩) := by
  refine (congrFun (out_eq (blkA m c t) (blkB m c t)) (ix2 r s)).trans ?_
  exact mm_block (row := fun r => ⟨1152 * (t.val / 4) + r.val, by have := (idx t).2; omega⟩) (col := fun s => ⟨1408 * (t.val % 4) + s.val, by omega⟩) (blkA_at m c t) (blkB_at m c t) r s

/-- The array after the run: the product of the arguments. -/
theorem final : (dats m 0 c).arrAt 2 cfg0.N = mm (argA m c) (argB m c) := by
  refine (dats m 0 c).arrAt_eq_of_covers 2 _ (by decide +kernel) fun t hf y => ?_
  obtain ⟨r, s, rfl⟩ : ∃ (r : Fin 1152) (s : Fin 1408), y = ix2 r s := ⟨y 0, y 1, eq_ix2 (n0 := 1152) (n1 := 1408) y⟩
  blk_simp
  rw [after0_2]
  refine (out_at m c t r s).trans ?_
  blk_ext [idx t]

/-- The reference's term is the same product. -/
theorem ref_eq (a : FVec Ideal S2304x1024 .bf16) (b : FVec Ideal S1024x5632 .bf16) :
    (truncf .bf16 (Host.dotGeneral Cert.Reference6Ideal.dot_S2304x1024_S1024x5632_S2304x5632_1_0_0_1_n_n none (extf .f32 a Cert.Reference6Ideal.Gen.bitsLt_bf16_f32) (extf .f32 b Cert.Reference6Ideal.Gen.bitsLt_bf16_f32)) Cert.Reference6Ideal.Gen.bitsLt_bf16_f32 : FVec Ideal S2304x5632 .bf16) = mm a b := by
  funext i
  pointwise [mm]

/-- The claim: of any arguments the kernel's result is the reference's. -/
theorem algebraic : Cert.algebraic_Kernel6Ideal_Reference6Ideal := by
  intro m g m' g' _ hagree
  refine ⟨fun c => mm (argA m c) (argB m c),
    (θ_run _ _ _).mono (fun r h c => ⟨(h c).1.trans (final m c), (h c).2⟩) (Cert.Kernel6Ideal.Value.run_blocks (F := Ideal) m g), ?_⟩
  refine (θ_run _ _ _).mono (fun r h c => ⟨(h c).1.trans ?_, (h c).2⟩) (Cert.Reference6Ideal.Value.run (F := Ideal) m' g')
  obtain ⟨e0, e1⟩ := hagree c
  rw [e0, e1]
  exact ref_eq _ _

end Cert.Proof.Ffn.Up

end
-- ==== Proof.Ffn.Down.lean ====
/-
  The feed-forward block's second product, forward: each block is the sum of two products, over the first and over the
  second half of the inner columns, one per grid point.
-/
module

public import proofs.«01_k».proof.Defs
public import proofs.«01_k».proof.Proof.Gen.Kernel7Ideal.Value
public import proofs.«01_k».proof.Proof.Gen.Reference7Ideal.Run
public import proofs.«01_k».proof.Proof.Ffn.Tiles
public import Idealize.ShloMosaic.Lib.Pipeline.ValueKit

@[expose] public section

set_option maxRecDepth 16384

noncomputable section

namespace Cert.Proof.Ffn.Down

open Cert.Kernel7Ideal Cert.Kernel7Ideal.Gen
open Idealize.ShloMosaic Idealize.ShloMosaic.TcCoe Idealize.SL.Sem

/-! ## What a point's operations compute -/

theorem pay1_at (x : Vec Ideal S1152x1408 .bf16) (y : Vec Ideal S1408x1024 .bf16) (r : Fin 1152) (s : Fin 1024) :
    k0_pay1 x y (ix2 r s) = ∑ k : Fin 1408, x (ix2 r k) * y (ix2 k s) := by
  pointwise [k0_pay1]

theorem pay3_at (x : Vec Ideal S1152x1408 .bf16) (y : Vec Ideal S1408x1024 .bf16) (a : Vec Ideal S1152x1024 .f32) (r : Fin 1152) (s : Fin 1024) :
    k0_pay3 x y a (ix2 r s) = a (ix2 r s) + ∑ k : Fin 1408, x (ix2 r k) * y (ix2 k s) := by
  refine Eq.trans ?_ (congrArg (a (ix2 r s) + ·) (pay1_at x y r s))
  unfold k0_pay3
  rw [shapeCast_self]
  rfl

section

variable (c : Dev nD) (i : grid0.Coords) (a3 : Memref sig .tc .vmem S1152x1408 .bf16) (h3 : a3.IsWhole) (a4 : Memref sig .tc .vmem S1408x1024 .bf16) (h4 : a4.IsWhole)
  (a5 : Memref sig .tc .vmem S1152x1024 .f32) (h5 : a5.IsWhole) (a6 : Memref sig .tc .vmem S1152x1024 .f32) (h6 : a6.IsWhole)
  (x : Vec Ideal S1152x1408 .bf16) (y : Vec Ideal S1408x1024 .bf16) (a : Vec Ideal S1152x1024 .f32)

/-- The first half: the accumulator is set. -/
theorem first (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero off_zero]
  unfold k0_pay2
  simp only [View.readAt_eq_ld, h3.read_unread, h4.read_unread, View.ld_unit_zero (S := S1152x1408) off_zero, View.ld_unit_zero (S := S1408x1024) off_zero, shapeCast_self]

/-- The second half: it is added, and the sum written. -/
theorem last (hc0 : ¬cond0_0 i) (hc1 : cond0_1 i) (hc2 : cond0_2 i) :
    out0_B_2 c i a3 h3 a4 h4 a5 h5 a6 h6 hc0 hc1 hc2 x y a = k0_pay3 x y a := by
  unfold out0_B_2
  rw [View.read_writes_eq_canon _ _ _ (cover0_B_2 c i a3 h3 a4 h4 a5 h5 a6 h6 hc0 hc1 hc2 x y a)]
  unfold kernelRun0_B
  dsimp only
  sl_unfold_words
  rw [View.canon_unit_zero off_zero]
  simp only [View.readCov_unit_zero (S := S1152x1024) _ off_zero, View.readAt_eq_ld, h3.read_unread, h4.read_unread, h6.read_unread,
    View.ld_unit_zero (S := S1152x1408) off_zero, View.ld_unit_zero (S := S1408x1024) off_zero, View.ld_unit_zero (S := S1152x1024) off_zero]

end

/-! ## The run of the grid -/

/-- The blocks' places, at every point; only the second half's point writes its block back. -/
theorem idx : ∀ t : Fin cfg0.N, (win0_0.index t = ![t.val / 2, t.val % 2] ∧ win0_1.index t = ![t.val % 2, 0] ∧ win0_2.index t = ![t.val / 2, 0]) ∧ t.val / 2 < 2 :=
  (by decide +kernel : ∀ t : Fin grid0.N, _)
theorem flush_odd : ∀ t : Fin cfg0.N, (cfg0.win 2).flush t = true → t.val % 2 = 1 :=
  (by decide +kernel : ∀ t : Fin grid0.N, (cfg0.win 2).flush t = true → t.val % 2 = 1)

variable (m : (ℓ : Loc nD τ sig) → Buf (Elt Ideal) ℓ) (c : Dev nD)

/-- The arguments, and a point's blocks of them. -/
def argA : FVec Ideal S2304x2816 .bf16 := V m c main_arg0
def argB : FVec Ideal S2816x1024 .bf16 := V m c main_arg1
def blkA (t : Fin cfg0.N) : Vec Ideal S1152x1408 .bf16 := iblk m c 0 t
def blkB (t : Fin cfg0.N) : Vec Ideal S1408x1024 .bf16 := iblk m c 1 t

theorem blkA_at (t : Fin cfg0.N) (r : Fin 1152) (k : Fin 1408) :
    blkA m c t (ix2 r k) = argA m c (ix2 ⟨1152 * (t.val / 2) + r.val, by have := (idx t).2; omega⟩ ⟨1408 * (t.val % 2) + k.val, by omega⟩) := by
  blk_ext [blkA, argA, iblk, idx t]
theorem blkB_at (t : Fin cfg0.N) (k : Fin 1408) (s : Fin 1024) :
    blkB m c t (ix2 k s) = argB m c (ix2 ⟨1408 * (t.val % 2) + k.val, by omega⟩ s) := by
  blk_ext [blkB, argB, iblk, idx t]

/-- The half of an entry that the point's product is. -/
def part (t : Fin cfg0.N) (r : Fin 1152) (s : Fin 1024) : EReal := ∑ k : Fin 1408, blkA m c t (ix2 r k) * blkB m c t (ix2 k s)

theorem part_at (t : Fin cfg0.N) (r : Fin 1152) (s : Fin 1024) (l i : ℕ) (hl : t.val % 2 = l) (hi : t.val / 2 = i) (hb : l < 2) (hc : i < 2) :
    part m c t r s = ∑ k : Fin 1408, argA m c (ix2 ⟨1152 * i + r.val, by omega⟩ ⟨1408 * l + k.val, by omega⟩) * argB m c (ix2 ⟨1408 * l + k.val, by omega⟩ s) := by
  subst hl hi
  exact Finset.sum_congr rfl fun k _ => congrArg₂ (· * ·) (blkA_at m c t r k) (blkB_at m c t k s)

theorem acc_at (t : Fin cfg0.N) (h : t.val % 2 = 0) (r : Fin 1152) (s : Fin 1024) : (outsAt0 m c t.val t.isLt).2 (ix2 r s) = part m c t r s := by
  rw [outsAt0_A m c t h (by omega) (by omega)]
  dsimp only
  rw [first]
  exact pay1_at (blkA m c t) (blkB m c t) r s

theorem out_step (t : Fin cfg0.N) (h : t.val % 2 = 1) (r : Fin 1152) (s : Fin 1024) :
    (outsAt0 m c t.val t.isLt).1 (ix2 r s) = (outsAt0 m c (t.val - 1) (Nat.lt_of_le_of_lt (Nat.sub_le _ _) t.isLt)).2 (ix2 r s) + part m c t r s := by
  rw [outsAt0_B m c t (by omega) h h]
  dsimp only
  rw [last]
  exact pay3_at (blkA m c t) (blkB m c t) _ r s

/-- What is written of a block: its entries of the product of the arguments. -/
theorem out_at (t : Fin cfg0.N) (h : t.val % 2 = 1) (r : Fin 1152) (s : Fin 1024) :
    (outsAt0 m c t.val t.isLt).1 (ix2 r s) = mm (argA m c) (argB m c) (ix2 ⟨1152 * (t.val / 2) + r.val, by have := (idx t).2; omega⟩ s) := by
  have hp : t.val - 1 < cfg0.N := Nat.lt_of_le_of_lt (Nat.sub_le _ _) t.isLt
  have ht := (idx t).2
  have p0 : (t.val - 1) % 2 = 0 := by omega
  refine (out_step m c t h r s).trans ?_
  refine (congrArg₂ (· + ·) ((acc_at m c ⟨t.val - 1, hp⟩ p0 r s).trans (part_at m c ⟨t.val - 1, hp⟩ r s 0 (t.val / 2) p0 (show (t.val - 1) / 2 = t.val / 2 by omega) (by omega) ht)) (part_at m c t r s 1 (t.val / 2) h rfl (by omega) ht)).trans ?_
  exact sum_two (T := 1408) (N := 2816) rfl fun k => argA m c (ix2 ⟨1152 * (t.val / 2) + r.val, by omega⟩ k) * argB m c (ix2 k s)

/-- The array after the run: the product of the arguments. -/
theorem final : (dats m 0 c).arrAt 2 cfg0.N = mm (argA m c) (argB m c) := by
  refine (dats m 0 c).arrAt_eq_of_covers 2 _ (by decide +kernel) fun t hf y => ?_
  obtain ⟨r, s, rfl⟩ : ∃ (r : Fin 1152) (s : Fin 1024), y = ix2 r s := ⟨y 0, y 1, eq_ix2 (n0 := 1152) (n1 := 1024) y⟩
  blk_simp
  rw [after0_2]
  refine (out_at m c t (flush_odd t hf) r s).trans ?_
  blk_ext [idx t]

/-! ## The reference -/

theorem ref_eq (a : FVec Ideal S2304x2816 .bf16) (b : FVec Ideal S2816x1024 .bf16) :
    (Host.dotGeneral Cert.Reference7Ideal.dot_S2304x2816_S2816x1024_S2304x1024_1_0_0_1_n_n none (extf .f32 a Cert.Reference7Ideal.Gen.bitsLt_bf16_f32) (extf .f32 b Cert.Reference7Ideal.Gen.bitsLt_bf16_f32) : FVec Ideal S2304x1024 .f32) = mm a b := by
  funext i
  pointwise [mm]

/-- The claim: of any arguments the kernel's result is the reference's. -/
theorem algebraic : Cert.algebraic_Kernel7Ideal_Reference7Ideal := by
  intro m g m' g' _ hagree
  refine ⟨fun c => mm (argA m c) (argB m c),
    (θ_run _ _ _).mono (fun r h c => ⟨(h c).1.trans (final m c), (h c).2⟩) (Cert.Kernel7Ideal.Value.run_blocks (F := Ideal) m g), ?_⟩
  refine (θ_run _ _ _).mono (fun r h c => ⟨(h c).1.trans ?_, (h c).2⟩) (Cert.Reference7Ideal.Value.run (F := Ideal) m' g')
  obtain ⟨e0, e1⟩ := hagree c
  rw [e0, e1]
  exact ref_eq _ _

end Cert.Proof.Ffn.Down

end
-- ==== Proof.Proj.Forget.lean ====
/-
  The input projection's columns for the attention with forget gates: queries, keys and values. A grid point multiplies half
  of the rows with half of the columns.
-/
module

public import proofs.«01_k».proof.Defs
public import proofs.«01_k».proof.Proof.Gen.Kernel8Ideal.Value
public import proofs.«01_k».proof.Proof.Gen.Reference8Ideal.Run
public import proofs.«01_k».proof.Proof.Ffn.Tiles
public import Idealize.ShloMosaic.Lib.Pipeline.ValueKit

@[expose] public section

set_option maxRecDepth 16384

noncomputable section

namespace Cert.Proof.Proj.Forget

open Cert.Kernel8Ideal Cert.Kernel8Ideal.Gen Cert.Proof.Ffn
open Idealize.ShloMosaic Idealize.ShloMosaic.TcCoe Idealize.SL.Sem

/-- A point's block of the result is the product of its blocks of the arguments. -/
theorem out_eq (x : Vec Ideal S1152x1024 .bf16) (y : Vec Ideal S1024x768 .bf16) : out0_2 x y = mm x y := by
  unfold out0_2
  rw [View.canon_unit_zero off_zero, View.ld_unit_zero off_zero, View.ld_unit_zero off_zero]
  funext i
  pointwise [k0_pay1, mm]

/-- Point t has the rows' half t/2 and the columns' half t%2. -/
theorem places : ∀ t : Fin cfg0.N, (win0_0.index t = ![t.val / 2, 0] ∧ win0_1.index t = ![0, t.val % 2] ∧ win0_2.index t = ![t.val / 2, t.val % 2]) ∧ t.val / 2 < 2 :=
  (by decide +kernel : ∀ t : Fin grid0.N, _)

def row (t : Fin cfg0.N) (r : Fin 1152) : Fin 2304 := ⟨1152 * (t.val / 2) + r.val, by have := (places t).2; omega⟩
def col (t : Fin cfg0.N) (s : Fin 768) : Fin 1536 := ⟨768 * (t.val % 2) + s.val, by omega⟩

variable (m : (ℓ : Loc nD τ sig) → Buf (Elt Ideal) ℓ) (c : Dev nD)

/-- The rows, the matrix, and what a point reads of them. -/
def rows : FVec Ideal S2304x1024 .bf16 := V m c main_arg0
def mat : FVec Ideal S1024x1536 .bf16 := V m c main_arg1
def rowsAt (t : Fin cfg0.N) : Vec Ideal S1152x1024 .bf16 := iblk m c 0 t
def matAt (t : Fin cfg0.N) : Vec Ideal S1024x768 .bf16 := iblk m c 1 t

theorem rowsAt_eq (t : Fin cfg0.N) (r : Fin 1152) (k : Fin 1024) : rowsAt m c t (ix2 r k) = rows m c (ix2 (row t r) k) := by
  blk_ext [rowsAt, rows, iblk, row, places t]
theorem matAt_eq (t : Fin cfg0.N) (k : Fin 1024) (s : Fin 768) : matAt m c t (ix2 k s) = mat m c (ix2 k (col t s)) := by
  blk_ext [matAt, mat, iblk, col, places t]

/-- What the run leaves: the product of the arguments. -/
theorem final : (dats m 0 c).arrAt 2 cfg0.N = mm (rows m c) (mat m c) := by
  refine (dats m 0 c).arrAt_eq_of_covers 2 _ (by decide +kernel) fun t hf y => ?_
  obtain ⟨r, s, rfl⟩ : ∃ (r : Fin 1152) (s : Fin 768), y = ix2 r s := ⟨y 0, y 1, eq_ix2 (n0 := 1152) (n1 := 768) y⟩
  blk_simp
  rw [after0_2]
  refine (congrFun (out_eq (rowsAt m c t) (matAt m c t)) (ix2 r s)).trans ?_
  refine (mm_block (rowsAt_eq m c t) (matAt_eq m c t) r s).trans ?_
  blk_ext [row, col, places t]

/-- The reference's term is the same product. -/
theorem ref_eq (a : FVec Ideal S2304x1024 .bf16) (b : FVec Ideal S1024x1536 .bf16) :
    (truncf .bf16 (Host.dotGeneral Cert.Reference8Ideal.dot_S2304x1024_S1024x1536_S2304x1536_1_0_0_1_n_n none (extf .f32 a Cert.Reference8Ideal.Gen.bitsLt_bf16_f32) (extf .f32 b Cert.Reference8Ideal.Gen.bitsLt_bf16_f32)) Cert.Reference8Ideal.Gen.bitsLt_bf16_f32 : FVec Ideal S2304x1536 .bf16) = mm a b := by
  funext i
  pointwise [mm]

/-- The claim: of any arguments the kernel's result is the reference's. -/
theorem algebraic : Cert.algebraic_Kernel8Ideal_Reference8Ideal := by
  intro m g m' g' _ hagree
  refine ⟨fun c => mm (rows m c) (mat m c),
    (θ_run _ _ _).mono (fun r h c => ⟨(h c).1.trans (final m c), (h c).2⟩) (Cert.Kernel8Ideal.Value.run_blocks (F := Ideal) m g), ?_⟩
  refine (θ_run _ _ _).mono (fun r h c => ⟨(h c).1.trans ?_, (h c).2⟩) (Cert.Reference8Ideal.Value.run (F := Ideal) m' g')
  obtain ⟨e0, e1⟩ := hagree c
  rw [e0, e1]
  exact ref_eq _ _

end Cert.Proof.Proj.Forget

end
-- ==== Proof.Proj.Rest.lean ====
/-
  The input projection's remaining columns, the latent attention's and the gates', left in float32. A grid point multiplies
  half of the rows with a third of the columns.
-/
module

public import proofs.«01_k».proof.Defs
public import proofs.«01_k».proof.Proof.Gen.Kernel9Ideal.Value
public import proofs.«01_k».proof.Proof.Gen.Reference9Ideal.Run
public import proofs.«01_k».proof.Proof.Ffn.Tiles
public import Idealize.ShloMosaic.Lib.Pipeline.ValueKit

@[expose] public section

set_option maxRecDepth 16384

noncomputable section

namespace Cert.Proof.Proj.Rest

open Cert.Kernel9Ideal Cert.Kernel9Ideal.Gen Cert.Proof.Ffn
open Idealize.ShloMosaic Idealize.ShloMosaic.TcCoe Idealize.SL.Sem

/-- A point's block of the result is the product of its blocks of the arguments. -/
theorem out_eq (x : Vec Ideal S1152x1024 .bf16) (y : Vec Ideal S1024x896 .bf16) : out0_2 x y = mm x y := by
  unfold out0_2
  rw [View.canon_unit_zero off_zero, View.ld_unit_zero off_zero, View.ld_unit_zero off_zero]
  funext i
  pointwise [k0_pay1, mm]

/-- Point t has the rows' half t/3 and the columns' third t%3. -/
theorem places : ∀ t : Fin cfg0.N, (win0_0.index t = ![t.val / 3, 0] ∧ win0_1.index t = ![0, t.val % 3] ∧ win0_2.index t = ![t.val / 3, t.val % 3]) ∧ t.val / 3 < 2 :=
  (by decide +kernel : ∀ t : Fin grid0.N, _)

def row (t : Fin cfg0.N) (r : Fin 1152) : Fin 2304 := ⟨1152 * (t.val / 3) + r.val, by have := (places t).2; omega⟩
def col (t : Fin cfg0.N) (s : Fin 896) : Fin 2688 := ⟨896 * (t.val % 3) + s.val, by omega⟩

variable (m : (ℓ : Loc nD τ sig) → Buf (Elt Ideal) ℓ) (c : Dev nD)

/-- The rows, the matrix, and what a point reads of them. -/
def rows : FVec Ideal S2304x1024 .bf16 := V m c main_arg0
def mat : FVec Ideal S1024x2688 .bf16 := V m c main_arg1
def rowsAt (t : Fin cfg0.N) : Vec Ideal S1152x1024 .bf16 := iblk m c 0 t
def matAt (t : Fin cfg0.N) : Vec Ideal S1024x896 .bf16 := iblk m c 1 t

theorem rowsAt_eq (t : Fin cfg0.N) (r : Fin 1152) (k : Fin 1024) : rowsAt m c t (ix2 r k) = rows m c (ix2 (row t r) k) := by
  blk_ext [rowsAt, rows, iblk, row, places t]
theorem matAt_eq (t : Fin cfg0.N) (k : Fin 1024) (s : Fin 896) : matAt m c t (ix2 k s) = mat m c (ix2 k (col t s)) := by
  blk_ext [matAt, mat, iblk, col, places t]

/-- What the run leaves: the product of the arguments. -/
theorem final : (dats m 0 c).arrAt 2 cfg0.N = mm (rows m c) (mat m c) := by
  refine (dats m 0 c).arrAt_eq_of_covers 2 _ (by decide +kernel) fun t hf y => ?_
  obtain ⟨r, s, rfl⟩ : ∃ (r : Fin 1152) (s : Fin 896), y = ix2 r s := ⟨y 0, y 1, eq_ix2 (n0 := 1152) (n1 := 896) y⟩
  blk_simp
  rw [after0_2]
  refine (congrFun (out_eq (rowsAt m c t) (matAt m c t)) (ix2 r s)).trans ?_
  refine (mm_block (rowsAt_eq m c t) (matAt_eq m c t) r s).trans ?_
  blk_ext [row, col, places t]

/-- The reference's term is the same product. -/
theorem ref_eq (a : FVec Ideal S2304x1024 .bf16) (b : FVec Ideal S1024x2688 .bf16) :
    (Host.dotGeneral Cert.Reference9Ideal.dot_S2304x1024_S1024x2688_S2304x2688_1_0_0_1_n_n none (extf .f32 a Cert.Reference9Ideal.Gen.bitsLt_bf16_f32) (extf .f32 b Cert.Reference9Ideal.Gen.bitsLt_bf16_f32) : FVec Ideal S2304x2688 .f32) = mm a b := by
  funext i
  pointwise [mm]

/-- The claim: of any arguments the kernel's result is the reference's. -/
theorem algebraic : Cert.algebraic_Kernel9Ideal_Reference9Ideal := by
  intro m g m' g' _ hagree
  refine ⟨fun c => mm (rows m c) (mat m c),
    (θ_run _ _ _).mono (fun r h c => ⟨(h c).1.trans (final m c), (h c).2⟩) (Cert.Kernel9Ideal.Value.run_blocks (F := Ideal) m g), ?_⟩
  refine (θ_run _ _ _).mono (fun r h c => ⟨(h c).1.trans ?_, (h c).2⟩) (Cert.Reference9Ideal.Value.run (F := Ideal) m' g')
  obtain ⟨e0, e1⟩ := hagree c
  rw [e0, e1]
  exact ref_eq _ _

end Cert.Proof.Proj.Rest

end
-- ==== Proof.Ffn.Frames.lean ====
/-
  The frames of the products (the feed-forward block's and the input projection's) and of their references. A kernel and its
  idealization have the same text, so that one run serves both.
-/
module

public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.Gen.Kernel6
public import proofs.«01_k».proof.Proof.Gen.Kernel7
public import proofs.«01_k».proof.Proof.Gen.Kernel8
public import proofs.«01_k».proof.Proof.Gen.Kernel9
public import proofs.«01_k».proof.Proof.Ffn.UpDw
public import proofs.«01_k».proof.Proof.Ffn.UpDx
public import proofs.«01_k».proof.Proof.Ffn.DownDw
public import proofs.«01_k».proof.Proof.Ffn.DownDx
public import proofs.«01_k».proof.Proof.Ffn.Up
public import proofs.«01_k».proof.Proof.Ffn.Down
public import proofs.«01_k».proof.Proof.Proj.Forget
public import proofs.«01_k».proof.Proof.Proj.Rest
public import Idealize.ShloMosaic.Lib.Quiescent

@[expose] public section

set_option maxRecDepth 16384

noncomputable section

namespace Cert.Proof.Ffn

open Idealize.ShloMosaic Idealize.ShloMosaic.TcCoe Idealize.SL.Sem

/-! A kernel's table of bodies is its idealization's. -/

theorem bodies2 : Cert.Kernel2.defs₀ (F := Bits) = Cert.Kernel2Ideal.defs₀ :=
  congrArg Defs.onTc (funext fun l => funext fun x => by match l, x with | 0, (_, _) => rfl)
theorem bodies3 : Cert.Kernel3.defs₀ (F := Bits) = Cert.Kernel3Ideal.defs₀ :=
  congrArg Defs.onTc (funext fun l => funext fun x => by match l, x with | 0, (_, _) => rfl)
theorem bodies4 : Cert.Kernel4.defs₀ (F := Bits) = Cert.Kernel4Ideal.defs₀ :=
  congrArg Defs.onTc (funext fun l => funext fun x => by match l, x with | 0, (_, _) => rfl)
theorem bodies5 : Cert.Kernel5.defs₀ (F := Bits) = Cert.Kernel5Ideal.defs₀ :=
  congrArg Defs.onTc (funext fun l => funext fun x => by match l, x with | 0, (_, _) => rfl)
theorem bodies6 : Cert.Kernel6.defs₀ (F := Bits) = Cert.Kernel6Ideal.defs₀ :=
  congrArg Defs.onTc (funext fun l => funext fun x => by match l, x with | 0, (_, _) => rfl)
theorem bodies7 : Cert.Kernel7.defs₀ (F := Bits) = Cert.Kernel7Ideal.defs₀ :=
  congrArg Defs.onTc (funext fun l => funext fun x => by match l, x with | 0, (_, _) => rfl)
theorem bodies8 : Cert.Kernel8.defs₀ (F := Bits) = Cert.Kernel8Ideal.defs₀ :=
  congrArg Defs.onTc (funext fun l => funext fun x => by match l, x with | 0, (_, _) => rfl)
theorem bodies9 : Cert.Kernel9.defs₀ (F := Bits) = Cert.Kernel9Ideal.defs₀ :=
  congrArg Defs.onTc (funext fun l => funext fun x => by match l, x with | 0, (_, _) => rfl)

/-! So its frame is that of the idealization's text, at machine floats. -/

theorem frame_kernel2 : Cert.quiescent_Kernel2 := by
  intro m ρ _
  rw [show Cert.Kernel2.defs (F := Bits) = Cert.Kernel2Ideal.defs from congrArg (Pipeline.defs Cert.Kernel2Ideal.pcfgs) bodies2]
  exact Cert.Kernel2Ideal.Gen.frame (F := Bits) m ρ
theorem frame_kernel3 : Cert.quiescent_Kernel3 := by
  intro m ρ _
  rw [show Cert.Kernel3.defs (F := Bits) = Cert.Kernel3Ideal.defs from congrArg (Pipeline.defs Cert.Kernel3Ideal.pcfgs) bodies3]
  exact Cert.Kernel3Ideal.Gen.frame (F := Bits) m ρ
theorem frame_kernel4 : Cert.quiescent_Kernel4 := by
  intro m ρ _
  rw [show Cert.Kernel4.defs (F := Bits) = Cert.Kernel4Ideal.defs from congrArg (Pipeline.defs Cert.Kernel4Ideal.pcfgs) bodies4]
  exact Cert.Kernel4Ideal.Gen.frame (F := Bits) m ρ
theorem frame_kernel5 : Cert.quiescent_Kernel5 := by
  intro m ρ _
  rw [show Cert.Kernel5.defs (F := Bits) = Cert.Kernel5Ideal.defs from congrArg (Pipeline.defs Cert.Kernel5Ideal.pcfgs) bodies5]
  exact Cert.Kernel5Ideal.Gen.frame (F := Bits) m ρ
theorem frame_kernel6 : Cert.quiescent_Kernel6 := by
  intro m ρ _
  rw [show Cert.Kernel6.defs (F := Bits) = Cert.Kernel6Ideal.defs from congrArg (Pipeline.defs Cert.Kernel6Ideal.pcfgs) bodies6]
  exact Cert.Kernel6Ideal.Gen.frame (F := Bits) m ρ
theorem frame_kernel7 : Cert.quiescent_Kernel7 := by
  intro m ρ _
  rw [show Cert.Kernel7.defs (F := Bits) = Cert.Kernel7Ideal.defs from congrArg (Pipeline.defs Cert.Kernel7Ideal.pcfgs) bodies7]
  exact Cert.Kernel7Ideal.Gen.frame (F := Bits) m ρ
theorem frame_kernel8 : Cert.quiescent_Kernel8 := by
  intro m ρ _
  rw [show Cert.Kernel8.defs (F := Bits) = Cert.Kernel8Ideal.defs from congrArg (Pipeline.defs Cert.Kernel8Ideal.pcfgs) bodies8]
  exact Cert.Kernel8Ideal.Gen.frame (F := Bits) m ρ
theorem frame_kernel9 : Cert.quiescent_Kernel9 := by
  intro m ρ _
  rw [show Cert.Kernel9.defs (F := Bits) = Cert.Kernel9Ideal.defs from congrArg (Pipeline.defs Cert.Kernel9Ideal.pcfgs) bodies9]
  exact Cert.Kernel9Ideal.Gen.frame (F := Bits) m ρ

theorem frame_kernel2Ideal : Cert.quiescent_Kernel2Ideal := fun m ρ _ => Cert.Kernel2Ideal.Gen.frame m ρ
theorem frame_kernel3Ideal : Cert.quiescent_Kernel3Ideal := fun m ρ _ => Cert.Kernel3Ideal.Gen.frame m ρ
theorem frame_kernel4Ideal : Cert.quiescent_Kernel4Ideal := fun m ρ _ => Cert.Kernel4Ideal.Gen.frame m ρ
theorem frame_kernel5Ideal : Cert.quiescent_Kernel5Ideal := fun m ρ _ => Cert.Kernel5Ideal.Gen.frame m ρ
theorem frame_kernel6Ideal : Cert.quiescent_Kernel6Ideal := fun m ρ _ => Cert.Kernel6Ideal.Gen.frame m ρ
theorem frame_kernel7Ideal : Cert.quiescent_Kernel7Ideal := fun m ρ _ => Cert.Kernel7Ideal.Gen.frame m ρ
theorem frame_kernel8Ideal : Cert.quiescent_Kernel8Ideal := fun m ρ _ => Cert.Kernel8Ideal.Gen.frame m ρ
theorem frame_kernel9Ideal : Cert.quiescent_Kernel9Ideal := fun m ρ _ => Cert.Kernel9Ideal.Gen.frame m ρ

theorem frame_reference2Ideal : Cert.quiescent_Reference2Ideal := fun m ρ _ =>
  (θ_run _ _ _).mono (fun r h => ⟨fun c => (h c).2, sem_eq_zero_of_no_sems (sig := Cert.Reference2Ideal.sig) (by decide) _⟩) (Cert.Reference2Ideal.Value.run m ρ)
theorem frame_reference3Ideal : Cert.quiescent_Reference3Ideal := fun m ρ _ =>
  (θ_run _ _ _).mono (fun r h => ⟨fun c => (h c).2, sem_eq_zero_of_no_sems (sig := Cert.Reference3Ideal.sig) (by decide) _⟩) (Cert.Reference3Ideal.Value.run m ρ)
theorem frame_reference4Ideal : Cert.quiescent_Reference4Ideal := fun m ρ _ =>
  (θ_run _ _ _).mono (fun r h => ⟨fun c => (h c).2, sem_eq_zero_of_no_sems (sig := Cert.Reference4Ideal.sig) (by decide) _⟩) (Cert.Reference4Ideal.Value.run m ρ)
theorem frame_reference5Ideal : Cert.quiescent_Reference5Ideal := fun m ρ _ =>
  (θ_run _ _ _).mono (fun r h => ⟨fun c => (h c).2, sem_eq_zero_of_no_sems (sig := Cert.Reference5Ideal.sig) (by decide) _⟩) (Cert.Reference5Ideal.Value.run m ρ)
theorem frame_reference6Ideal : Cert.quiescent_Reference6Ideal := fun m ρ _ =>
  (θ_run _ _ _).mono (fun r h => ⟨fun c => (h c).2, sem_eq_zero_of_no_sems (sig := Cert.Reference6Ideal.sig) (by decide) _⟩) (Cert.Reference6Ideal.Value.run m ρ)
theorem frame_reference7Ideal : Cert.quiescent_Reference7Ideal := fun m ρ _ =>
  (θ_run _ _ _).mono (fun r h => ⟨fun c => (h c).2, sem_eq_zero_of_no_sems (sig := Cert.Reference7Ideal.sig) (by decide) _⟩) (Cert.Reference7Ideal.Value.run m ρ)
theorem frame_reference8Ideal : Cert.quiescent_Reference8Ideal := fun m ρ _ =>
  (θ_run _ _ _).mono (fun r h => ⟨fun c => (h c).2, sem_eq_zero_of_no_sems (sig := Cert.Reference8Ideal.sig) (by decide) _⟩) (Cert.Reference8Ideal.Value.run m ρ)
theorem frame_reference9Ideal : Cert.quiescent_Reference9Ideal := fun m ρ _ =>
  (θ_run _ _ _).mono (fun r h => ⟨fun c => (h c).2, sem_eq_zero_of_no_sems (sig := Cert.Reference9Ideal.sig) (by decide) _⟩) (Cert.Reference9Ideal.Value.run m ρ)

end Cert.Proof.Ffn

end
-- ==== Proof.lean ====
/-
  The certificate's claims, collected: the frames of the kernel, of its idealization and of the reference, that the
  idealization keeps the kernel, and that its results are the reference's; then the same of the products of the
  feed-forward block, forward and backward, and of the input projection.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.P.Frame
public import proofs.«01_k».proof.Proof.PI.Frame
public import proofs.«01_k».proof.Proof.RI.Frame
public import proofs.«01_k».proof.Proof.Alg.Main
public import proofs.«01_k».proof.Proof.Ffn.Frames
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ _ => P.frame m ρ
theorem frame_kernelIdeal : Cert.quiescent_KernelIdeal := fun m ρ _ => PI.frame m ρ
theorem frame_kernelIdeal_reals : Cert.quiescent_KernelIdeal_pre_reals := fun m ρ _ => PI.frame m ρ
theorem frame_referenceIdeal_reals : Cert.quiescent_ReferenceIdeal_pre_reals := fun m ρ _ => RI.frame m ρ trivial

/-- The one constant the idealization names: the mask's, which it takes for minus infinity. -/
theorem preserves : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Alg.preFacts,
    frame_kernel, frame_kernelIdeal, frame_kernelIdeal_reals, RI.frame, frame_referenceIdeal_reals,
    Ffn.frame_kernel2, Ffn.frame_kernel2Ideal, Ffn.frame_reference2Ideal,
    Ffn.frame_kernel3, Ffn.frame_kernel3Ideal, Ffn.frame_reference3Ideal,
    Ffn.frame_kernel4, Ffn.frame_kernel4Ideal, Ffn.frame_reference4Ideal,
    Ffn.frame_kernel5, Ffn.frame_kernel5Ideal, Ffn.frame_reference5Ideal,
    Ffn.frame_kernel6, Ffn.frame_kernel6Ideal, Ffn.frame_reference6Ideal,
    Ffn.frame_kernel7, Ffn.frame_kernel7Ideal, Ffn.frame_reference7Ideal,
    Ffn.frame_kernel8, Ffn.frame_kernel8Ideal, Ffn.frame_reference8Ideal,
    Ffn.frame_kernel9, Ffn.frame_kernel9Ideal, Ffn.frame_reference9Ideal,
    preserves, Alg.algebraic, trivial, Ffn.UpDw.algebraic, trivial, Ffn.UpDx.algebraic,
    trivial, Ffn.DownDw.algebraic, trivial, Ffn.DownDx.algebraic,
    trivial, Ffn.Up.algebraic, trivial, Ffn.Down.algebraic, trivial, Proj.Forget.algebraic, trivial, Proj.Rest.algebraic⟩

end Cert.Proof

end
